-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x1024 : Shape := ⟨3, ![4, 8192, 1024]⟩
abbrev S4x8192 : Shape := ⟨2, ![4, 8192]⟩
abbrev S16x1024 : Shape := ⟨2, ![16, 1024]⟩
abbrev S1x1024 : Shape := ⟨2, ![1, 1024]⟩
abbrev S1x1024x1184 : Shape := ⟨3, ![1, 1024, 1184]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S4x8192x512 : Shape := ⟨3, ![4, 8192, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x1184 : S_.BroadcastsInDim S1x1024x1184 (![] : Fin 0 → Fin S1x1024x1184.rank)
  reducesTo_S1x1024x1184_S_d0_1_2 : S1x1024x1184.ReducesTo [0, 1, 2] S_
  bcast_S_S1x384 : S_.BroadcastsInDim S1x384 (![] : Fin 0 → Fin S1x384.rank)
  reducesTo_S1x384_S_d0_1 : S1x384.ReducesTo [0, 1] S_
  bcast_S_S1x384x768 : S_.BroadcastsInDim S1x384x768 (![] : Fin 0 → Fin S1x384x768.rank)
  reducesTo_S1x384x768_S_d0_1_2 : S1x384x768.ReducesTo [0, 1, 2] S_
  bcast_S_S1x256 : S_.BroadcastsInDim S1x256 (![] : Fin 0 → Fin S1x256.rank)
  reducesTo_S1x256_S_d0_1 : S1x256.ReducesTo [0, 1] S_
  bcast_S_S1x256x1024 : S_.BroadcastsInDim S1x256x1024 (![] : Fin 0 → Fin S1x256x1024.rank)
  reducesTo_S1x256x1024_S_d0_1_2 : S1x256x1024.ReducesTo [0, 1, 2] S_

variable [Facts]

def fn_part2 {F : FTy → Type} [FloatOps F] (main_arg8 : FVec F S1x256x1024 .f32) (main_v33 : IVec S_ 1) : IVec S_ 1 :=
  let main_v34 : FVec F S1x256x1024 .f32 := Host.absf main_arg8
  let main_cst_12 : FVec F S_ .f32 := constant S_ .f32 0x7F800000#32
  let main_v35 : FVec F S1x256x1024 .f32 := broadcastInDim S1x256x1024 ![] bcast_S_S1x256x1024 main_cst_12
  let main_v36 : IVec S1x256x1024 1 := cmpf .olt main_v34 main_v35
  let main_c_13 : IVec S_ 1 := constantI S_ 1 1#1
  let main_v37 : IVec S_ 1 := (fun x v => Host.reduce IntOp.andi x v reducesTo_S1x256x1024_S_d0_1_2 h_S_) main_v36 main_c_13
  let main_v38 : IVec S_ 1 := andi main_v33 main_v37
  main_v38

def fn_part1 {F : FTy → Type} [FloatOps F] (main_arg5 : FVec F S1x384 .f32) (main_arg6 : FVec F S1x384x768 .f32) (main_arg7 : FVec F S1x256 .f32) (main_arg8 : FVec F S1x256x1024 .f32) (main_v13 : IVec S_ 1) (main_v16 : IVec S1x1024x1184 1) : IVec S_ 1 :=
  let main_c_5 : IVec S_ 1 := constantI S_ 1 1#1
  let main_v17 : IVec S_ 1 := (fun x v => Host.reduce IntOp.andi x v reducesTo_S1x1024x1184_S_d0_1_2 h_S_) main_v16 main_c_5
  let main_v18 : IVec S_ 1 := andi main_v13 main_v17
  let main_v19 : FVec F S1x384 .f32 := Host.absf main_arg5
  let main_cst_6 : FVec F S_ .f32 := constant S_ .f32 0x7F800000#32
  let main_v20 : FVec F S1x384 .f32 := broadcastInDim S1x384 ![] bcast_S_S1x384 main_cst_6
  let main_v21 : IVec S1x384 1 := cmpf .olt main_v19 main_v20
  let main_c_7 : IVec S_ 1 := constantI S_ 1 1#1
  let main_v22 : IVec S_ 1 := (fun x v => Host.reduce IntOp.andi x v reducesTo_S1x384_S_d0_1 h_S_) main_v21 main_c_7
  let main_v23 : IVec S_ 1 := andi main_v18 main_v22
  let main_v24 : FVec F S1x384x768 .f32 := Host.absf main_arg6
  let main_cst_8 : FVec F S_ .f32 := constant S_ .f32 0x7F800000#32
  let main_v25 : FVec F S1x384x768 .f32 := broadcastInDim S1x384x768 ![] bcast_S_S1x384x768 main_cst_8
  let main_v26 : IVec S1x384x768 1 := cmpf .olt main_v24 main_v25
  let main_c_9 : IVec S_ 1 := constantI S_ 1 1#1
  let main_v27 : IVec S_ 1 := (fun x v => Host.reduce IntOp.andi x v reducesTo_S1x384x768_S_d0_1_2 h_S_) main_v26 main_c_9
  let main_v28 : IVec S_ 1 := andi main_v23 main_v27
  let main_v29 : FVec F S1x256 .f32 := Host.absf main_arg7
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg8 main_v33

def fn {F : FTy → Type} [FloatOps F] (main_arg0 : FVec F S4x8192x1024 .f32) (main_arg1 : IVec S4x8192 32) (main_arg2 : FVec F S16x1024 .f32) (main_arg3 : FVec F S1x1024 .f32) (main_arg4 : FVec F S1x1024x1184 .f32) (main_arg5 : FVec F S1x384 .f32) (main_arg6 : FVec F S1x384x768 .f32) (main_arg7 : FVec F S1x256 .f32) (main_arg8 : FVec F S1x256x1024 .f32) (main_arg9 : FVec F S4x8192x512 .f32) (main_arg10 : FVec F S1x512x1024 .f32) (main_arg11 : FVec F S1x1024 .f32) (main_arg12 : FVec F S1x1024x1024 .f32) (main_arg13 : FVec F S1x1024 .f32) (main_arg14 : FVec F S1x1024 .f32) (main_arg15 : FVec F S1x1024x4096 .f32) (main_arg16 : FVec F S1x4096x1024 .f32) (main_arg17 : FVec F S1x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S16x1024 .f32 := Host.absf main_arg2
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x1184 .f32 := Host.absf main_arg4
  let main_cst_4 : FVec F S_ .f32 := constant S_ .f32 0x7F800000#32
  let main_v15 : FVec F S1x1024x1184 .f32 := broadcastInDim S1x1024x1184 ![] bcast_S_S1x1024x1184 main_cst_4
  let main_v16 : IVec S1x1024x1184 1 := cmpf .olt main_v14 main_v15
  fn_part1 (F := F) main_arg5 main_arg6 main_arg7 main_arg8 main_v13 main_v16
-- ==== Kernel.lean ====
abbrev S4x8192x1024 : Shape := ⟨3, ![4, 8192, 1024]⟩
abbrev S4x8192 : Shape := ⟨2, ![4, 8192]⟩
abbrev S16x1024 : Shape := ⟨2, ![16, 1024]⟩
abbrev S1x1024 : Shape := ⟨2, ![1, 1024]⟩
abbrev S1x1024x1184 : Shape := ⟨3, ![1, 1024, 1184]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S4x8192x512 : Shape := ⟨3, ![4, 8192, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1184 : Shape := ⟨2, ![1024, 1184]⟩
abbrev S384x768 : Shape := ⟨2, ![384, 768]⟩
abbrev S256x1024 : Shape := ⟨2, ![256, 1024]⟩
abbrev S1024x640 : Shape := ⟨2, ![1024, 640]⟩
abbrev S1024x32 : Shape := ⟨2, ![1024, 32]⟩
abbrev S32x1024 : Shape := ⟨2, ![32, 1024]⟩
abbrev S1024x512 : Shape := ⟨2, ![1024, 512]⟩
abbrev S512x1024 : Shape := ⟨2, ![512, 1024]⟩
abbrev S768x384 : Shape := ⟨2, ![768, 384]⟩
abbrev S256x8x128 : Shape := ⟨3, ![256, 8, 128]⟩
abbrev S256x8x64 : Shape := ⟨3, ![256, 8, 64]⟩
abbrev S_ : Shape := ⟨0, ![]⟩
abbrev S256x512 : Shape := ⟨2, ![256, 512]⟩
abbrev S512x256 : Shape := ⟨2, ![512, 256]⟩
abbrev S1024 : Shape := ⟨1, ![1024]⟩
abbrev S384 : Shape := ⟨1, ![384]⟩
abbrev S256 : Shape := ⟨1, ![256]⟩
abbrev S16 : Shape := ⟨1, ![16]⟩
abbrev S4x1x8192 : Shape := ⟨3, ![4, 1, 8192]⟩
abbrev S1x16x1 : Shape := ⟨3, ![1, 16, 1]⟩
abbrev S4x16x8192 : Shape := ⟨3, ![4, 16, 8192]⟩
abbrev S4x1x16x8192 : Shape := ⟨4, ![4, 1, 16, 8192]⟩
abbrev S4x2x16x8192 : Shape := ⟨4, ![4, 2, 16, 8192]⟩
abbrev S4x2x16x8x1024 : Shape := ⟨5, ![4, 2, 16, 8, 1024]⟩
abbrev S4x8x2x16x1024 : Shape := ⟨5, ![4, 8, 2, 16, 1024]⟩
abbrev S4x8x8x128x1024 : Shape := ⟨5, ![4, 8, 8, 128, 1024]⟩
abbrev S4x8x8192x128 : Shape := ⟨4, ![4, 8, 8192, 128]⟩
abbrev S32x64x64x128 : Shape := ⟨4, ![32, 64, 64, 128]⟩
abbrev S4x8x8x1x1024 : Shape := ⟨5, ![4, 8, 8, 1, 1024]⟩
abbrev S4x8x8x1x128 : Shape := ⟨5, ![4, 8, 8, 1, 128]⟩
abbrev S1x1x2x16x1024 : Shape := ⟨5, ![1, 1, 2, 16, 1024]⟩
abbrev S1x8x1x128x1024 : Shape := ⟨5, ![1, 8, 1, 128, 1024]⟩
abbrev S1x8x1024x128 : Shape := ⟨4, ![1, 8, 1024, 128]⟩
abbrev S32x8x16x128 : Shape := ⟨4, ![32, 8, 16, 128]⟩
abbrev S1x8x1x1x1024 : Shape := ⟨5, ![1, 8, 1, 1, 1024]⟩
abbrev S1x8x1x1x128 : Shape := ⟨5, ![1, 8, 1, 1, 128]⟩
abbrev S1x1x1x16x1024 : Shape := ⟨5, ![1, 1, 1, 16, 1024]⟩
abbrev S1024x1024 : Shape := ⟨2, ![1024, 1024]⟩
abbrev S1024x1 : Shape := ⟨2, ![1024, 1]⟩
abbrev S1024x256 : Shape := ⟨2, ![1024, 256]⟩
abbrev S64x1024 : Shape := ⟨2, ![64, 1024]⟩
abbrev S128x1024 : Shape := ⟨2, ![128, 1024]⟩
abbrev S1024x128 : Shape := ⟨2, ![1024, 128]⟩
abbrev S512x128 : Shape := ⟨2, ![512, 128]⟩
abbrev S32x16x128 : Shape := ⟨3, ![32, 16, 128]⟩
abbrev S32x1x16x128 : Shape := ⟨4, ![32, 1, 16, 128]⟩
abbrev S1024x384 : Shape := ⟨2, ![1024, 384]⟩
abbrev S768x1024 : Shape := ⟨2, ![768, 1024]⟩
abbrev S1x1x1024x128 : Shape := ⟨4, ![1, 1, 1024, 128]⟩
abbrev S1x1x1x128x1024 : Shape := ⟨5, ![1, 1, 1, 128, 1024]⟩
abbrev S96x1024 : Shape := ⟨2, ![96, 1024]⟩
abbrev S1x1x1x1x1024 : Shape := ⟨5, ![1, 1, 1, 1, 1024]⟩
abbrev S1 : Shape := ⟨1, ![1]⟩
abbrev S1x1 : Shape := ⟨2, ![1, 1]⟩
abbrev S1x128 : Shape := ⟨2, ![1, 128]⟩
abbrev S1x1x1x1x128 : Shape := ⟨5, ![1, 1, 1, 1, 128]⟩
abbrev S1x128x1024 : Shape := ⟨3, ![1, 128, 1024]⟩
abbrev S128 : Shape := ⟨1, ![128]⟩
abbrev S1x1x128 : Shape := ⟨3, ![1, 1, 128]⟩
abbrev S1x16x128 : Shape := ⟨3, ![1, 16, 128]⟩
abbrev S1x1x16x128 : Shape := ⟨4, ![1, 1, 16, 128]⟩
abbrev S1x2x16x128 : Shape := ⟨4, ![1, 2, 16, 128]⟩
abbrev S1x2x16x1x128 : Shape := ⟨5, ![1, 2, 16, 1, 128]⟩
abbrev S1x1x2x16x128 : Shape := ⟨5, ![1, 1, 2, 16, 128]⟩
abbrev S1x8x128x128 : Shape := ⟨4, ![1, 8, 128, 128]⟩
abbrev S1x8x1x128x128 : Shape := ⟨5, ![1, 8, 1, 128, 128]⟩
abbrev S1x128x512 : Shape := ⟨3, ![1, 128, 512]⟩
abbrev S1x1x1x16x128 : Shape := ⟨5, ![1, 1, 1, 16, 128]⟩
abbrev S16x128 : Shape := ⟨2, ![16, 128]⟩
abbrev S128x1 : Shape := ⟨2, ![128, 1]⟩
abbrev S128x640 : Shape := ⟨2, ![128, 640]⟩
abbrev S128x256 : Shape := ⟨2, ![128, 256]⟩
abbrev S32x128 : Shape := ⟨2, ![32, 128]⟩
abbrev S64x128 : Shape := ⟨2, ![64, 128]⟩
abbrev S128x128 : Shape := ⟨2, ![128, 128]⟩
abbrev S128x512 : Shape := ⟨2, ![128, 512]⟩
abbrev S1x1x128x128 : Shape := ⟨4, ![1, 1, 128, 128]⟩
abbrev S1x1x1x128x128 : Shape := ⟨5, ![1, 1, 1, 128, 128]⟩
abbrev S8x128x128 : Shape := ⟨3, ![8, 128, 128]⟩
abbrev S1x16x512 : Shape := ⟨3, ![1, 16, 512]⟩
abbrev S8x128 : Shape := ⟨2, ![8, 128]⟩
abbrev S8 : Shape := ⟨1, ![8]⟩
abbrev S4x8 : Shape := ⟨2, ![4, 8]⟩
abbrev S1x8 : Shape := ⟨2, ![1, 8]⟩
abbrev S4x8x1x1x1 : Shape := ⟨5, ![4, 8, 1, 1, 1]⟩
abbrev S1x2x1x128x1024 : Shape := ⟨5, ![1, 2, 1, 128, 1024]⟩
abbrev S1x2x1x1x1024 : Shape := ⟨5, ![1, 2, 1, 1, 1024]⟩
abbrev S1x2x8192x128 : Shape := ⟨4, ![1, 2, 8192, 128]⟩
abbrev S1x2x8x128x1024 : Shape := ⟨5, ![1, 2, 8, 128, 1024]⟩
abbrev S2x128x128 : Shape := ⟨3, ![2, 128, 128]⟩
abbrev S1x1024x128 : Shape := ⟨3, ![1, 1024, 128]⟩
abbrev S1x128x128 : Shape := ⟨3, ![1, 128, 128]⟩
abbrev S1x112x128 : Shape := ⟨3, ![1, 112, 128]⟩
abbrev S112x128 : Shape := ⟨2, ![112, 128]⟩
abbrev S112x1024 : Shape := ⟨2, ![112, 1024]⟩
abbrev S1x1x256x128 : Shape := ⟨4, ![1, 1, 256, 128]⟩
abbrev S256x128 : Shape := ⟨2, ![256, 128]⟩
abbrev S1x1x1x112x256 : Shape := ⟨5, ![1, 1, 1, 112, 256]⟩
abbrev S112x256 : Shape := ⟨2, ![112, 256]⟩
abbrev S4x64x128x32x16 : Shape := ⟨5, ![4, 64, 128, 32, 16]⟩
abbrev S32x64x4x16x128 : Shape := ⟨5, ![32, 64, 4, 16, 128]⟩
abbrev S1024x4096 : Shape := ⟨2, ![1024, 4096]⟩
abbrev S4096x1024 : Shape := ⟨2, ![4096, 1024]⟩
abbrev S1x512x512 : Shape := ⟨3, ![1, 512, 512]⟩
abbrev S32x4x16x128 : Shape := ⟨4, ![32, 4, 16, 128]⟩
abbrev S16x256 : Shape := ⟨2, ![16, 256]⟩
abbrev S1x256x512 : Shape := ⟨3, ![1, 256, 512]⟩
abbrev S1x512 : Shape := ⟨2, ![1, 512]⟩
abbrev S256x1 : Shape := ⟨2, ![256, 1]⟩

abbrev nBuf : Space → Nat
  | .hbm => 167
  | .vmem => 67
  | .smem => 0
  | _ => 0

abbrev hbmTy0_0 (i : Nat) : BufTy := match i % 128 with
  | 0 => ⟨S4x8192x1024, .f32⟩
  | 1 => ⟨S4x8192, .i32⟩
  | 2 => ⟨S16x1024, .f32⟩
  | 3 => ⟨S1x1024, .f32⟩
  | 4 => ⟨S1x1024x1184, .f32⟩
  | 5 => ⟨S1x384, .f32⟩
  | 6 => ⟨S1x384x768, .f32⟩
  | 7 => ⟨S1x256, .f32⟩
  | 8 => ⟨S1x256x1024, .f32⟩
  | 9 => ⟨S4x8192x512, .f32⟩
  | 10 => ⟨S1x512x1024, .f32⟩
  | 11 => ⟨S1x1024, .f32⟩
  | 12 => ⟨S1x1024x1024, .f32⟩
  | 13 => ⟨S1x1024, .f32⟩
  | 14 => ⟨S1x1024, .f32⟩
  | 15 => ⟨S1x1024x4096, .f32⟩
  | 16 => ⟨S1x4096x1024, .f32⟩
  | 17 => ⟨S1x1024, .f32⟩
  | 18 => ⟨S1024x1184, .f32⟩
  | 19 => ⟨S384x768, .f32⟩
  | 20 => ⟨S256x1024, .f32⟩
  | 21 => ⟨S1024x640, .f32⟩
  | 22 => ⟨S1024x640, .bf16⟩
  | 23 => ⟨S1024x32, .f32⟩
  | 24 => ⟨S32x1024, .f32⟩
  | 25 => ⟨S32x1024, .bf16⟩
  | 26 => ⟨S1024x512, .f32⟩
  | 27 => ⟨S512x1024, .f32⟩
  | 28 => ⟨S512x1024, .bf16⟩
  | 29 => ⟨S768x384, .f32⟩
  | 30 => ⟨S768x384, .bf16⟩
  | 31 => ⟨S256x8x128, .f32⟩
  | 32 => ⟨S256x8x64, .f32⟩
  | 33 => ⟨S_, .f32⟩
  | 34 => ⟨S256x8x64, .f32⟩
  | 35 => ⟨S256x8x128, .f32⟩
  | 36 => ⟨S256x1024, .f32⟩
  | 37 => ⟨S256x1024, .bf16⟩
  | 38 => ⟨S256x8x64, .f32⟩
  | 39 => ⟨S256x512, .f32⟩
  | 40 => ⟨S512x256, .f32⟩
  | 41 => ⟨S512x256, .bf16⟩
  | 42 => ⟨S1024, .f32⟩
  | 43 => ⟨S1x1024, .f32⟩
  | 44 => ⟨S384, .f32⟩
  | 45 => ⟨S1x384, .f32⟩
  | 46 => ⟨S256, .f32⟩
  | 47 => ⟨S1x256, .f32⟩
  | 48 => ⟨S_, .i32⟩
  | 49 => ⟨S4x8192, .i32⟩
  | 50 => ⟨S4x8192, .i32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S4x8192, .f32⟩
  | 68 => ⟨S4x1x8192, .f32⟩
  | 69 => ⟨S1x16x1, .f32⟩
  | 70 => ⟨S4x16x8192, .f32⟩
  | 71 => ⟨S4x16x8192, .f32⟩
  | 72 => ⟨S4x16x8192, .f32⟩
  | 73 => ⟨S4x16x8192, .f32⟩
  | 74 => ⟨S4x16x8192, .f32⟩
  | 75 => ⟨S4x1x16x8192, .f32⟩
  | 76 => ⟨S4x1x16x8192, .f32⟩
  | 77 => ⟨S4x2x16x8192, .f32⟩
  | 78 => ⟨S4x2x16x8x1024, .f32⟩
  | 79 => ⟨S4x8x2x16x1024, .f32⟩
  | 80 => ⟨S4x8x8x128x1024, .bf16⟩
  | 81 => ⟨S4x8x8192x128, .bf16⟩
  | 82 => ⟨S4x8x8x128x1024, .bf16⟩
  | 83 => ⟨S32x64x64x128, .f32⟩
  | 84 => ⟨S4x8x8x1x1024, .f32⟩
  | 85 => ⟨S4x8x8x1x128, .f32⟩
  | 86 => ⟨S_, .i32⟩
  | 87 => ⟨S_, .f32⟩
  | 88 => ⟨S128x1024, .f32⟩
  | 89 => ⟨S1x128x1024, .f32⟩
  | 90 => ⟨S128, .i32⟩
  | 91 => ⟨S1x128, .i32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S1x128, .f32⟩
  | 109 => ⟨S1x1x128, .f32⟩
  | 110 => ⟨S1x16x1, .f32⟩
  | 111 => ⟨S1x16x128, .f32⟩
  | 112 => ⟨S1x16x128, .f32⟩
  | 113 => ⟨S1x16x128, .f32⟩
  | 114 => ⟨S1x16x128, .f32⟩
  | 115 => ⟨S1x16x128, .f32⟩
  | 116 => ⟨S1x1x16x128, .f32⟩
  | 117 => ⟨S1x1x16x128, .f32⟩
  | 118 => ⟨S1x2x16x128, .f32⟩
  | 119 => ⟨S1x2x16x1x128, .f32⟩
  | 120 => ⟨S1x1x2x16x128, .f32⟩
  | 121 => ⟨S1x8x128x128, .bf16⟩
  | 122 => ⟨S1x8x1x128x128, .bf16⟩
  | 123 => ⟨S1x128x512, .f32⟩
  | 124 => ⟨S8x128x128, .bf16⟩
  | 125 => ⟨S8x128x128, .bf16⟩
  | 126 => ⟨S1x16x512, .f32⟩
  | 127 => ⟨S8x128x128, .bf16⟩
  | _ => ⟨S4x8192x1024, .f32⟩

abbrev hbmTy0_1 (i : Nat) : BufTy := match i % 128 with
  | 0 => ⟨S8x128x128, .f32⟩
  | 1 => ⟨S8x128x128, .f32⟩
  | 2 => ⟨S_, .f32⟩
  | 3 => ⟨S8x128, .f32⟩
  | 4 => ⟨S_, .f32⟩
  | 5 => ⟨S8, .f32⟩
  | 6 => ⟨S_, .f32⟩
  | 7 => ⟨S4x8, .f32⟩
  | 8 => ⟨S1x8, .f32⟩
  | 9 => ⟨S4x8, .f32⟩
  | 10 => ⟨S4x8, .f32⟩
  | 11 => ⟨S4x8, .f32⟩
  | 12 => ⟨S_, .f32⟩
  | 13 => ⟨S4x8, .f32⟩
  | 14 => ⟨S4x8, .f32⟩
  | 15 => ⟨S4x8x1x1x1, .f32⟩
  | 16 => ⟨S4x8x8x1x1024, .f32⟩
  | 17 => ⟨S4x8x8x1x1024, .f32⟩
  | 18 => ⟨S4x8192x512, .f32⟩
  | 19 => ⟨S4x64x128x32x16, .f32⟩
  | 20 => ⟨S32x64x4x16x128, .f32⟩
  | 21 => ⟨S32x64x64x128, .f32⟩
  | 22 => ⟨S512x1024, .f32⟩
  | 23 => ⟨S512x1024, .bf16⟩
  | 24 => ⟨S1024, .f32⟩
  | 25 => ⟨S1x1024, .f32⟩
  | 26 => ⟨S1024x1024, .f32⟩
  | 27 => ⟨S1024x1024, .bf16⟩
  | 28 => ⟨S1024, .f32⟩
  | 29 => ⟨S1x1024, .f32⟩
  | 30 => ⟨S1024, .f32⟩
  | 31 => ⟨S1x1024, .f32⟩
  | 32 => ⟨S1024x4096, .f32⟩
  | 33 => ⟨S1024x4096, .bf16⟩
  | 34 => ⟨S4096x1024, .f32⟩
  | 35 => ⟨S4096x1024, .bf16⟩
  | 36 => ⟨S1024, .f32⟩
  | 37 => ⟨S1x1024, .f32⟩
  | 38 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1x2x16x1024, .f32⟩
  | .local _ .vmem, ⟨3, _⟩ => ⟨S1x1x2x16x1024, .f32⟩
  | .local _ .vmem, ⟨4, _⟩ => ⟨S1x1024, .f32⟩
  | .local _ .vmem, ⟨5, _⟩ => ⟨S1024x640, .bf16⟩
  | .local _ .vmem, ⟨6, _⟩ => ⟨S32x1024, .bf16⟩
  | .local _ .vmem, ⟨7, _⟩ => ⟨S512x1024, .bf16⟩
  | .local _ .vmem, ⟨8, _⟩ => ⟨S1x384, .f32⟩
  | .local _ .vmem, ⟨9, _⟩ => ⟨S768x384, .bf16⟩
  | .local _ .vmem, ⟨10, _⟩ => ⟨S1x256, .f32⟩
  | .local _ .vmem, ⟨11, _⟩ => ⟨S256x1024, .bf16⟩
  | .local _ .vmem, ⟨12, _⟩ => ⟨S512x256, .bf16⟩
  | .local _ .vmem, ⟨13, _⟩ => ⟨S1x8x1x128x1024, .bf16⟩
  | .local _ .vmem, ⟨14, _⟩ => ⟨S1x8x1x128x1024, .bf16⟩
  | .local _ .vmem, ⟨15, _⟩ => ⟨S1x8x1024x128, .bf16⟩
  | .local _ .vmem, ⟨16, _⟩ => ⟨S1x8x1024x128, .bf16⟩
  | .local _ .vmem, ⟨17, _⟩ => ⟨S1x8x1x128x1024, .bf16⟩
  | .local _ .vmem, ⟨18, _⟩ => ⟨S1x8x1x128x1024, .bf16⟩
  | .local _ .vmem, ⟨19, _⟩ => ⟨S32x8x16x128, .f32⟩
  | .local _ .vmem, ⟨20, _⟩ => ⟨S32x8x16x128, .f32⟩
  | .local _ .vmem, ⟨21, _⟩ => ⟨S1x8x1x1x1024, .f32⟩
  | .local _ .vmem, ⟨22, _⟩ => ⟨S1x8x1x1x1024, .f32⟩
  | .local _ .vmem, ⟨23, _⟩ => ⟨S1x8x1x1x128, .f32⟩
  | .local _ .vmem, ⟨24, _⟩ => ⟨S1x8x1x1x128, .f32⟩
  | .local _ .vmem, ⟨25, _⟩ => ⟨S1x128x1024, .f32⟩
  | .local _ .vmem, ⟨26, _⟩ => ⟨S1x1x2x16x128, .f32⟩
  | .local _ .vmem, ⟨27, _⟩ => ⟨S1x1024, .f32⟩
  | .local _ .vmem, ⟨28, _⟩ => ⟨S1024x640, .bf16⟩
  | .local _ .vmem, ⟨29, _⟩ => ⟨S32x1024, .bf16⟩
  | .local _ .vmem, ⟨30, _⟩ => ⟨S512x1024, .bf16⟩
  | .local _ .vmem, ⟨31, _⟩ => ⟨S1x256, .f32⟩
  | .local _ .vmem, ⟨32, _⟩ => ⟨S256x1024, .bf16⟩
  | .local _ .vmem, ⟨33, _⟩ => ⟨S512x256, .bf16⟩
  | .local _ .vmem, ⟨34, _⟩ => ⟨S1x8x128x128, .bf16⟩
  | .local _ .vmem, ⟨35, _⟩ => ⟨S1x8x1x128x128, .bf16⟩
  | .local _ .vmem, ⟨36, _⟩ => ⟨S1x128x512, .f32⟩
  | .local _ .vmem, ⟨37, _⟩ => ⟨S1x2x1x128x1024, .bf16⟩
  | .local _ .vmem, ⟨38, _⟩ => ⟨S1x2x1x128x1024, .bf16⟩
  | .local _ .vmem, ⟨39, _⟩ => ⟨S1x2x1x1x1024, .f32⟩
  | .local _ .vmem, ⟨40, _⟩ => ⟨S1x2x1x1x1024, .f32⟩
  | .local _ .vmem, ⟨41, _⟩ => ⟨S1x2x8192x128, .bf16⟩
  | .local _ .vmem, ⟨42, _⟩ => ⟨S1x2x8192x128, .bf16⟩
  | .local _ .vmem, ⟨43, _⟩ => ⟨S1x2x8x128x1024, .bf16⟩
  | .local _ .vmem, ⟨44, _⟩ => ⟨S1x2x8x128x1024, .bf16⟩
  | .local _ .vmem, ⟨45, _⟩ => ⟨S2x128x128, .bf16⟩
  | .local _ .vmem, ⟨46, _⟩ => ⟨S2x128x128, .bf16⟩
  | .local _ .vmem, ⟨47, _⟩ => ⟨S2x128x128, .bf16⟩
  | .local _ .vmem, ⟨48, _⟩ => ⟨S2x128x128, .bf16⟩
  | .local _ .vmem, ⟨49, _⟩ => ⟨S1x1024x128, .f32⟩
  | .local _ .vmem, ⟨50, _⟩ => ⟨S1x1024x128, .f32⟩
  | .local _ .vmem, ⟨51, _⟩ => ⟨S1x512x1024, .f32⟩
  | .local _ .vmem, ⟨52, _⟩ => ⟨S1x512x1024, .f32⟩
  | .local _ .vmem, ⟨53, _⟩ => ⟨S1x512x512, .f32⟩
  | .local _ .vmem, ⟨54, _⟩ => ⟨S1x512x512, .f32⟩
  | .local _ .vmem, ⟨55, _⟩ => ⟨S32x4x16x128, .f32⟩
  | .local _ .vmem, ⟨56, _⟩ => ⟨S32x4x16x128, .f32⟩
  | .local _ .vmem, ⟨57, _⟩ => ⟨S512x1024, .bf16⟩
  | .local _ .vmem, ⟨58, _⟩ => ⟨S1x1024, .f32⟩
  | .local _ .vmem, ⟨59, _⟩ => ⟨S1024x1024, .bf16⟩
  | .local _ .vmem, ⟨60, _⟩ => ⟨S1x1024, .f32⟩
  | .local _ .vmem, ⟨61, _⟩ => ⟨S1x1024, .f32⟩
  | .local _ .vmem, ⟨62, _⟩ => ⟨S1024x4096, .bf16⟩
  | .local _ .vmem, ⟨63, _⟩ => ⟨S4096x1024, .bf16⟩
  | .local _ .vmem, ⟨64, _⟩ => ⟨S1x1024, .f32⟩
  | .local _ .vmem, ⟨65, _⟩ => ⟨S1x512x1024, .f32⟩
  | .local _ .vmem, ⟨66, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_0 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55_0 : Ref sig .tc := ⟨.hbm, 80, rfl⟩
abbrev main_v55_1 : Ref sig .tc := ⟨.hbm, 81, rfl⟩
abbrev main_v55_2 : Ref sig .tc := ⟨.hbm, 82, rfl⟩
abbrev main_v55_3 : Ref sig .tc := ⟨.hbm, 83, rfl⟩
abbrev main_v55_4 : Ref sig .tc := ⟨.hbm, 84, rfl⟩
abbrev main_v55_5 : Ref sig .tc := ⟨.hbm, 85, rfl⟩
abbrev main_c_5 : Ref sig .tc := ⟨.hbm, 86, rfl⟩
abbrev main_call0_v0 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_6 : Ref sig .tc := ⟨.hbm, 93, rfl⟩
abbrev main_v61 : Ref sig .tc := ⟨.hbm, 94, rfl⟩
abbrev main_v62 : Ref sig .tc := ⟨.hbm, 95, rfl⟩
abbrev main_cst_7 : Ref sig .tc := ⟨.hbm, 96, rfl⟩
abbrev main_v63 : Ref sig .tc := ⟨.hbm, 97, rfl⟩
abbrev main_v64 : Ref sig .tc := ⟨.hbm, 98, rfl⟩
abbrev main_cst_8 : Ref sig .tc := ⟨.hbm, 99, rfl⟩
abbrev main_v65 : Ref sig .tc := ⟨.hbm, 100, rfl⟩
abbrev main_v66 : Ref sig .tc := ⟨.hbm, 101, rfl⟩
abbrev main_cst_9 : Ref sig .tc := ⟨.hbm, 102, rfl⟩
abbrev main_v67 : Ref sig .tc := ⟨.hbm, 103, rfl⟩
abbrev main_v68 : Ref sig .tc := ⟨.hbm, 104, rfl⟩
abbrev main_cst_10 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84_0 : Ref sig .tc := ⟨.hbm, 121, rfl⟩
abbrev main_v84_1 : Ref sig .tc := ⟨.hbm, 122, rfl⟩
abbrev main_v84_2 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_11 : Ref sig .tc := ⟨.hbm, 130, rfl⟩
abbrev main_v91 : Ref sig .tc := ⟨.hbm, 131, rfl⟩
abbrev main_cst_12 : Ref sig .tc := ⟨.hbm, 132, rfl⟩
abbrev main_v92 : Ref sig .tc := ⟨.hbm, 133, rfl⟩
abbrev main_cst_13 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_14 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc1_stg0_0 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg10_0 : Ref sig .tc := ⟨.vmem, 35, rfl⟩
abbrev cc1_stg11_0 : Ref sig .tc := ⟨.vmem, 36, rfl⟩
abbrev cc2_stg0_0 : Ref sig .tc := ⟨.vmem, 37, rfl⟩
abbrev cc2_stg0_1 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc2_stg2_1 : Ref sig .tc := ⟨.vmem, 42, rfl⟩
abbrev cc2_stg3_0 : Ref sig .tc := ⟨.vmem, 43, rfl⟩
abbrev cc2_stg3_1 : Ref sig .tc := ⟨.vmem, 44, rfl⟩
abbrev cc2_stg4_0 : Ref sig .tc := ⟨.vmem, 45, rfl⟩
abbrev cc2_stg4_1 : Ref sig .tc := ⟨.vmem, 46, rfl⟩
abbrev cc2_stg5_0 : Ref sig .tc := ⟨.vmem, 47, rfl⟩
abbrev cc2_stg5_1 : Ref sig .tc := ⟨.vmem, 48, rfl⟩
abbrev cc2_stg6_0 : Ref sig .tc := ⟨.vmem, 49, rfl⟩
abbrev cc2_stg6_1 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg1_1 : Ref sig .tc := ⟨.vmem, 54, rfl⟩
abbrev cc3_stg2_0 : Ref sig .tc := ⟨.vmem, 55, rfl⟩
abbrev cc3_stg2_1 : Ref sig .tc := ⟨.vmem, 56, rfl⟩
abbrev cc3_stg3_0 : Ref sig .tc := ⟨.vmem, 57, rfl⟩
abbrev cc3_stg4_0 : Ref sig .tc := ⟨.vmem, 58, rfl⟩
abbrev cc3_stg5_0 : Ref sig .tc := ⟨.vmem, 59, rfl⟩
abbrev cc3_stg6_0 : Ref sig .tc := ⟨.vmem, 60, rfl⟩
abbrev cc3_stg7_0 : Ref sig .tc := ⟨.vmem, 61, rfl⟩
abbrev cc3_stg8_0 : Ref sig .tc := ⟨.vmem, 62, rfl⟩
abbrev cc3_stg9_0 : Ref sig .tc := ⟨.vmem, 63, rfl⟩
abbrev cc3_stg10_0 : Ref sig .tc := ⟨.vmem, 64, rfl⟩
abbrev cc3_stg11_0 : Ref sig .tc := ⟨.vmem, 65, rfl⟩
abbrev cc3_stg11_1 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc1_sem0_0 : DmaSem sig := 25
abbrev cc1_sem1_0 : DmaSem sig := 26
abbrev cc1_sem2_0 : DmaSem sig := 27
abbrev cc1_sem3_0 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem10_0 : DmaSem sig := 35
abbrev cc1_sem11_0 : DmaSem sig := 36
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem3_1 : DmaSem sig := 44
abbrev cc2_sem4_0 : DmaSem sig := 45
abbrev cc2_sem4_1 : DmaSem sig := 46
abbrev cc2_sem5_0 : DmaSem sig := 47
abbrev cc2_sem5_1 : DmaSem sig := 48
abbrev cc2_sem6_0 : DmaSem sig := 49
abbrev cc2_sem6_1 : DmaSem sig := 50
abbrev cc3_sem0_0 : DmaSem sig := 51
abbrev cc3_sem0_1 : DmaSem sig := 52
abbrev cc3_sem1_0 : DmaSem sig := 53
abbrev cc3_sem1_1 : DmaSem sig := 54
abbrev cc3_sem2_0 : DmaSem sig := 55
abbrev cc3_sem2_1 : DmaSem sig := 56
abbrev cc3_sem3_0 : DmaSem sig := 57
abbrev cc3_sem4_0 : DmaSem sig := 58
abbrev cc3_sem5_0 : DmaSem sig := 59
abbrev cc3_sem6_0 : DmaSem sig := 60
abbrev cc3_sem7_0 : DmaSem sig := 61
abbrev cc3_sem8_0 : DmaSem sig := 62
abbrev cc3_sem9_0 : DmaSem sig := 63
abbrev cc3_sem10_0 : DmaSem sig := 64
abbrev cc3_sem11_0 : DmaSem sig := 65
abbrev cc3_sem11_1 : DmaSem sig := 66

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x1x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x8x16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_10 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S1x128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x1x2x16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x640 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S256x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S512x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x8x128x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, true]

abbrev stage1_10 : Fin 1 → Memref sig .tc .vmem S1x8x1x128x128 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true, true]

abbrev stage1_11 : Fin 1 → Memref sig .tc .vmem S1x128x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true, true]

abbrev grid2 : Pipeline.Grid := ⟨3, ![4, 4, 8], ![false, false, false]⟩

def cc2_transform_0 (i : grid2.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc2_transform_1 (i : grid2.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x2x1x128x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x2x1x1x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x2x8192x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x2x8x128x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S2x128x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S2x128x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true, false]

abbrev stage2_6 : Fin 2 → Memref sig .tc .vmem S1x1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, true]

abbrev grid3 : Pipeline.Grid := ⟨2, ![4, 16], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S32x4x16x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S512x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1024x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1024x4096 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S4096x1024 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 2 → Memref sig .tc .vmem S1x512x1024 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]
-- ==== KernelIdeal.lean ====
variable {F : FTy → Type} [FloatOps F] [Named F]
def κ : String → Option EReal := fun
  | "scale_log2e" => some (((Real.sqrt 96)⁻¹ * (Real.log 2)⁻¹ : ℝ) : EReal)
  | _ => none
-- ==== ReferenceIdeal.lean ====
abbrev S4x8192x1024 : Shape := ⟨3, ![4, 8192, 1024]⟩
abbrev S4x8192 : Shape := ⟨2, ![4, 8192]⟩
abbrev S16x1024 : Shape := ⟨2, ![16, 1024]⟩
abbrev S1x1024 : Shape := ⟨2, ![1, 1024]⟩
abbrev S1x1024x1184 : Shape := ⟨3, ![1, 1024, 1184]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S4x8192x512 : Shape := ⟨3, ![4, 8192, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x16x1024 : Shape := ⟨3, ![1, 16, 1024]⟩
abbrev S4x16x1024 : Shape := ⟨3, ![4, 16, 1024]⟩
abbrev S4x8208x1024 : Shape := ⟨3, ![4, 8208, 1024]⟩
abbrev S16 : Shape := ⟨1, ![16]⟩
abbrev S4x16 : Shape := ⟨2, ![4, 16]⟩
abbrev S_ : Shape := ⟨0, ![]⟩
abbrev S4x8208 : Shape := ⟨2, ![4, 8208]⟩
abbrev S4x8208x1 : Shape := ⟨3, ![4, 8208, 1]⟩
abbrev S1x1x16 : Shape := ⟨3, ![1, 1, 16]⟩
abbrev S4x8208x16 : Shape := ⟨3, ![4, 8208, 16]⟩
abbrev S1024 : Shape := ⟨1, ![1024]⟩
abbrev S1x1x1024 : Shape := ⟨3, ![1, 1, 1024]⟩
abbrev S1024x1184 : Shape := ⟨2, ![1024, 1184]⟩
abbrev S4x8208x1184 : Shape := ⟨3, ![4, 8208, 1184]⟩
abbrev S4x8208x384 : Shape := ⟨3, ![4, 8208, 384]⟩
abbrev S4x8208x256 : Shape := ⟨3, ![4, 8208, 256]⟩
abbrev S4x8208x32 : Shape := ⟨3, ![4, 8208, 32]⟩
abbrev S384 : Shape := ⟨1, ![384]⟩
abbrev S1x1x384 : Shape := ⟨3, ![1, 1, 384]⟩
abbrev S384x768 : Shape := ⟨2, ![384, 768]⟩
abbrev S4x8208x768 : Shape := ⟨3, ![4, 8208, 768]⟩
abbrev S4x8208x8x96 : Shape := ⟨4, ![4, 8208, 8, 96]⟩
abbrev S4x8208x8x64 : Shape := ⟨4, ![4, 8208, 8, 64]⟩
abbrev S4x8208x8x32 : Shape := ⟨4, ![4, 8208, 8, 32]⟩
abbrev S4x8208x1x16 : Shape := ⟨4, ![4, 8208, 1, 16]⟩
abbrev S4x8208x8x16 : Shape := ⟨4, ![4, 8208, 8, 16]⟩
abbrev S256 : Shape := ⟨1, ![256]⟩
abbrev S1x1x256 : Shape := ⟨3, ![1, 1, 256]⟩
abbrev S256x1024 : Shape := ⟨2, ![256, 1024]⟩
abbrev S4x8208x8x128 : Shape := ⟨4, ![4, 8208, 8, 128]⟩
abbrev S4x8x8208x8208 : Shape := ⟨4, ![4, 8, 8208, 8208]⟩
abbrev S4x8208x8208x8 : Shape := ⟨4, ![4, 8208, 8208, 8]⟩
abbrev S4x8x8208 : Shape := ⟨3, ![4, 8, 8208]⟩
abbrev S4x8x8208x1 : Shape := ⟨4, ![4, 8, 8208, 1]⟩
abbrev S4x8x64x8208 : Shape := ⟨4, ![4, 8, 64, 8208]⟩
abbrev S4x8208x512 : Shape := ⟨3, ![4, 8208, 512]⟩
abbrev S512x1024 : Shape := ⟨2, ![512, 1024]⟩
abbrev S512 : Shape := ⟨1, ![512]⟩
abbrev S4x8192x1 : Shape := ⟨3, ![4, 8192, 1]⟩
abbrev S1x1x512 : Shape := ⟨3, ![1, 1, 512]⟩
abbrev S1024x1024 : Shape := ⟨2, ![1024, 1024]⟩
abbrev S1024x4096 : Shape := ⟨2, ![1024, 4096]⟩
abbrev S4x8192x4096 : Shape := ⟨3, ![4, 8192, 4096]⟩
abbrev S4096x1024 : Shape := ⟨2, ![4096, 1024]⟩

abbrev nBuf : Space → Nat
  | .hbm => 296
  | .vmem => 0
  | .smem => 0
  | _ => 0

abbrev hbmTy0_0 (i : Nat) : BufTy := match i % 128 with
  | 0 => ⟨S4x8192x1024, .f32⟩
  | 1 => ⟨S4x8192, .i32⟩
  | 2 => ⟨S16x1024, .f32⟩
  | 3 => ⟨S1x1024, .f32⟩
  | 4 => ⟨S1x1024x1184, .f32⟩
  | 5 => ⟨S1x384, .f32⟩
  | 6 => ⟨S1x384x768, .f32⟩
  | 7 => ⟨S1x256, .f32⟩
  | 8 => ⟨S1x256x1024, .f32⟩
  | 9 => ⟨S4x8192x512, .f32⟩
  | 10 => ⟨S1x512x1024, .f32⟩
  | 11 => ⟨S1x1024, .f32⟩
  | 12 => ⟨S1x1024x1024, .f32⟩
  | 13 => ⟨S1x1024, .f32⟩
  | 14 => ⟨S1x1024, .f32⟩
  | 15 => ⟨S1x1024x4096, .f32⟩
  | 16 => ⟨S1x4096x1024, .f32⟩
  | 17 => ⟨S1x1024, .f32⟩
  | 18 => ⟨S1x16x1024, .f32⟩
  | 19 => ⟨S4x16x1024, .f32⟩
  | 20 => ⟨S4x8208x1024, .f32⟩
  | 21 => ⟨S16, .i32⟩
  | 22 => ⟨S4x16, .i32⟩
  | 23 => ⟨S_, .i32⟩
  | 24 => ⟨S4x8192, .i32⟩
  | 25 => ⟨S4x8192, .i32⟩
  | 26 => ⟨S4x8208, .i32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S4x8208, .f32⟩
  | 44 => ⟨S4x8208x1, .f32⟩
  | 45 => ⟨S1x1x16, .f32⟩
  | 46 => ⟨S4x8208x16, .f32⟩
  | 47 => ⟨S4x8208x16, .f32⟩
  | 48 => ⟨S4x8208x16, .f32⟩
  | 49 => ⟨S4x8208x16, .f32⟩
  | 50 => ⟨S4x8208x16, .f32⟩
  | 51 => ⟨S1024, .f32⟩
  | 52 => ⟨S4x8208x1024, .f32⟩
  | 53 => ⟨S_, .f32⟩
  | 54 => ⟨S4x8208, .f32⟩
  | 55 => ⟨S4x8208x1, .f32⟩
  | 56 => ⟨S_, .f32⟩
  | 57 => ⟨S4x8208x1, .f32⟩
  | 58 => ⟨S4x8208x1, .f32⟩
  | 59 => ⟨S_, .f32⟩
  | 60 => ⟨S4x8208x1, .f32⟩
  | 61 => ⟨S4x8208x1, .f32⟩
  | 62 => ⟨S4x8208x1, .f32⟩
  | 63 => ⟨S4x8208x1024, .f32⟩
  | 64 => ⟨S4x8208x1024, .f32⟩
  | 65 => ⟨S1x1x1024, .f32⟩
  | 66 => ⟨S4x8208x1024, .f32⟩
  | 67 => ⟨S4x8208x1024, .f32⟩
  | 68 => ⟨S1024x1184, .f32⟩
  | 69 => ⟨S4x8208x1184, .f32⟩
  | 70 => ⟨S4x8208x384, .f32⟩
  | 71 => ⟨S4x8208x256, .f32⟩
  | 72 => ⟨S4x8208x32, .f32⟩
  | 73 => ⟨S384, .f32⟩
  | 74 => ⟨S4x8208x384, .f32⟩
  | 75 => ⟨S_, .f32⟩
  | 76 => ⟨S4x8208, .f32⟩
  | 77 => ⟨S4x8208x1, .f32⟩
  | 78 => ⟨S_, .f32⟩
  | 79 => ⟨S4x8208x1, .f32⟩
  | 80 => ⟨S4x8208x1, .f32⟩
  | 81 => ⟨S_, .f32⟩
  | 82 => ⟨S4x8208x1, .f32⟩
  | 83 => ⟨S4x8208x1, .f32⟩
  | 84 => ⟨S4x8208x1, .f32⟩
  | 85 => ⟨S4x8208x384, .f32⟩
  | 86 => ⟨S4x8208x384, .f32⟩
  | 87 => ⟨S1x1x384, .f32⟩
  | 88 => ⟨S4x8208x384, .f32⟩
  | 89 => ⟨S4x8208x384, .f32⟩
  | 90 => ⟨S384x768, .f32⟩
  | 91 => ⟨S4x8208x768, .f32⟩
  | 92 => ⟨S4x8208x8x96, .f32⟩
  | 93 => ⟨S4x8208x8x64, .f32⟩
  | 94 => ⟨S4x8208x8x32, .f32⟩
  | 95 => ⟨S4x8208x1x16, .f32⟩
  | 96 => ⟨S4x8208x1x16, .f32⟩
  | 97 => ⟨S4x8208x8x16, .f32⟩
  | 98 => ⟨S4x8208x8x16, .f32⟩
  | 99 => ⟨S4x8208x8x16, .f32⟩
  | 100 => ⟨S4x8208x8x16, .f32⟩
  | 101 => ⟨S4x8208x8x16, .f32⟩
  | 102 => ⟨S4x8208x8x16, .f32⟩
  | 103 => ⟨S4x8208x8x16, .f32⟩
  | 104 => ⟨S4x8208x8x16, .f32⟩
  | 105 => ⟨S4x8208x8x16, .f32⟩
  | 106 => ⟨S4x8208x8x16, .f32⟩
  | 107 => ⟨S4x8208x8x16, .f32⟩
  | 108 => ⟨S4x8208x8x16, .f32⟩
  | 109 => ⟨S4x8208x8x32, .f32⟩
  | 110 => ⟨S256, .f32⟩
  | 111 => ⟨S4x8208x256, .f32⟩
  | 112 => ⟨S_, .f32⟩
  | 113 => ⟨S4x8208, .f32⟩
  | 114 => ⟨S4x8208x1, .f32⟩
  | 115 => ⟨S_, .f32⟩
  | 116 => ⟨S4x8208x1, .f32⟩
  | 117 => ⟨S4x8208x1, .f32⟩
  | 118 => ⟨S_, .f32⟩
  | 119 => ⟨S4x8208x1, .f32⟩
  | 120 => ⟨S4x8208x1, .f32⟩
  | 121 => ⟨S4x8208x1, .f32⟩
  | 122 => ⟨S4x8208x256, .f32⟩
  | 123 => ⟨S4x8208x256, .f32⟩
  | 124 => ⟨S1x1x256, .f32⟩
  | 125 => ⟨S4x8208x256, .f32⟩
  | 126 => ⟨S4x8208x256, .f32⟩
  | 127 => ⟨S256x1024, .f32⟩
  | _ => ⟨S4x8192x1024, .f32⟩

abbrev hbmTy0_1 (i : Nat) : BufTy := match i % 128 with
  | 0 => ⟨S4x8208x1024, .f32⟩
  | 1 => ⟨S4x8208x8x128, .f32⟩
  | 2 => ⟨S4x8208x8x64, .f32⟩
  | 3 => ⟨S4x8208x8x64, .f32⟩
  | 4 => ⟨S4x8208x16, .f32⟩
  | 5 => ⟨S4x8208x16, .f32⟩
  | 6 => ⟨S4x8208x16, .f32⟩
  | 7 => ⟨S4x8208x16, .f32⟩
  | 8 => ⟨S4x8208x16, .f32⟩
  | 9 => ⟨S4x8208x16, .f32⟩
  | 10 => ⟨S4x8208x16, .f32⟩
  | 11 => ⟨S4x8208x16, .f32⟩
  | 12 => ⟨S4x8208x32, .f32⟩
  | 13 => ⟨S4x8x8208x8208, .f32⟩
  | 14 => ⟨S4x8208x8208x8, .f32⟩
  | 15 => ⟨S4x8x8208x8208, .f32⟩
  | 16 => ⟨S4x8x8208x8208, .f32⟩
  | 17 => ⟨S_, .f32⟩
  | 18 => ⟨S_, .f32⟩
  | 19 => ⟨S4x8x8208x8208, .f32⟩
  | 20 => ⟨S4x8x8208x8208, .f32⟩
  | 21 => ⟨S_, .f32⟩
  | 22 => ⟨S4x8x8208, .f32⟩
  | 23 => ⟨S_, .f32⟩
  | 24 => ⟨S4x8x8208, .f32⟩
  | 25 => ⟨S4x8x8208, .f32⟩
  | 26 => ⟨S4x8x8208x1, .f32⟩
  | 27 => ⟨S4x8x8208x8208, .f32⟩
  | 28 => ⟨S4x8x8208x8208, .f32⟩
  | 29 => ⟨S4x8x8208x8208, .f32⟩
  | 30 => ⟨S_, .f32⟩
  | 31 => ⟨S4x8x8208, .f32⟩
  | 32 => ⟨S4x8x8208x1, .f32⟩
  | 33 => ⟨S4x8x8208x8208, .f32⟩
  | 34 => ⟨S4x8x8208x8208, .f32⟩
  | 35 => ⟨S4x8x64x8208, .f32⟩
  | 36 => ⟨S4x8208x8x64, .f32⟩
  | 37 => ⟨S4x8208x512, .f32⟩
  | 38 => ⟨S4x8192x512, .f32⟩
  | 39 => ⟨S4x8192x512, .f32⟩
  | 40 => ⟨S4x8192x512, .f32⟩
  | 41 => ⟨S_, .f32⟩
  | 42 => ⟨S4x8192x512, .f32⟩
  | 43 => ⟨S4x8192x512, .f32⟩
  | 44 => ⟨S4x8192x512, .f32⟩
  | 45 => ⟨S_, .f32⟩
  | 46 => ⟨S4x8192x512, .f32⟩
  | 47 => ⟨S4x8192x512, .f32⟩
  | 48 => ⟨S4x8192x512, .f32⟩
  | 49 => ⟨S_, .f32⟩
  | 50 => ⟨S4x8192x512, .f32⟩
  | 51 => ⟨S4x8192x512, .f32⟩
  | 52 => ⟨S_, .f32⟩
  | 53 => ⟨S4x8192x512, .f32⟩
  | 54 => ⟨S4x8192x512, .f32⟩
  | 55 => ⟨S4x8192x512, .f32⟩
  | 56 => ⟨S512x1024, .f32⟩
  | 57 => ⟨S4x8192x1024, .f32⟩
  | 58 => ⟨S4x8192x512, .f32⟩
  | 59 => ⟨S4x8192x512, .f32⟩
  | 60 => ⟨S4x8192x512, .f32⟩
  | 61 => ⟨S4x8192x512, .f32⟩
  | 62 => ⟨S_, .f32⟩
  | 63 => ⟨S4x8192x512, .f32⟩
  | 64 => ⟨S4x8192x512, .f32⟩
  | 65 => ⟨S_, .f32⟩
  | 66 => ⟨S4x8192x512, .f32⟩
  | 67 => ⟨S4x8192x512, .f32⟩
  | 68 => ⟨S4x8192x512, .f32⟩
  | 69 => ⟨S1024, .f32⟩
  | 70 => ⟨S512, .f32⟩
  | 71 => ⟨S4x8192x512, .f32⟩
  | 72 => ⟨S_, .f32⟩
  | 73 => ⟨S4x8192, .f32⟩
  | 74 => ⟨S4x8192x1, .f32⟩
  | 75 => ⟨S_, .f32⟩
  | 76 => ⟨S4x8192x1, .f32⟩
  | 77 => ⟨S4x8192x1, .f32⟩
  | 78 => ⟨S_, .f32⟩
  | 79 => ⟨S4x8192x1, .f32⟩
  | 80 => ⟨S4x8192x1, .f32⟩
  | 81 => ⟨S4x8192x1, .f32⟩
  | 82 => ⟨S4x8192x512, .f32⟩
  | 83 => ⟨S4x8192x512, .f32⟩
  | 84 => ⟨S1x1x512, .f32⟩
  | 85 => ⟨S4x8192x512, .f32⟩
  | 86 => ⟨S4x8192x512, .f32⟩
  | 87 => ⟨S512, .f32⟩
  | 88 => ⟨S4x8192x512, .f32⟩
  | 89 => ⟨S_, .f32⟩
  | 90 => ⟨S4x8192, .f32⟩
  | 91 => ⟨S4x8192x1, .f32⟩
  | 92 => ⟨S_, .f32⟩
  | 93 => ⟨S4x8192x1, .f32⟩
  | 94 => ⟨S4x8192x1, .f32⟩
  | 95 => ⟨S_, .f32⟩
  | 96 => ⟨S4x8192x1, .f32⟩
  | 97 => ⟨S4x8192x1, .f32⟩
  | 98 => ⟨S4x8192x1, .f32⟩
  | 99 => ⟨S4x8192x512, .f32⟩
  | 100 => ⟨S4x8192x512, .f32⟩
  | 101 => ⟨S1x1x512, .f32⟩
  | 102 => ⟨S4x8192x512, .f32⟩
  | 103 => ⟨S4x8192x512, .f32⟩
  | 104 => ⟨S4x8192x1024, .f32⟩
  | 105 => ⟨S1024x1024, .f32⟩
  | 106 => ⟨S4x8192x1024, .f32⟩
  | 107 => ⟨S1024, .f32⟩
  | 108 => ⟨S4x8192x1024, .f32⟩
  | 109 => ⟨S_, .f32⟩
  | 110 => ⟨S4x8192, .f32⟩
  | 111 => ⟨S4x8192x1, .f32⟩
  | 112 => ⟨S_, .f32⟩
  | 113 => ⟨S4x8192x1, .f32⟩
  | 114 => ⟨S4x8192x1, .f32⟩
  | 115 => ⟨S_, .f32⟩
  | 116 => ⟨S4x8192x1, .f32⟩
  | 117 => ⟨S4x8192x1, .f32⟩
  | 118 => ⟨S4x8192x1, .f32⟩
  | 119 => ⟨S4x8192x1024, .f32⟩
  | 120 => ⟨S4x8192x1024, .f32⟩
  | 121 => ⟨S1x1x1024, .f32⟩
  | 122 => ⟨S4x8192x1024, .f32⟩
  | 123 => ⟨S4x8192x1024, .f32⟩
  | 124 => ⟨S4x8192x1024, .f32⟩
  | 125 => ⟨S1024, .f32⟩
  | 126 => ⟨S4x8192x1024, .f32⟩
  | 127 => ⟨S_, .f32⟩
  | _ => ⟨S4x8192x1024, .f32⟩

abbrev hbmTy0_2 (i : Nat) : BufTy := match i % 128 with
  | 0 => ⟨S4x8192, .f32⟩
  | 1 => ⟨S4x8192x1, .f32⟩
  | 2 => ⟨S_, .f32⟩
  | 3 => ⟨S4x8192x1, .f32⟩
  | 4 => ⟨S4x8192x1, .f32⟩
  | 5 => ⟨S_, .f32⟩
  | 6 => ⟨S4x8192x1, .f32⟩
  | 7 => ⟨S4x8192x1, .f32⟩
  | 8 => ⟨S4x8192x1, .f32⟩
  | 9 => ⟨S4x8192x1024, .f32⟩
  | 10 => ⟨S4x8192x1024, .f32⟩
  | 11 => ⟨S1x1x1024, .f32⟩
  | 12 => ⟨S4x8192x1024, .f32⟩
  | 13 => ⟨S4x8192x1024, .f32⟩
  | 14 => ⟨S1024x4096, .f32⟩
  | 15 => ⟨S4x8192x4096, .f32⟩
  | 16 => ⟨S_, .f32⟩
  | 17 => ⟨S4x8192x4096, .f32⟩
  | 18 => ⟨S4x8192x4096, .f32⟩
  | 19 => ⟨S4x8192x4096, .f32⟩
  | 20 => ⟨S4096x1024, .f32⟩
  | 21 => ⟨S4x8192x1024, .f32⟩
  | 22 => ⟨S1024, .f32⟩
  | 23 => ⟨S4x8192x1024, .f32⟩
  | 24 => ⟨S_, .f32⟩
  | 25 => ⟨S4x8192, .f32⟩
  | 26 => ⟨S4x8192x1, .f32⟩
  | 27 => ⟨S_, .f32⟩
  | 28 => ⟨S4x8192x1, .f32⟩
  | 29 => ⟨S4x8192x1, .f32⟩
  | 30 => ⟨S_, .f32⟩
  | 31 => ⟨S4x8192x1, .f32⟩
  | 32 => ⟨S4x8192x1, .f32⟩
  | 33 => ⟨S4x8192x1, .f32⟩
  | 34 => ⟨S4x8192x1024, .f32⟩
  | 35 => ⟨S4x8192x1024, .f32⟩
  | 36 => ⟨S1x1x1024, .f32⟩
  | 37 => ⟨S4x8192x1024, .f32⟩
  | 38 => ⟨S4x8192x1024, .f32⟩
  | 39 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_10 : Ref sig .tc := ⟨.hbm, 112, rfl⟩
abbrev main_v82 : Ref sig .tc := ⟨.hbm, 113, rfl⟩
abbrev main_v83 : Ref sig .tc := ⟨.hbm, 114, rfl⟩
abbrev main_cst_11 : Ref sig .tc := ⟨.hbm, 115, rfl⟩
abbrev main_v84 : Ref sig .tc := ⟨.hbm, 116, rfl⟩
abbrev main_v85 : Ref sig .tc := ⟨.hbm, 117, rfl⟩
abbrev main_cst_12 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_13 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_14 : Ref sig .tc := ⟨.hbm, 149, rfl⟩
abbrev main_v115 : Ref sig .tc := ⟨.hbm, 150, rfl⟩
abbrev main_cst_15 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_16 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_17 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_18 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_19 : Ref sig .tc := ⟨.hbm, 177, rfl⟩
abbrev main_v138 : Ref sig .tc := ⟨.hbm, 178, rfl⟩
abbrev main_v139 : Ref sig .tc := ⟨.hbm, 179, rfl⟩
abbrev main_cst_20 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_21 : Ref sig .tc := ⟨.hbm, 190, rfl⟩
abbrev main_v149 : Ref sig .tc := ⟨.hbm, 191, rfl⟩
abbrev main_v150 : Ref sig .tc := ⟨.hbm, 192, rfl⟩
abbrev main_cst_22 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_cst_23 : Ref sig .tc := ⟨.hbm, 200, rfl⟩
abbrev main_v157 : Ref sig .tc := ⟨.hbm, 201, rfl⟩
abbrev main_v158 : Ref sig .tc := ⟨.hbm, 202, rfl⟩
abbrev main_cst_24 : Ref sig .tc := ⟨.hbm, 203, rfl⟩
abbrev main_v159 : Ref sig .tc := ⟨.hbm, 204, rfl⟩
abbrev main_v160 : Ref sig .tc := ⟨.hbm, 205, rfl⟩
abbrev main_cst_25 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_26 : Ref sig .tc := ⟨.hbm, 217, rfl⟩
abbrev main_v171 : Ref sig .tc := ⟨.hbm, 218, rfl⟩
abbrev main_v172 : Ref sig .tc := ⟨.hbm, 219, rfl⟩
abbrev main_cst_27 : Ref sig .tc := ⟨.hbm, 220, rfl⟩
abbrev main_v173 : Ref sig .tc := ⟨.hbm, 221, rfl⟩
abbrev main_v174 : Ref sig .tc := ⟨.hbm, 222, rfl⟩
abbrev main_cst_28 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_cst_29 : Ref sig .tc := ⟨.hbm, 237, rfl⟩
abbrev main_v188 : Ref sig .tc := ⟨.hbm, 238, rfl⟩
abbrev main_v189 : Ref sig .tc := ⟨.hbm, 239, rfl⟩
abbrev main_cst_30 : Ref sig .tc := ⟨.hbm, 240, rfl⟩
abbrev main_v190 : Ref sig .tc := ⟨.hbm, 241, rfl⟩
abbrev main_v191 : Ref sig .tc := ⟨.hbm, 242, rfl⟩
abbrev main_cst_31 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_cst_32 : Ref sig .tc := ⟨.hbm, 255, rfl⟩
abbrev main_v203 : Ref sig .tc := ⟨.hbm, 256, rfl⟩
abbrev main_v204 : Ref sig .tc := ⟨.hbm, 257, rfl⟩
abbrev main_cst_33 : Ref sig .tc := ⟨.hbm, 258, rfl⟩
abbrev main_v205 : Ref sig .tc := ⟨.hbm, 259, rfl⟩
abbrev main_v206 : Ref sig .tc := ⟨.hbm, 260, rfl⟩
abbrev main_cst_34 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_call0_cst : Ref sig .tc := ⟨.hbm, 272, rfl⟩
abbrev main_call0_v0 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_cst_35 : Ref sig .tc := ⟨.hbm, 280, rfl⟩
abbrev main_v223 : Ref sig .tc := ⟨.hbm, 281, rfl⟩
abbrev main_v224 : Ref sig .tc := ⟨.hbm, 282, rfl⟩
abbrev main_cst_36 : Ref sig .tc := ⟨.hbm, 283, rfl⟩
abbrev main_v225 : Ref sig .tc := ⟨.hbm, 284, rfl⟩
abbrev main_v226 : Ref sig .tc := ⟨.hbm, 285, rfl⟩
abbrev main_cst_37 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩

abbrev nD : Nat := 1
abbrev τ : Topo := Topo.v7x

variable {F : FTy → Type} [FloatOps F]
-- ==== Proof.Spec.lean ====
/- The layer's attention, row by row, over the extended reals: what the kernel and the reference are both read as. -/
module

public import Idealize.ShloMosaic.Lib.Pointwise

@[expose] public section

noncomputable section

namespace Cert.Layer

open Idealize.ShloMosaic

/-- The small number added under the root of a mean of squares. -/
def eps : EReal := Ideal.ofBits .f32 0x358637BD#32

/-- Root mean square normalisation of a row `v`, `N` its width, with gain `g`. -/
def rms (N : EReal) {n : ℕ} (v g : Fin n → EReal) (i : Fin n) : EReal :=
  v i * Ideal.rsqrt (Ideal.div (∑ k, v k * v k) N + eps) * g i

/-- The weights, as plain functions. -/
structure Wts where
  g1 : Fin 1024 → EReal
  win : Fin 1024 → Fin 1184 → EReal
  gq : Fin 384 → EReal
  wq : Fin 384 → Fin 768 → EReal
  gkv : Fin 256 → EReal
  wkv : Fin 256 → Fin 1024 → EReal

variable (W : Wts)

/-- The normalised row. -/
def xn (v : Fin 1024 → EReal) : Fin 1024 → EReal := rms (Ideal.ofBits .f32 0x44800000#32) v W.g1

/-- The input projection of a row. -/
def pr (v : Fin 1024 → EReal) (e : Fin 1184) : EReal := ∑ d, xn W v d * W.win d e

/-- The normalised latent of the queries. -/
def qlat (v : Fin 1024 → EReal) : Fin 384 → EReal :=
  rms (Ideal.ofBits .f32 0x43C00000#32) (fun i => pr W v ⟨i.val, by omega⟩) W.gq

/-- The queries before rotation, all heads side by side. -/
def qry (v : Fin 1024 → EReal) (e : Fin 768) : EReal := ∑ i, qlat W v i * W.wq i e

/-- The normalised latent of keys and values. -/
def kvlat (v : Fin 1024 → EReal) : Fin 256 → EReal :=
  rms (Ideal.ofBits .f32 0x43800000#32) (fun i => pr W v ⟨384 + i.val, by omega⟩) W.gkv

/-- Keys and values, all heads side by side. -/
def kv (v : Fin 1024 → EReal) (e : Fin 1024) : EReal := ∑ i, kvlat W v i * W.wkv i e

/-- A row of 32 rotated by the angles with cosines `c` and sines `s`. -/
def rot (c s : Fin 16 → EReal) (f : Fin 32 → EReal) (d : Fin 32) : EReal :=
  if h : d.val < 16 then f d * c ⟨d.val, h⟩ - f ⟨16 + d.val, by omega⟩ * s ⟨d.val, h⟩
  else f ⟨d.val - 16, by omega⟩ * s ⟨d.val - 16, by omega⟩ + f d * c ⟨d.val - 16, by omega⟩

/-- The inverse frequency of angle `k`. -/
def freq (k : Fin 16) : EReal :=
  Ideal.div (Ideal.ofBits .f32 0x3F800000#32) (Ideal.pow (Ideal.ofBits .f32 0x461C4000#32)
    (Ideal.div (Ideal.ofBits .f32 0x00000000#32 + Ideal.ofBits .f32 0x40000000#32 * FloatOps.sitofp (F := Ideal) .f32 (BitVec.ofNat 32 k.val))
      (Ideal.ofBits .f32 0x42000000#32)))

/-- Cosine and sine of the angles at position `p`. -/
def cosT (p : BitVec 32) (k : Fin 16) : EReal := Ideal.cos (FloatOps.sitofp (F := Ideal) .f32 p * freq k)
def sinT (p : BitVec 32) (k : Fin 16) : EReal := Ideal.sin (FloatOps.sitofp (F := Ideal) .f32 p * freq k)

/-- The part of head `h`'s query that is not rotated, and the rotated part. -/
def qn (v : Fin 1024 → EReal) (h : Fin 8) (d : Fin 64) : EReal := qry W v ⟨h.val * 96 + d.val, by omega⟩
def qr (v : Fin 1024 → EReal) (p : BitVec 32) (h : Fin 8) (d : Fin 32) : EReal :=
  rot (cosT p) (sinT p) (fun x => qry W v ⟨h.val * 96 + (64 + x.val), by omega⟩) d

/-- The same of the key, and head `h`'s value. -/
def kn (v : Fin 1024 → EReal) (h : Fin 8) (d : Fin 64) : EReal := kv W v ⟨h.val * 128 + d.val, by omega⟩
def kr (v : Fin 1024 → EReal) (p : BitVec 32) (d : Fin 32) : EReal :=
  rot (cosT p) (sinT p) (fun x => pr W v ⟨640 + x.val, by omega⟩) d
def vl (v : Fin 1024 → EReal) (h : Fin 8) (d : Fin 64) : EReal := kv W v ⟨h.val * 128 + (64 + d.val), by omega⟩

/-- The score of query row `v` at position `p` with key row `w` at position `p'`. -/
def score (v : Fin 1024 → EReal) (p : BitVec 32) (w : Fin 1024 → EReal) (p' : BitVec 32) (h : Fin 8) : EReal :=
  (∑ d, qn W v h d * kn W w h d) + ∑ d, qr W v p h d * kr W w p' d

end Cert.Layer

end

end
-- ==== Proof.Host.lean ====
/- What the host lines between the calls compute, at an index, over the extended reals. -/
module

public import proofs.«01_k».proof.Proof.Gen.KernelIdeal.Frame
public import proofs.«01_k».proof.Proof.Spec
public import Idealize.ShloMosaic.Lib.Pointwise
public import Idealize.ShloMosaic.Lib.StableHlo.ReadAt

@[expose] public section

set_option maxRecDepth 16384

noncomputable section

namespace Cert.KernelIdeal.Host

open Idealize.ShloMosaic Idealize.ShloMosaic.TcCoe Idealize.SL.Sem
open Cert.KernelIdeal Cert.KernelIdeal.Gen Cert.Layer

/-- What buffer `main_v56` holds. -/
abbrev r_v56 (V : Valuation τ sig (Elt Ideal)) : FVec Ideal S128x1024 .f32 := V (Proc.devRef .tc main_v56)

/-- What buffer `main_arg0` holds. -/
abbrev r_arg0 (V : Valuation τ sig (Elt Ideal)) : FVec Ideal S4x8192x1024 .f32 := V (Proc.devRef .tc main_arg0)

/-- What buffer `main_arg2` holds. -/
abbrev r_arg2 (V : Valuation τ sig (Elt Ideal)) : FVec Ideal S16x1024 .f32 := V (Proc.devRef .tc main_arg2)

/-- What buffer `main_arg3` holds. -/
abbrev r_arg3 (V : Valuation τ sig (Elt Ideal)) : FVec Ideal S1x1024 .f32 := V (Proc.devRef .tc main_arg3)

/-- What buffer `main_arg4` holds. -/
abbrev r_arg4 (V : Valuation τ sig (Elt Ideal)) : FVec Ideal S1x1024x1184 .f32 := V (Proc.devRef .tc main_arg4)

/-- What buffer `main_arg5` holds. -/
abbrev r_arg5 (V : Valuation τ sig (Elt Ideal)) : FVec Ideal S1x384 .f32 := V (Proc.devRef .tc main_arg5)

/-- What buffer `main_arg6` holds. -/
abbrev r_arg6 (V : Valuation τ sig (Elt Ideal)) : FVec Ideal S1x384x768 .f32 := V (Proc.devRef .tc main_arg6)

/-- What buffer `main_arg7` holds. -/
abbrev r_arg7 (V : Valuation τ sig (Elt Ideal)) : FVec Ideal S1x256 .f32 := V (Proc.devRef .tc main_arg7)

/-- What buffer `main_arg8` holds. -/
abbrev r_arg8 (V : Valuation τ sig (Elt Ideal)) : FVec Ideal S1x256x1024 .f32 := V (Proc.devRef .tc main_arg8)

/-- What buffer `main_v84_0` holds. -/
abbrev r_v84_0 (V : Valuation τ sig (Elt Ideal)) : FVec Ideal S1x8x128x128 .bf16 := V (Proc.devRef .tc main_v84_0)

/-- What buffer `main_v84_1` holds. -/
abbrev r_v84_1 (V : Valuation τ sig (Elt Ideal)) : FVec Ideal S1x8x1x128x128 .bf16 := V (Proc.devRef .tc main_v84_1)

/-- What buffer `main_v55_4` holds. -/
abbrev r_v55_4 (V : Valuation τ sig (Elt Ideal)) : FVec Ideal S4x8x8x1x1024 .f32 := V (Proc.devRef .tc main_v55_4)

/-- What buffer `main_v55_5` holds. -/
abbrev r_v55_5 (V : Valuation τ sig (Elt Ideal)) : FVec Ideal S4x8x8x1x128 .f32 := V (Proc.devRef .tc main_v55_5)

/-- What buffer `main_arg1` holds. -/
abbrev r_arg1 (V : Valuation τ sig (Elt Ideal)) : IVec S4x8192 32 := V (Proc.devRef .tc main_arg1)

variable (V : Valuation τ sig (Elt Ideal))

theorem v4_at (d : Fin 1024) (e : Fin 640) : (StableHlo.after (hostOps0 (F := Ideal)) V (Proc.devRef .tc main_v4) : Vec Ideal S1024x640 .bf16) (ix2 d e) = r_arg4 V (ix3 0 d ⟨e.val, by omega⟩) := by
  after_reads_at

theorem v7_at (e : Fin 32) (d : Fin 1024) : (StableHlo.after (hostOps0 (F := Ideal)) V (Proc.devRef .tc main_v7) : Vec Ideal S32x1024 .bf16) (ix2 e d) = r_arg4 V (ix3 0 d ⟨640 + e.val, by omega⟩) := by
  after_reads_at

theorem v12_at (o : Fin 768) (i : Fin 384) : (StableHlo.after (hostOps0 (F := Ideal)) V (Proc.devRef .tc main_v12) : Vec Ideal S768x384 .bf16) (ix2 o i) = r_arg6 V (ix3 0 i o) := by
  after_reads_at

theorem u14_at (i : Fin 256) (h : Fin 8) (d : Fin 64) : (StableHlo.upto (hostOps0 (F := Ideal)) V 17 (Proc.devRef .tc main_v14) : Vec Ideal S256x8x64 .f32) (ix3 i h d) = r_arg8 V (ix3 0 i ⟨h.val * 128 + d.val, by omega⟩) := by
  after_reads_at

theorem u15_at (i : Fin 256) (h : Fin 8) (d : Fin 64) : @Eq EReal ((StableHlo.upto (hostOps0 (F := Ideal)) V 17 (Proc.devRef .tc main_v15) : Vec Ideal S256x8x64 .f32) (ix3 i h d)) 0 := by
  after_reads_at

theorem v18_at (i : Fin 256) (e : Fin 1024) : (StableHlo.after (hostOps0 (F := Ideal)) V (Proc.devRef .tc main_v18) : Vec Ideal S256x1024 .bf16) (ix2 i e) = if e.val % 128 < 64 then (r_arg8 V (ix3 0 i e)) else 0 := by
  after_reads_at
  split_ifs with h
  · refine (u14_at V i _ _).trans ?_
    exact congrArg (fun x => r_arg8 V (ix3 0 i x)) (Fin.ext (Nat.div_add_mod' _ _))
  all_goals first | exact u15_at V i _ _ | (exfalso; simp_all; done)

theorem v22_at (e : Fin 512) (i : Fin 256) : (StableHlo.after (hostOps0 (F := Ideal)) V (Proc.devRef .tc main_v22) : Vec Ideal S512x256 .bf16) (ix2 e i) = r_arg8 V (ix3 0 i ⟨e.val / 64 * 128 + (64 + e.val % 64), by omega⟩) := by
  after_reads_at

theorem v24_at (d : Fin 1024) : (StableHlo.after (hostOps0 (F := Ideal)) V (Proc.devRef .tc main_v24) : Vec Ideal S1x1024 .f32) (ix2 0 d) = r_arg3 V (ix2 0 d) := by
  after_reads_at

theorem v26_at (d : Fin 384) : (StableHlo.after (hostOps0 (F := Ideal)) V (Proc.devRef .tc main_v26) : Vec Ideal S1x384 .f32) (ix2 0 d) = r_arg5 V (ix2 0 d) := by
  after_reads_at

theorem v28_at (d : Fin 256) : (StableHlo.after (hostOps0 (F := Ideal)) V (Proc.devRef .tc main_v28) : Vec Ideal S1x256 .f32) (ix2 0 d) = r_arg7 V (ix2 0 d) := by
  after_reads_at

theorem u54_cos_at (b : Fin 4) (k : Fin 16) (t : Fin 8192) : (StableHlo.upto (hostOps0 (F := Ideal)) V 59 (Proc.devRef .tc main_v50) : Vec Ideal S4x1x16x8192 .f32) (ix4 b 0 k t) = cosT (r_arg1 V (ix2 b t) + 16#32) k := by
  after_reads_at
  simp only [cosT, freq, Ideal.ofBits_one_f32, Ideal.ofBits_zero_f32, zero_add]
  rfl

theorem u83_cos_at (k : Fin 16) (t : Fin 128) : (StableHlo.upto (hostOps1_2 (F := Ideal)) V 29 (Proc.devRef .tc main_v79) : Vec Ideal S1x1x16x128 .f32) (ix4 0 0 k t) = cosT (BitVec.ofNat 32 t.val) k := by
  after_reads_at
  simp only [cosT, freq, Ideal.ofBits_one_f32, Ideal.ofBits_zero_f32, zero_add]

theorem v54_cos_at (b : Fin 4) (n : Fin 8) (k : Fin 16) (t : Fin 1024) : (StableHlo.after (hostOps0 (F := Ideal)) V (Proc.devRef .tc main_v54) : Vec Ideal S4x8x2x16x1024 .f32) (ix5 b n 0 k t) = cosT (r_arg1 V (ix2 b ⟨n.val * 1024 + t.val, by omega⟩) + 16#32) k := by
  after_reads_at
  exact u54_cos_at V b k _

theorem v83_cos_at (k : Fin 16) (t : Fin 128) : (StableHlo.after (hostOps1_2 (F := Ideal)) V (Proc.devRef .tc main_v83) : Vec Ideal S1x1x2x16x128 .f32) (ix5 0 0 0 k t) = cosT (BitVec.ofNat 32 t.val) k := by
  after_reads_at
  exact u83_cos_at V k t

theorem u54_sin_at (b : Fin 4) (k : Fin 16) (t : Fin 8192) : (StableHlo.upto (hostOps0 (F := Ideal)) V 59 (Proc.devRef .tc main_v51) : Vec Ideal S4x1x16x8192 .f32) (ix4 b 0 k t) = sinT (r_arg1 V (ix2 b t) + 16#32) k := by
  after_reads_at
  simp only [sinT, freq, Ideal.ofBits_one_f32, Ideal.ofBits_zero_f32, zero_add]
  rfl

theorem u83_sin_at (k : Fin 16) (t : Fin 128) : (StableHlo.upto (hostOps1_2 (F := Ideal)) V 29 (Proc.devRef .tc main_v80) : Vec Ideal S1x1x16x128 .f32) (ix4 0 0 k t) = sinT (BitVec.ofNat 32 t.val) k := by
  after_reads_at
  simp only [sinT, freq, Ideal.ofBits_one_f32, Ideal.ofBits_zero_f32, zero_add]

theorem v54_sin_at (b : Fin 4) (n : Fin 8) (k : Fin 16) (t : Fin 1024) : (StableHlo.after (hostOps0 (F := Ideal)) V (Proc.devRef .tc main_v54) : Vec Ideal S4x8x2x16x1024 .f32) (ix5 b n 1 k t) = sinT (r_arg1 V (ix2 b ⟨n.val * 1024 + t.val, by omega⟩) + 16#32) k := by
  after_reads_at
  exact u54_sin_at V b k _

theorem v83_sin_at (k : Fin 16) (t : Fin 128) : (StableHlo.after (hostOps1_2 (F := Ideal)) V (Proc.devRef .tc main_v83) : Vec Ideal S1x1x2x16x128 .f32) (ix5 0 0 1 k t) = sinT (BitVec.ofNat 32 t.val) k := by
  after_reads_at
  exact u83_sin_at V k t

theorem v57_at (t : Fin 128) (d : Fin 1024) : (StableHlo.after (hostOps1_2 (F := Ideal)) V (Proc.devRef .tc main_v57) : Vec Ideal S1x128x1024 .f32) (ix3 0 t d) = r_v56 V (ix2 t d) := by
  after_reads_at

theorem v56_at (hc : (V (Proc.devRef .tc main_c_5) : IVec S_ 32) (Shape.Idx.first h_S_) = 0#32) (t : Fin 128) (d : Fin 1024) : (StableHlo.after (hostOps1_1 (F := Ideal)) V (Proc.devRef .tc main_v56) : Vec Ideal S128x1024 .f32) (ix2 t d) = if h : t.val < 16 then (r_arg2 V (ix2 ⟨t.val, h⟩ d)) else 0 := by
  after_reads_at
  by_cases h : t.val < 16
  · rw [dif_pos h, dif_pos h]
  · rw [dif_neg h, dif_neg h, hc]
    show (((0#32 : BitVec 32).toInt : ℝ) : EReal) = 0
    norm_num

theorem c5_at : (StableHlo.after (hostOps1 (F := Ideal)) V (Proc.devRef .tc main_c_5) : IVec S_ 32) (Shape.Idx.first h_S_) = 0#32 := by
  after_reads_at

theorem v85_at (h : Fin 8) (t l : Fin 128) : (StableHlo.after (hostOps2 (F := Ideal)) V (Proc.devRef .tc main_v85) : Vec Ideal S8x128x128 .bf16) (ix3 h t l) = r_v84_0 V (ix4 0 h t l) := by
  after_reads_at

theorem v86_at (h : Fin 8) (l t : Fin 128) : (StableHlo.after (hostOps2 (F := Ideal)) V (Proc.devRef .tc main_v86) : Vec Ideal S8x128x128 .bf16) (ix3 h l t) = r_v84_1 V (ix5 0 h 0 l t) := by
  after_reads_at

theorem v102_at (b : Fin 4) (h i : Fin 8) (t : Fin 1024) : (StableHlo.after (hostOps2 (F := Ideal)) V (Proc.devRef .tc main_v102) : Vec Ideal S4x8x8x1x1024 .f32) (ix5 b h i 0 t) = (r_v55_4 V (ix5 b h i 0 t)) * (Ideal.sqrt (max (Finset.univ.fold max (Ideal.ofBits .f32 0xFF800000#32) fun p : Fin 8 × Fin 1 × Fin 128 => (r_v55_5 V (ix5 b h p.1 p.2.1 p.2.2))) (Finset.univ.fold max (Ideal.ofBits .f32 0xFF800000#32) fun t : Fin 128 => ∑ l : Fin 128, (r_v84_0 V (ix4 0 h t l) * r_v84_0 V (ix4 0 h t l)))) * Ideal.ofBits .f32 0x3F820000#32) := by
  after_reads_at

end Cert.KernelIdeal.Host

end
-- ==== Proof.Head0.lean ====
/- What the projection call stores for each head, over the extended reals. -/
module

public import proofs.«01_k».proof.Proof.Gen.KernelIdeal.Frame
public import proofs.«01_k».proof.Proof.Spec
public import Idealize.ShloMosaic.Lib.Pointwise

@[expose] public section

set_option maxRecDepth 16384

noncomputable section

namespace Cert.KernelIdeal.Head0

open Idealize.ShloMosaic Idealize.ShloMosaic.TcCoe Idealize.SL.Sem
open Cert.KernelIdeal Cert.KernelIdeal.Gen Cert.Layer

/-- Lane `l` of head `h`'s queries, transposed, before its cast. -/
def headq (h : Fin 8) (c s : FVec Ideal S16x1024 .f32) (q : FVec Ideal S768x1024 .f32) (z : FVec Ideal S32x1024 .f32) (l : Fin 128) (t : Fin 1024) : EReal :=
  if h1 : l.val < 64 then q (ix2 ⟨96 * h.val + l.val, by omega⟩ t)
  else if h2 : l.val - 64 < 16 then
    q (ix2 ⟨96 * h.val + (64 + (l.val - 64)), by omega⟩ t) * c (ix2 ⟨l.val - 64, h2⟩ t) - q (ix2 ⟨96 * h.val + (80 + (l.val - 64)), by omega⟩ t) * s (ix2 ⟨l.val - 64, h2⟩ t)
  else if h3 : l.val - 64 - 16 < 16 then
    q (ix2 ⟨96 * h.val + (64 + (l.val - 64 - 16)), by omega⟩ t) * s (ix2 ⟨l.val - 64 - 16, h3⟩ t) + q (ix2 ⟨96 * h.val + (80 + (l.val - 64 - 16)), by omega⟩ t) * c (ix2 ⟨l.val - 64 - 16, h3⟩ t)
  else z (ix2 ⟨l.val - 64 - 16 - 16, by omega⟩ t)

/-- Lane `l` of head `h`'s keys. -/
def headk (h : Fin 8) (r : FVec Ideal S1024x128 .f32) (kk : FVec Ideal S1024x1024 .f32) (t : Fin 1024) (l : Fin 128) : EReal :=
  kk (ix2 t ⟨128 * h.val + l.val, by omega⟩) + r (ix2 t l)

/-- Row `l` of head `h`'s values, transposed, the row of ones behind them. -/
def headv (h : Fin 8) (v : FVec Ideal S512x1024 .f32) (on : FVec Ideal S64x1024 .f32) (l : Fin 128) (t : Fin 1024) : EReal :=
  if h1 : l.val < 64 then v (ix2 ⟨64 * h.val + l.val, by omega⟩ t) else on (ix2 ⟨l.val - 64, by omega⟩ t)

theorem q7_apply (c s : FVec Ideal S16x1024 .f32) (q : FVec Ideal S768x1024 .f32) (z : FVec Ideal S32x1024 .f32) (l : Fin 128) (t : Fin 1024) :
    k0_pay89 c s q z (ix5 0 0 0 l t) = headq 7 c s q z l t := by
  pointwise [headq, k0_pay89, k0_pay88]

theorem q6_apply (c s : FVec Ideal S16x1024 .f32) (q : FVec Ideal S768x1024 .f32) (z : FVec Ideal S32x1024 .f32) (l : Fin 128) (t : Fin 1024) :
    k0_pay82 c s z (k0_pay76 q) (k0_pay77 q) (k0_pay78 q) (k0_pay79 c q) (k0_pay80 s q) (ix5 0 0 0 l t) = headq 6 c s q z l t := by
  pointwise [headq, k0_pay82, k0_pay81, k0_pay76, k0_pay77, k0_pay78, k0_pay79, k0_pay80]

theorem q5_apply (c s : FVec Ideal S16x1024 .f32) (q : FVec Ideal S768x1024 .f32) (z : FVec Ideal S32x1024 .f32) (l : Fin 128) (t : Fin 1024) :
    k0_pay69 c s q z (ix5 0 0 0 l t) = headq 5 c s q z l t := by
  pointwise [headq, k0_pay69, k0_pay68]

theorem q4_apply (c s : FVec Ideal S16x1024 .f32) (q : FVec Ideal S768x1024 .f32) (z : FVec Ideal S32x1024 .f32) (l : Fin 128) (t : Fin 1024) :
    k0_pay61 c s q z (ix5 0 0 0 l t) = headq 4 c s q z l t := by
  pointwise [headq, k0_pay61, k0_pay60]

theorem q3_apply (c s : FVec Ideal S16x1024 .f32) (q : FVec Ideal S768x1024 .f32) (z : FVec Ideal S32x1024 .f32) (l : Fin 128) (t : Fin 1024) :
    k0_pay54 c s q z (ix5 0 0 0 l t) = headq 3 c s q z l t := by
  pointwise [headq, k0_pay54, k0_pay53]

theorem q2_apply (c s : FVec Ideal S16x1024 .f32) (q : FVec Ideal S768x1024 .f32) (z : FVec Ideal S32x1024 .f32) (l : Fin 128) (t : Fin 1024) :
    k0_pay47 (k0_pay46 c s q z) (ix5 0 0 0 l t) = headq 2 c s q z l t := by
  pointwise [headq, k0_pay47, k0_pay46]

theorem q1_apply (c s : FVec Ideal S16x1024 .f32) (q : FVec Ideal S768x1024 .f32) (z : FVec Ideal S32x1024 .f32) (l : Fin 128) (t : Fin 1024) :
    k0_pay40 c s q z (ix5 0 0 0 l t) = headq 1 c s q z l t := by
  pointwise [headq, k0_pay40, k0_pay39]

theorem q0_apply (c s : FVec Ideal S16x1024 .f32) (q : FVec Ideal S768x1024 .f32) (z : FVec Ideal S32x1024 .f32) (l : Fin 128) (t : Fin 1024) :
    k0_pay32 c s q z (ix5 0 0 0 l t) = headq 0 c s q z l t := by
  pointwise [headq, k0_pay32, k0_pay31]

theorem k7_apply (r : FVec Ideal S1024x128 .f32) (kk : FVec Ideal S1024x1024 .f32) (t : Fin 1024) (l : Fin 128) :
    k0_pay86 r kk (ix4 0 0 t l) = headk 7 r kk t l := by
  pointwise [headk, k0_pay86, k0_pay85]

theorem k6_apply (r : FVec Ideal S1024x128 .f32) (kk : FVec Ideal S1024x1024 .f32) (t : Fin 1024) (l : Fin 128) :
    k0_pay74 r kk (ix4 0 0 t l) = headk 6 r kk t l := by
  pointwise [headk, k0_pay74, k0_pay73]

theorem k5_apply (r : FVec Ideal S1024x128 .f32) (kk : FVec Ideal S1024x1024 .f32) (t : Fin 1024) (l : Fin 128) :
    k0_pay66 r kk (ix4 0 0 t l) = headk 5 r kk t l := by
  pointwise [headk, k0_pay66, k0_pay65]

theorem k4_apply (r : FVec Ideal S1024x128 .f32) (kk : FVec Ideal S1024x1024 .f32) (t : Fin 1024) (l : Fin 128) :
    k0_pay58 (k0_pay57 r kk) (ix4 0 0 t l) = headk 4 r kk t l := by
  pointwise [headk, k0_pay58, k0_pay57]

theorem k3_apply (r : FVec Ideal S1024x128 .f32) (kk : FVec Ideal S1024x1024 .f32) (t : Fin 1024) (l : Fin 128) :
    k0_pay51 r kk (ix4 0 0 t l) = headk 3 r kk t l := by
  pointwise [headk, k0_pay51, k0_pay50]

theorem k2_apply (r : FVec Ideal S1024x128 .f32) (kk : FVec Ideal S1024x1024 .f32) (t : Fin 1024) (l : Fin 128) :
    k0_pay44 r kk (ix4 0 0 t l) = headk 2 r kk t l := by
  pointwise [headk, k0_pay44, k0_pay43]

theorem k1_apply (r : FVec Ideal S1024x128 .f32) (kk : FVec Ideal S1024x1024 .f32) (t : Fin 1024) (l : Fin 128) :
    k0_pay37 r kk (ix4 0 0 t l) = headk 1 r kk t l := by
  pointwise [headk, k0_pay37, k0_pay36]

theorem k0_apply (r : FVec Ideal S1024x128 .f32) (kk : FVec Ideal S1024x1024 .f32) (t : Fin 1024) (l : Fin 128) :
    k0_pay28 r kk (ix4 0 0 t l) = headk 0 r kk t l := by
  pointwise [headk, k0_pay28, k0_pay27]

theorem v7_apply (v : FVec Ideal S512x1024 .f32) (on : FVec Ideal S64x1024 .f32) (l : Fin 128) (t : Fin 1024) :
    k0_pay87 v on (ix5 0 0 0 l t) = headv 7 v on l t := by
  pointwise [headv, k0_pay87]

theorem v6_apply (v : FVec Ideal S512x1024 .f32) (on : FVec Ideal S64x1024 .f32) (l : Fin 128) (t : Fin 1024) :
    k0_pay75 v on (ix5 0 0 0 l t) = headv 6 v on l t := by
  pointwise [headv, k0_pay75]

theorem v5_apply (v : FVec Ideal S512x1024 .f32) (on : FVec Ideal S64x1024 .f32) (l : Fin 128) (t : Fin 1024) :
    k0_pay67 v on (ix5 0 0 0 l t) = headv 5 v on l t := by
  pointwise [headv, k0_pay67]

theorem v4_apply (v : FVec Ideal S512x1024 .f32) (on : FVec Ideal S64x1024 .f32) (l : Fin 128) (t : Fin 1024) :
    k0_pay59 v on (ix5 0 0 0 l t) = headv 4 v on l t := by
  pointwise [headv, k0_pay59]

theorem v3_apply (v : FVec Ideal S512x1024 .f32) (on : FVec Ideal S64x1024 .f32) (l : Fin 128) (t : Fin 1024) :
    k0_pay52 v on (ix5 0 0 0 l t) = headv 3 v on l t := by
  pointwise [headv, k0_pay52]

theorem v2_apply (v : FVec Ideal S512x1024 .f32) (on : FVec Ideal S64x1024 .f32) (l : Fin 128) (t : Fin 1024) :
    k0_pay45 v on (ix5 0 0 0 l t) = headv 2 v on l t := by
  pointwise [headv, k0_pay45]

theorem v1_apply (v : FVec Ideal S512x1024 .f32) (on : FVec Ideal S64x1024 .f32) (l : Fin 128) (t : Fin 1024) :
    k0_pay38 v on (ix5 0 0 0 l t) = headv 1 v on l t := by
  pointwise [headv, k0_pay38]

theorem v0_apply (v : FVec Ideal S512x1024 .f32) (on : FVec Ideal S64x1024 .f32) (l : Fin 128) (t : Fin 1024) :
    k0_pay30 (k0_pay29 v on) (ix5 0 0 0 l t) = headv 0 v on l t := by
  pointwise [headv, k0_pay30, k0_pay29]

theorem n7_apply (c s : FVec Ideal S16x1024 .f32) (q : FVec Ideal S768x1024 .f32) (z : FVec Ideal S32x1024 .f32) (t : Fin 1024) :
    k0_pay90 c s q z (ix5 0 0 0 0 t) = Ideal.sqrt (∑ l : Fin 128, headq 7 c s q z l t * headq 7 c s q z l t) := by
  pointwise [headq, k0_pay90, k0_pay88]

theorem n6_apply (c s : FVec Ideal S16x1024 .f32) (q : FVec Ideal S768x1024 .f32) (z : FVec Ideal S32x1024 .f32) (t : Fin 1024) :
    k0_pay83 c s z (k0_pay76 q) (k0_pay77 q) (k0_pay78 q) (k0_pay79 c q) (k0_pay80 s q) (ix5 0 0 0 0 t) = Ideal.sqrt (∑ l : Fin 128, headq 6 c s q z l t * headq 6 c s q z l t) := by
  pointwise [headq, k0_pay83, k0_pay81, k0_pay76, k0_pay77, k0_pay78, k0_pay79, k0_pay80]

theorem n5_apply (c s : FVec Ideal S16x1024 .f32) (q : FVec Ideal S768x1024 .f32) (z : FVec Ideal S32x1024 .f32) (t : Fin 1024) :
    k0_pay71 (k0_pay70 c s q z) (ix5 0 0 0 0 t) = Ideal.sqrt (∑ l : Fin 128, headq 5 c s q z l t * headq 5 c s q z l t) := by
  pointwise [headq, k0_pay71, k0_pay70, k0_pay68]

theorem n4_apply (c s : FVec Ideal S16x1024 .f32) (q : FVec Ideal S768x1024 .f32) (z : FVec Ideal S32x1024 .f32) (t : Fin 1024) :
    k0_pay62 c s q z (ix5 0 0 0 0 t) = Ideal.sqrt (∑ l : Fin 128, headq 4 c s q z l t * headq 4 c s q z l t) := by
  pointwise [headq, k0_pay62, k0_pay60]

theorem n3_apply (c s : FVec Ideal S16x1024 .f32) (q : FVec Ideal S768x1024 .f32) (z : FVec Ideal S32x1024 .f32) (t : Fin 1024) :
    k0_pay55 c s q z (ix5 0 0 0 0 t) = Ideal.sqrt (∑ l : Fin 128, headq 3 c s q z l t * headq 3 c s q z l t) := by
  pointwise [headq, k0_pay55, k0_pay53]

theorem n2_apply (c s : FVec Ideal S16x1024 .f32) (q : FVec Ideal S768x1024 .f32) (z : FVec Ideal S32x1024 .f32) (t : Fin 1024) :
    k0_pay48 (k0_pay46 c s q z) (ix5 0 0 0 0 t) = Ideal.sqrt (∑ l : Fin 128, headq 2 c s q z l t * headq 2 c s q z l t) := by
  pointwise [headq, k0_pay48, k0_pay46]

theorem n1_apply (c s : FVec Ideal S16x1024 .f32) (q : FVec Ideal S768x1024 .f32) (z : FVec Ideal S32x1024 .f32) (t : Fin 1024) :
    k0_pay41 c s q z (ix5 0 0 0 0 t) = Ideal.sqrt (∑ l : Fin 128, headq 1 c s q z l t * headq 1 c s q z l t) := by
  pointwise [headq, k0_pay41, k0_pay39]

theorem n0_apply (c s : FVec Ideal S16x1024 .f32) (q : FVec Ideal S768x1024 .f32) (z : FVec Ideal S32x1024 .f32) (t : Fin 1024) :
    k0_pay33 c s q z (ix5 0 0 0 0 t) = Ideal.sqrt (∑ l : Fin 128, headq 0 c s q z l t * headq 0 c s q z l t) := by
  pointwise [headq, k0_pay33, k0_pay31]

theorem m7_apply (r : FVec Ideal S1024x128 .f32) (kk : FVec Ideal S1024x1024 .f32) (l : Fin 128) :
    k0_pay1 (k0_pay91 (k0_pay85 r kk)) (ix5 0 0 0 0 l) = Finset.univ.fold max (Ideal.ofBits .f32 0xFF800000#32) fun t => ∑ l : Fin 128, headk 7 r kk t l * headk 7 r kk t l := by
  pointwise [headk, k0_pay1, k0_pay91, k0_pay85]

theorem m6_apply (r : FVec Ideal S1024x128 .f32) (kk : FVec Ideal S1024x1024 .f32) (l : Fin 128) :
    k0_pay84 (k0_pay73 r kk) (ix5 0 0 0 0 l) = Finset.univ.fold max (Ideal.ofBits .f32 0xFF800000#32) fun t => ∑ l : Fin 128, headk 6 r kk t l * headk 6 r kk t l := by
  pointwise [headk, k0_pay84, k0_pay73]

theorem m5_apply (r : FVec Ideal S1024x128 .f32) (kk : FVec Ideal S1024x1024 .f32) (l : Fin 128) :
    k0_pay72 (k0_pay65 r kk) (ix5 0 0 0 0 l) = Finset.univ.fold max (Ideal.ofBits .f32 0xFF800000#32) fun t => ∑ l : Fin 128, headk 5 r kk t l * headk 5 r kk t l := by
  pointwise [headk, k0_pay72, k0_pay65]

theorem m4_apply (r : FVec Ideal S1024x128 .f32) (kk : FVec Ideal S1024x1024 .f32) (l : Fin 128) :
    k0_pay64 (k0_pay63 (k0_pay57 r kk)) (ix5 0 0 0 0 l) = Finset.univ.fold max (Ideal.ofBits .f32 0xFF800000#32) fun t => ∑ l : Fin 128, headk 4 r kk t l * headk 4 r kk t l := by
  pointwise [headk, k0_pay64, k0_pay63, k0_pay57]

theorem m3_apply (r : FVec Ideal S1024x128 .f32) (kk : FVec Ideal S1024x1024 .f32) (l : Fin 128) :
    k0_pay56 (k0_pay50 r kk) (ix5 0 0 0 0 l) = Finset.univ.fold max (Ideal.ofBits .f32 0xFF800000#32) fun t => ∑ l : Fin 128, headk 3 r kk t l * headk 3 r kk t l := by
  pointwise [headk, k0_pay56, k0_pay50]

theorem m2_apply (r : FVec Ideal S1024x128 .f32) (kk : FVec Ideal S1024x1024 .f32) (l : Fin 128) :
    k0_pay49 (k0_pay43 r kk) (ix5 0 0 0 0 l) = Finset.univ.fold max (Ideal.ofBits .f32 0xFF800000#32) fun t => ∑ l : Fin 128, headk 2 r kk t l * headk 2 r kk t l := by
  pointwise [headk, k0_pay49, k0_pay43]

theorem m1_apply (r : FVec Ideal S1024x128 .f32) (kk : FVec Ideal S1024x1024 .f32) (l : Fin 128) :
    k0_pay42 (k0_pay36 r kk) (ix5 0 0 0 0 l) = Finset.univ.fold max (Ideal.ofBits .f32 0xFF800000#32) fun t => ∑ l : Fin 128, headk 1 r kk t l * headk 1 r kk t l := by
  pointwise [headk, k0_pay42, k0_pay36]

theorem m0_apply (r : FVec Ideal S1024x128 .f32) (kk : FVec Ideal S1024x1024 .f32) (l : Fin 128) :
    k0_pay35 (k0_pay34 (k0_pay27 r kk)) (ix5 0 0 0 0 l) = Finset.univ.fold max (Ideal.ofBits .f32 0xFF800000#32) fun t => ∑ l : Fin 128, headk 0 r kk t l * headk 0 r kk t l := by
  pointwise [headk, k0_pay35, k0_pay34, k0_pay27]

end Cert.KernelIdeal.Head0

end
-- ==== Proof.Store0.lean ====
/- The projection call's block of every result, read at an index. -/
module

public import proofs.«01_k».proof.Proof.Head0
public import Idealize.ShloMosaic.Lib.Pipeline.ValueKit

@[expose] public section

set_option maxRecDepth 16384

noncomputable section

namespace Cert.KernelIdeal.Head0

open Idealize.ShloMosaic Idealize.ShloMosaic.TcCoe Idealize.SL.Sem
open Cert.KernelIdeal Cert.KernelIdeal.Gen Cert.Layer

variable (x0 : Vec Ideal S1x1024x1024 .f32) (x1 : Vec Ideal S1x1x2x16x1024 .f32) (x2 : Vec Ideal S1x1024 .f32) (x3 : Vec Ideal S1024x640 .bf16) (x4 : Vec Ideal S32x1024 .bf16) (x5 : Vec Ideal S512x1024 .bf16) (x6 : Vec Ideal S1x384 .f32) (x7 : Vec Ideal S768x384 .bf16) (x8 : Vec Ideal S1x256 .f32) (x9 : Vec Ideal S256x1024 .bf16) (x10 : Vec Ideal S512x256 .bf16)

theorem st0_11_apply (h : Fin 8) (l : Fin 128) (t : Fin 1024) :
    out0_11 x0 x1 x2 x3 x4 x5 x6 x7 x8 x9 x10 (ix5 0 h 0 l t) = headq h (k0_pay92 x0 x1 x2 x3 x4 x5 x6 x7 x8 x9 x10) (k0_pay93 x0 x1 x2 x3 x4 x5 x6 x7 x8 x9 x10) (k0_pay103 x0 x1 x2 x3 x4 x5 x6 x7 x8 x9 x10) (k0_pay104 x0 x1 x2 x3 x4 x5 x6 x7 x8 x9 x10) l t := by
  unfold out0_11 Gen.k0_pay105 Gen.k0_pay107 Gen.k0_pay108 Gen.k0_pay109 Gen.k0_pay110 Gen.k0_pay111
  generalize k0_pay92 x0 x1 x2 x3 x4 x5 x6 x7 x8 x9 x10 = c
  generalize k0_pay93 x0 x1 x2 x3 x4 x5 x6 x7 x8 x9 x10 = s
  generalize k0_pay103 x0 x1 x2 x3 x4 x5 x6 x7 x8 x9 x10 = q
  generalize k0_pay104 x0 x1 x2 x3 x4 x5 x6 x7 x8 x9 x10 = z
  canon_tiles x e using cover0_11 (F := Ideal) _ _ _ _ _ _ _ _ _
  all_goals
    obtain ⟨a0, a1, a2, a3, a4, rfl⟩ : ∃ a0 a1 a2 a3 a4, x = ix5 a0 a1 a2 a3 a4 := ⟨_, _, _, _, _, eq_ix5 x⟩
    obtain rfl : a0 = 0 := Subsingleton.elim _ _
    obtain rfl : a1 = 0 := Subsingleton.elim _ _
    obtain rfl : a2 = 0 := Subsingleton.elim _ _
    obtain rfl : l = a3 := Fin.ext e3
    obtain rfl : t = a4 := Fin.ext e4
  · obtain rfl : h = 7 := Fin.ext e1
    exact q7_apply c s q z l t
  · obtain rfl : h = 6 := Fin.ext e1
    exact q6_apply c s q z l t
  · obtain rfl : h = 5 := Fin.ext e1
    exact q5_apply c s q z l t
  · obtain rfl : h = 4 := Fin.ext e1
    exact q4_apply c s q z l t
  · obtain rfl : h = 3 := Fin.ext e1
    exact q3_apply c s q z l t
  · obtain rfl : h = 2 := Fin.ext e1
    exact q2_apply c s q z l t
  · obtain rfl : h = 1 := Fin.ext e1
    exact q1_apply c s q z l t
  · obtain rfl : h = 0 := Fin.ext e1
    exact q0_apply c s q z l t

theorem st0_12_apply (h : Fin 8) (t : Fin 1024) (l : Fin 128) :
    out0_12 x0 x1 x2 x3 x4 x5 x6 x7 x8 x9 x10 (ix4 0 h t l) = headk h (k0_pay98 x0 x1 x2 x3 x4 x5 x6 x7 x8 x9 x10) (k0_pay99 x0 x1 x2 x3 x4 x5 x6 x7 x8 x9 x10) t l := by
  unfold out0_12 Gen.k0_pay106
  generalize k0_pay98 x0 x1 x2 x3 x4 x5 x6 x7 x8 x9 x10 = r
  generalize k0_pay99 x0 x1 x2 x3 x4 x5 x6 x7 x8 x9 x10 = kk
  canon_tiles x e using cover0_12 (F := Ideal) _ _ _ _ _ _ _ _ _
  all_goals
    obtain ⟨a0, a1, a2, a3, rfl⟩ : ∃ a0 a1 a2 a3, x = ix4 a0 a1 a2 a3 := ⟨_, _, _, _, eq_ix4 x⟩
    obtain rfl : a0 = 0 := Subsingleton.elim _ _
    obtain rfl : a1 = 0 := Subsingleton.elim _ _
    obtain rfl : t = a2 := Fin.ext e2
    obtain rfl : l = a3 := Fin.ext e3
  · obtain rfl : h = 7 := Fin.ext e1
    exact k7_apply r kk t l
  · obtain rfl : h = 6 := Fin.ext e1
    exact k6_apply r kk t l
  · obtain rfl : h = 5 := Fin.ext e1
    exact k5_apply r kk t l
  · obtain rfl : h = 4 := Fin.ext e1
    exact k4_apply r kk t l
  · obtain rfl : h = 3 := Fin.ext e1
    exact k3_apply r kk t l
  · obtain rfl : h = 2 := Fin.ext e1
    exact k2_apply r kk t l
  · obtain rfl : h = 1 := Fin.ext e1
    exact k1_apply r kk t l
  · obtain rfl : h = 0 := Fin.ext e1
    exact k0_apply r kk t l

theorem st0_13_apply (h : Fin 8) (l : Fin 128) (t : Fin 1024) :
    out0_13 x0 x1 x2 x3 x4 x5 x6 x7 x8 x9 x10 (ix5 0 h 0 l t) = headv h (k0_pay100 x0 x1 x2 x3 x4 x5 x6 x7 x8 x9 x10) (k0_pay101 x0 x1 x2 x3 x4 x5 x6 x7 x8 x9 x10) l t := by
  unfold out0_13
  generalize k0_pay100 x0 x1 x2 x3 x4 x5 x6 x7 x8 x9 x10 = v
  generalize k0_pay101 x0 x1 x2 x3 x4 x5 x6 x7 x8 x9 x10 = on
  canon_tiles x e using cover0_13 (F := Ideal) _ _ _ _ _ _ _ _ _
  all_goals
    obtain ⟨a0, a1, a2, a3, a4, rfl⟩ : ∃ a0 a1 a2 a3 a4, x = ix5 a0 a1 a2 a3 a4 := ⟨_, _, _, _, _, eq_ix5 x⟩
    obtain rfl : a0 = 0 := Subsingleton.elim _ _
    obtain rfl : a1 = 0 := Subsingleton.elim _ _
    obtain rfl : a2 = 0 := Subsingleton.elim _ _
    obtain rfl : l = a3 := Fin.ext e3
    obtain rfl : t = a4 := Fin.ext e4
  · obtain rfl : h = 7 := Fin.ext e1
    exact v7_apply v on l t
  · obtain rfl : h = 6 := Fin.ext e1
    exact v6_apply v on l t
  · obtain rfl : h = 5 := Fin.ext e1
    exact v5_apply v on l t
  · obtain rfl : h = 4 := Fin.ext e1
    exact v4_apply v on l t
  · obtain rfl : h = 3 := Fin.ext e1
    exact v3_apply v on l t
  · obtain rfl : h = 2 := Fin.ext e1
    exact v2_apply v on l t
  · obtain rfl : h = 1 := Fin.ext e1
    exact v1_apply v on l t
  · obtain rfl : h = 0 := Fin.ext e1
    exact v0_apply v on l t

theorem st0_15_apply (h : Fin 8) (t : Fin 1024) :
    out0_15 x0 x1 x2 x3 x4 x5 x6 x7 x8 x9 x10 (ix5 0 h 0 0 t) = Ideal.sqrt (∑ l : Fin 128, headq h (k0_pay92 x0 x1 x2 x3 x4 x5 x6 x7 x8 x9 x10) (k0_pay93 x0 x1 x2 x3 x4 x5 x6 x7 x8 x9 x10) (k0_pay103 x0 x1 x2 x3 x4 x5 x6 x7 x8 x9 x10) (k0_pay104 x0 x1 x2 x3 x4 x5 x6 x7 x8 x9 x10) l t * headq h (k0_pay92 x0 x1 x2 x3 x4 x5 x6 x7 x8 x9 x10) (k0_pay93 x0 x1 x2 x3 x4 x5 x6 x7 x8 x9 x10) (k0_pay103 x0 x1 x2 x3 x4 x5 x6 x7 x8 x9 x10) (k0_pay104 x0 x1 x2 x3 x4 x5 x6 x7 x8 x9 x10) l t) := by
  unfold out0_15 Gen.k0_pay105 Gen.k0_pay107 Gen.k0_pay108 Gen.k0_pay109 Gen.k0_pay110 Gen.k0_pay111
  generalize k0_pay92 x0 x1 x2 x3 x4 x5 x6 x7 x8 x9 x10 = c
  generalize k0_pay93 x0 x1 x2 x3 x4 x5 x6 x7 x8 x9 x10 = s
  generalize k0_pay103 x0 x1 x2 x3 x4 x5 x6 x7 x8 x9 x10 = q
  generalize k0_pay104 x0 x1 x2 x3 x4 x5 x6 x7 x8 x9 x10 = z
  canon_tiles x e using cover0_15 (F := Ideal) _ _ _ _ _ _ _ _ _
  all_goals
    obtain ⟨a0, a1, a2, a3, a4, rfl⟩ : ∃ a0 a1 a2 a3 a4, x = ix5 a0 a1 a2 a3 a4 := ⟨_, _, _, _, _, eq_ix5 x⟩
    obtain rfl : a0 = 0 := Subsingleton.elim _ _
    obtain rfl : a1 = 0 := Subsingleton.elim _ _
    obtain rfl : a2 = 0 := Subsingleton.elim _ _
    obtain rfl : a3 = 0 := Subsingleton.elim _ _
    obtain rfl : t = a4 := Fin.ext e4
  · obtain rfl : h = 7 := Fin.ext e1
    exact n7_apply c s q z t
  · obtain rfl : h = 6 := Fin.ext e1
    exact n6_apply c s q z t
  · obtain rfl : h = 5 := Fin.ext e1
    exact n5_apply c s q z t
  · obtain rfl : h = 4 := Fin.ext e1
    exact n4_apply c s q z t
  · obtain rfl : h = 3 := Fin.ext e1
    exact n3_apply c s q z t
  · obtain rfl : h = 2 := Fin.ext e1
    exact n2_apply c s q z t
  · obtain rfl : h = 1 := Fin.ext e1
    exact n1_apply c s q z t
  · obtain rfl : h = 0 := Fin.ext e1
    exact n0_apply c s q z t

theorem st0_16_apply (h : Fin 8) (l : Fin 128) :
    out0_16 x0 x1 x2 x3 x4 x5 x6 x7 x8 x9 x10 (ix5 0 h 0 0 l) = Finset.univ.fold max (Ideal.ofBits .f32 0xFF800000#32) fun t => ∑ l : Fin 128, headk h (k0_pay98 x0 x1 x2 x3 x4 x5 x6 x7 x8 x9 x10) (k0_pay99 x0 x1 x2 x3 x4 x5 x6 x7 x8 x9 x10) t l * headk h (k0_pay98 x0 x1 x2 x3 x4 x5 x6 x7 x8 x9 x10) (k0_pay99 x0 x1 x2 x3 x4 x5 x6 x7 x8 x9 x10) t l := by
  unfold out0_16 Gen.k0_pay106
  generalize k0_pay98 x0 x1 x2 x3 x4 x5 x6 x7 x8 x9 x10 = r
  generalize k0_pay99 x0 x1 x2 x3 x4 x5 x6 x7 x8 x9 x10 = kk
  canon_tiles x e using cover0_16 (F := Ideal) _ _ _ _ _ _ _ _ _
  all_goals
    obtain ⟨a0, a1, a2, a3, a4, rfl⟩ : ∃ a0 a1 a2 a3 a4, x = ix5 a0 a1 a2 a3 a4 := ⟨_, _, _, _, _, eq_ix5 x⟩
    obtain rfl : a0 = 0 := Subsingleton.elim _ _
    obtain rfl : a1 = 0 := Subsingleton.elim _ _
    obtain rfl : a2 = 0 := Subsingleton.elim _ _
    obtain rfl : a3 = 0 := Subsingleton.elim _ _
    obtain rfl : l = a4 := Fin.ext e4
  · obtain rfl : h = 7 := Fin.ext e1
    exact m7_apply r kk l
  · obtain rfl : h = 6 := Fin.ext e1
    exact m6_apply r kk l
  · obtain rfl : h = 5 := Fin.ext e1
    exact m5_apply r kk l
  · obtain rfl : h = 4 := Fin.ext e1
    exact m4_apply r kk l
  · obtain rfl : h = 3 := Fin.ext e1
    exact m3_apply r kk l
  · obtain rfl : h = 2 := Fin.ext e1
    exact m2_apply r kk l
  · obtain rfl : h = 1 := Fin.ext e1
    exact m1_apply r kk l
  · obtain rfl : h = 0 := Fin.ext e1
    exact m0_apply r kk l

end Cert.KernelIdeal.Head0

end
-- ==== Proof.Proj0.lean ====
/- The values the projection call computes before it cuts them into heads, over the extended reals. -/
module

public import proofs.«01_k».proof.Proof.Gen.KernelIdeal.Frame
public import proofs.«01_k».proof.Proof.Spec
public import Idealize.ShloMosaic.Lib.Pointwise

@[expose] public section

set_option maxRecDepth 16384

noncomputable section

namespace Cert.KernelIdeal.Proj

open Idealize.ShloMosaic Idealize.ShloMosaic.TcCoe Idealize.SL.Sem
open Cert.KernelIdeal Cert.KernelIdeal.Gen Cert.Layer

theorem one_val (e : ℕ) (he : e < 64) : FloatOps.sitofp (F := Ideal) .f32 (BitVec.setWidth 32 (IntOp.cmpi .eq (BitVec.ofNat 32 e) 0#32)) = if e = 0 then 1 else 0 := by
  have hs : ∀ a : BitVec 32, FloatOps.sitofp (F := Ideal) .f32 a = (((a.toInt : ℤ) : ℝ) : EReal) := fun a => rfl
  rw [hs]
  by_cases h : e = 0
  · subst h
    simp [IntOp.cmpi]
  · have : BitVec.ofNat 32 e ≠ 0#32 := by
      intro h'
      have := congrArg BitVec.toNat h'
      simp at this
      omega
    have hb : (BitVec.ofNat 32 e == 0#32) = false := beq_eq_false_iff_ne.mpr this
    simp [h, IntOp.cmpi, hb]

theorem x0_apply (x : Vec Ideal S1x1024x1024 .f32) (g : Vec Ideal S1x1024 .f32) (t : Fin 1024) (d : Fin 1024) :
    k0_pay4 x g (ix2 t d) = rms (Ideal.ofBits .f32 0x44800000#32) (fun d => x (ix3 0 t d)) (fun d => g (ix2 0 d)) d := by
  pointwise [k0_pay4]
  rfl

theorem p0_apply (x : Vec Ideal S1x1024x1024 .f32) (g : Vec Ideal S1x1024 .f32) (w : Vec Ideal S1024x640 .bf16) (t : Fin 1024) (e : Fin 640) :
    k0_pay5 x g w (ix2 t e) = ∑ d : Fin 1024, k0_pay4 x g (ix2 t d) * w (ix2 d e) := by
  generalize hv : k0_pay4 x g = v
  pointwise [k0_pay5, hv]

theorem s0_apply (x : Vec Ideal S1x1024x1024 .f32) (g : Vec Ideal S1x1024 .f32) (w : Vec Ideal S1024x640 .bf16) (t : Fin 1024) (e : Fin 256) :
    k0_pay6 x g w (ix2 t e) = k0_pay5 x g w (ix2 t ⟨384 + e.val, by omega⟩) := by
  generalize hv : k0_pay5 x g w = v
  pointwise [k0_pay6, hv]

theorem ms0_apply (x : Vec Ideal S1x1024x1024 .f32) (g : Vec Ideal S1x1024 .f32) (w : Vec Ideal S1024x640 .bf16) (t : Fin 1024) :
    k0_pay8 x g w (ix2 t 0) = Ideal.div (∑ e : Fin 256, k0_pay6 x g w (ix2 t e) * k0_pay6 x g w (ix2 t e)) (Ideal.ofBits .f32 0x43800000#32) := by
  generalize hv : k0_pay6 x g w = v
  pointwise [k0_pay8, hv]

theorem q0_apply (p : FVec Ideal S1024x640 .f32) (g : Vec Ideal S1x384 .f32) (w : Vec Ideal S768x384 .bf16) (o : Fin 768) (t : Fin 1024) :
    k0_pay25 p g w (ix2 o t) = (∑ i : Fin 384, w (ix2 o i) * rms (Ideal.ofBits .f32 0x43C00000#32) (fun i : Fin 384 => p (ix2 t ⟨i.val, by omega⟩)) (fun i => g (ix2 0 i)) i)
      * Named.named (F := Ideal) κ "scale_log2e" (φ := .f32) 0x3E16C740#32 := by
  pointwise [k0_pay25]
  rfl

theorem z0_apply (o : Fin 32) (t : Fin 1024) : k0_pay26 (F := Ideal) (ix2 o t) = 0 := by
  pointwise [k0_pay26]

theorem lat0_apply (p : FVec Ideal S1024x256 .f32) (g : FVec Ideal S1x256 .f32) (q : FVec Ideal S1024x1 .f32) (c : EReal) (t : Fin 1024) (i : Fin 256) :
    k0_pay9 (F := Ideal) p g q c (ix2 t i) = p (ix2 t i) * Ideal.rsqrt (q (ix2 t 0) + c) * g (ix2 0 i) := by
  pointwise [k0_pay9]

theorem kk0_apply (p : FVec Ideal S1024x256 .f32) (g : FVec Ideal S1x256 .f32) (q : FVec Ideal S1024x1 .f32) (c : EReal) (w : Vec Ideal S256x1024 .bf16) (t : Fin 1024) (e : Fin 1024) :
    k0_pay11 (F := Ideal) p g q c w (ix2 t e) = ∑ i : Fin 256, k0_pay9 (F := Ideal) p g q c (ix2 t i) * w (ix2 i e) := by
  generalize hv : k0_pay9 (F := Ideal) p g q c = v
  pointwise [k0_pay11, hv]

theorem vt0_apply (p : FVec Ideal S1024x256 .f32) (g : FVec Ideal S1x256 .f32) (q : FVec Ideal S1024x1 .f32) (c : EReal) (w : Vec Ideal S512x256 .bf16) (e : Fin 512) (t : Fin 1024) :
    k0_pay12 (F := Ideal) p g q c w (ix2 e t) = ∑ i : Fin 256, w (ix2 e i) * k0_pay9 (F := Ideal) p g q c (ix2 t i) := by
  generalize hv : k0_pay9 (F := Ideal) p g q c = v
  pointwise [k0_pay12, hv]

theorem one0_apply (e : Fin 64) (t : Fin 1024) : k0_pay13 (F := Ideal) (ix2 e t) = if e.val = 0 then 1 else 0 := by
  pointwise [k0_pay13]
  exact one_val e.val (by omega)

theorem rope0_apply (c s : FVec Ideal S16x1024 .f32) (x : FVec Ideal S1024x1024 .bf16) (w : Vec Ideal S32x1024 .bf16) (t : Fin 1024) (l : Fin 128) :
    k0_pay10 c s x w (ix2 t l) = if h : l.val < 64 then 0 else if h' : l.val < 96 then
      rot (fun k => c (ix2 k t)) (fun k => s (ix2 k t)) (fun y => ∑ d : Fin 1024, w (ix2 y d) * x (ix2 t d)) ⟨l.val - 64, by omega⟩ else 0 := by
  pointwise [k0_pay10]
  by_cases h1 : l.val < 64
  · rw [dif_pos h1, dif_pos h1]
  by_cases h2 : l.val - 64 < 16
  · have h3 : l.val < 96 := by omega
    rw [dif_neg h1, dif_neg h1, dif_pos h2, dif_pos h3, rot, dif_pos h2]
  by_cases h3 : l.val - 64 - 16 < 16
  · have h4 : l.val < 96 := by omega
    rw [dif_neg h1, dif_neg h1, dif_neg h2, dif_pos h3, dif_pos h4, rot, dif_neg h2]
    simp only [show 16 + (l.val - 64 - 16) = l.val - 64 from by omega]
  · have h4 : ¬ l.val < 96 := by omega
    rw [dif_neg h1, dif_neg h1, dif_neg h2, dif_neg h3, dif_neg h4]

end Cert.KernelIdeal.Proj

end
-- ==== Proof.Lanes.lean ====
/- The rows the kernel stores for each head, and what its weights are, in the words of the layer. -/
module

public import proofs.«01_k».proof.Proof.Gen.KernelIdeal.Frame
public import proofs.«01_k».proof.Proof.Spec
public import Idealize.ShloMosaic.Lib.Pointwise

@[expose] public section

set_option maxRecDepth 16384

noncomputable section

namespace Cert.Layer

open Idealize.ShloMosaic Idealize.ShloMosaic.TcCoe Idealize.SL.Sem
open Cert.KernelIdeal

/-- Lane `l` of the scaled query row of head `h`: the part not rotated, the rotated part, zeros. -/
def qlane (c : EReal) (W : Wts) (v : Fin 1024 → EReal) (cs sn : Fin 16 → EReal) (h : Fin 8) (l : Fin 128) : EReal :=
  if h1 : l.val < 64 then qry W v ⟨96 * h.val + l.val, by omega⟩ * c
  else if h2 : l.val < 96 then rot cs sn (fun x => qry W v ⟨96 * h.val + (64 + x.val), by omega⟩ * c) ⟨l.val - 64, by omega⟩
  else 0

/-- Lane `l` of every head's rotated key. -/
def rlane (W : Wts) (v : Fin 1024 → EReal) (cs sn : Fin 16 → EReal) (l : Fin 128) : EReal :=
  if h : l.val < 64 then 0 else if h' : l.val < 96 then rot cs sn (fun x => pr W v ⟨640 + x.val, by omega⟩) ⟨l.val - 64, by omega⟩ else 0

/-- Lane `l` of the key row of head `h`. -/
def klane (W : Wts) (v : Fin 1024 → EReal) (cs sn : Fin 16 → EReal) (h : Fin 8) (l : Fin 128) : EReal :=
  (if l.val < 64 then kv W v ⟨128 * h.val + l.val, by omega⟩ else 0) + rlane W v cs sn l

/-- Lane `l` of the value row of head `h`: the value, a one, zeros. -/
def vlane (W : Wts) (v : Fin 1024 → EReal) (h : Fin 8) (l : Fin 128) : EReal :=
  if h1 : l.val < 64 then kv W v ⟨128 * h.val + (64 + l.val), by omega⟩ else if l.val = 64 then 1 else 0

/-- The arrays of the weights both projection calls take hold the layer's weights. -/
structure Kvw (W : Wts) (x2 : Vec Ideal S1x1024 .f32) (x3 : Vec Ideal S1024x640 .bf16) (x4 : Vec Ideal S32x1024 .bf16)
    (g : Vec Ideal S1x256 .f32) (wk : Vec Ideal S256x1024 .bf16) (wv : Vec Ideal S512x256 .bf16) : Prop where
  g1 : ∀ d : Fin 1024, x2 (ix2 0 d) = W.g1 d
  win : ∀ (d : Fin 1024) (e : Fin 640), x3 (ix2 d e) = W.win d ⟨e.val, by omega⟩
  wkr : ∀ (e : Fin 32) (d : Fin 1024), x4 (ix2 e d) = W.win d ⟨640 + e.val, by omega⟩
  gkv : ∀ i : Fin 256, g (ix2 0 i) = W.gkv i
  wk : ∀ (i : Fin 256) (e : Fin 1024), wk (ix2 i e) = if e.val % 128 < 64 then W.wkv i e else 0
  wv : ∀ (e : Fin 512) (i : Fin 256), wv (ix2 e i) = W.wkv i ⟨128 * (e.val / 64) + (64 + e.val % 64), by omega⟩

/-- The arrays of the queries' weights hold the layer's. -/
structure Qw (W : Wts) (g : Vec Ideal S1x384 .f32) (wq : Vec Ideal S768x384 .bf16) : Prop where
  gq : ∀ i : Fin 384, g (ix2 0 i) = W.gq i
  wq : ∀ (o : Fin 768) (i : Fin 384), wq (ix2 o i) = W.wq i o

end Cert.Layer

end
-- ==== Proof.Rows0.lean ====
/- What the projection call stores, in the words of the layer. -/
module

public import proofs.«01_k».proof.Proof.Store0
public import proofs.«01_k».proof.Proof.Proj0
public import proofs.«01_k».proof.Proof.Lanes

@[expose] public section

set_option maxRecDepth 16384

noncomputable section

namespace Cert.KernelIdeal.Rows0

open Idealize.ShloMosaic Idealize.ShloMosaic.TcCoe Idealize.SL.Sem
open Cert.KernelIdeal Cert.KernelIdeal.Gen Cert.KernelIdeal.Proj Cert.Layer

theorem ld_x0 (x : Vec Ideal S1x1024x1024 .f32) : View.ld x r0_2 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega
  | ⟨2, _⟩ =>
    show 0 + 1 * (i 2).val = (i 2).val
    omega

theorem ld_x2 (x : Vec Ideal S1x1024 .f32) : View.ld x r0_3 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem ld_x3 (x : Vec Ideal S1024x640 .bf16) : View.ld x r0_4 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem ld_g (x : Vec Ideal S1x256 .f32) : View.ld x r0_5 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem ld_x4 (x : Vec Ideal S32x1024 .bf16) : View.ld x r0_6 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem ld_wk (x : Vec Ideal S256x1024 .bf16) : View.ld x r0_7 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem ld_wv (x : Vec Ideal S512x256 .bf16) : View.ld x r0_8 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem ld_gq (x : Vec Ideal S1x384 .f32) : View.ld x r0_18 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem ld_wq (x : Vec Ideal S768x384 .bf16) : View.ld x r0_19 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem cos_apply (x : Vec Ideal S1x1x2x16x1024 .f32) (k : Fin 16) (t : Fin 1024) : k0_pay2 (View.ld x r0_0) (ix2 k t) = x (ix5 0 0 0 k t) := by
  have e : View.ld x r0_0 = fun i => x (ix5 0 0 0 (i 3) (i 4)) := by
    funext i
    refine congrArg x (funext fun a => Fin.ext ?_)
    match a with
    | ⟨0, _⟩ =>
      have h := (i 0).isLt
      have h0 : (i 0).val = 0 := Nat.lt_one_iff.mp h
      show 0 + 1 * (i 0).val = 0
      omega
    | ⟨1, _⟩ =>
      have h := (i 1).isLt
      have h0 : (i 1).val = 0 := Nat.lt_one_iff.mp h
      show 0 + 1 * (i 1).val = 0
      omega
    | ⟨2, _⟩ =>
      have h := (i 2).isLt
      have h0 : (i 2).val = 0 := Nat.lt_one_iff.mp h
      show 0 + 1 * (i 2).val = 0
      omega
    | ⟨3, _⟩ =>
      show 0 + 1 * (i 3).val = (i 3).val
      omega
    | ⟨4, _⟩ =>
      show 0 + 1 * (i 4).val = (i 4).val
      omega
  rw [e]
  pointwise [k0_pay2]

theorem sin_apply (x : Vec Ideal S1x1x2x16x1024 .f32) (k : Fin 16) (t : Fin 1024) : k0_pay3 (View.ld x r0_1) (ix2 k t) = x (ix5 0 0 1 k t) := by
  have e : View.ld x r0_1 = fun i => x (ix5 0 0 1 (i 3) (i 4)) := by
    funext i
    refine congrArg x (funext fun a => Fin.ext ?_)
    match a with
    | ⟨0, _⟩ =>
      have h := (i 0).isLt
      have h0 : (i 0).val = 0 := Nat.lt_one_iff.mp h
      show 0 + 1 * (i 0).val = 0
      omega
    | ⟨1, _⟩ =>
      have h := (i 1).isLt
      have h0 : (i 1).val = 0 := Nat.lt_one_iff.mp h
      show 0 + 1 * (i 1).val = 0
      omega
    | ⟨2, _⟩ =>
      have h := (i 2).isLt
      have h0 : (i 2).val = 0 := Nat.lt_one_iff.mp h
      show 1 + 1 * (i 2).val = 1
      omega
    | ⟨3, _⟩ =>
      show 0 + 1 * (i 3).val = (i 3).val
      omega
    | ⟨4, _⟩ =>
      show 0 + 1 * (i 4).val = (i 4).val
      omega
  rw [e]
  pointwise [k0_pay3]

variable (x0 : Vec Ideal S1x1024x1024 .f32) (x1 : Vec Ideal S1x1x2x16x1024 .f32) (x2 : Vec Ideal S1x1024 .f32) (x3 : Vec Ideal S1024x640 .bf16) (x4 : Vec Ideal S32x1024 .bf16) (x5 : Vec Ideal S512x1024 .bf16) (x6 : Vec Ideal S1x384 .f32) (x7 : Vec Ideal S768x384 .bf16) (x8 : Vec Ideal S1x256 .f32) (x9 : Vec Ideal S256x1024 .bf16) (x10 : Vec Ideal S512x256 .bf16)
variable (W : Wts)

include x0 x1 x2 x3 x4 x5 x6 x7 x8 x9 x10 W

theorem xn_at (hw : Kvw W x2 x3 x4 x8 x9 x10) (t : Fin 1024) (d : Fin 1024) : k0_pay94 x0 x1 x2 x3 x4 x5 x6 x7 x8 x9 x10 (ix2 t d) = xn W (fun d => x0 (ix3 0 t d)) d := by
  unfold Gen.k0_pay94
  rw [ld_x0, ld_x2, x0_apply, xn]
  exact congrArg (fun g => rms (Ideal.ofBits .f32 0x44800000#32) (fun d => x0 (ix3 0 t d)) g d) (funext hw.g1)

theorem pr_at (hw : Kvw W x2 x3 x4 x8 x9 x10) (t : Fin 1024) (e : Fin 640) : k0_pay5 (View.ld x0 r0_2) (View.ld x2 r0_3) (View.ld x3 r0_4) (ix2 t e) = pr W (fun d => x0 (ix3 0 t d)) ⟨e.val, by omega⟩ := by
  rw [p0_apply, pr]
  refine Finset.sum_congr rfl fun d _ => ?_
  rw [show k0_pay4 (View.ld x0 r0_2) (View.ld x2 r0_3) (ix2 t d) = _ from xn_at x0 x1 x2 x3 x4 x5 x6 x7 x8 x9 x10 W hw t d, ld_x3, hw.win]

theorem s_at (hw : Kvw W x2 x3 x4 x8 x9 x10) (t : Fin 1024) (e : Fin 256) : k0_pay6 (View.ld x0 r0_2) (View.ld x2 r0_3) (View.ld x3 r0_4) (ix2 t e) = pr W (fun d => x0 (ix3 0 t d)) ⟨384 + e.val, by omega⟩ := by
  rw [s0_apply]
  exact pr_at x0 x1 x2 x3 x4 x5 x6 x7 x8 x9 x10 W hw t _

theorem qt_at (hw : Kvw W x2 x3 x4 x8 x9 x10) (hq : Qw W x6 x7) (t : Fin 1024) (o : Fin 768) : k0_pay103 x0 x1 x2 x3 x4 x5 x6 x7 x8 x9 x10 (ix2 o t) = qry W (fun d => x0 (ix3 0 t d)) o * Named.named (F := Ideal) κ "scale_log2e" (φ := .f32) 0x3E16C740#32 := by
  unfold Gen.k0_pay103
  rw [q0_apply, ld_gq, ld_wq]
  refine congrArg (· * _) ?_
  rw [qry]
  refine Finset.sum_congr rfl fun i _ => ?_
  rw [hq.wq, mul_comm, qlat]
  refine congrArg (· * _) ?_
  rw [show (fun i : Fin 384 => k0_pay5 (View.ld x0 r0_2) (View.ld x2 r0_3) (View.ld x3 r0_4) (ix2 t ⟨i.val, by omega⟩)) = fun i : Fin 384 => pr W (fun d => x0 (ix3 0 t d)) ⟨i.val, by omega⟩ from funext fun i => pr_at x0 x1 x2 x3 x4 x5 x6 x7 x8 x9 x10 W hw t _,
    show (fun i => x6 (ix2 0 i)) = W.gq from funext hq.gq]

theorem g_at (hw : Kvw W x2 x3 x4 x8 x9 x10) (i : Fin 256) : k0_pay96 x0 x1 x2 x3 x4 x5 x6 x7 x8 x9 x10 (ix2 0 i) = W.gkv i := by
  unfold Gen.k0_pay96
  rw [ld_g, ← hw.gkv]
  pointwise [k0_pay7]

theorem lat_at (hw : Kvw W x2 x3 x4 x8 x9 x10) (t : Fin 1024) (i : Fin 256) : k0_pay9 (F := Ideal) (k0_pay95 x0 x1 x2 x3 x4 x5 x6 x7 x8 x9 x10) (k0_pay96 x0 x1 x2 x3 x4 x5 x6 x7 x8 x9 x10) (k0_pay97 x0 x1 x2 x3 x4 x5 x6 x7 x8 x9 x10) (Scalar.ofBits .f32 0x358637BD#32) (ix2 t i) = kvlat W (fun d => x0 (ix3 0 t d)) i := by
  rw [lat0_apply, g_at x0 x1 x2 x3 x4 x5 x6 x7 x8 x9 x10 W hw]
  unfold Gen.k0_pay95 Gen.k0_pay97
  rw [ms0_apply, kvlat, rms]
  simp only [s_at x0 x1 x2 x3 x4 x5 x6 x7 x8 x9 x10 W hw]
  rfl

theorem kk_at (hw : Kvw W x2 x3 x4 x8 x9 x10) (t : Fin 1024) (e : Fin 1024) : k0_pay99 x0 x1 x2 x3 x4 x5 x6 x7 x8 x9 x10 (ix2 t e) = if e.val % 128 < 64 then kv W (fun d => x0 (ix3 0 t d)) e else 0 := by
  unfold Gen.k0_pay99
  rw [kk0_apply, ld_wk]
  simp only [lat_at x0 x1 x2 x3 x4 x5 x6 x7 x8 x9 x10 W hw, hw.wk]
  split_ifs with h
  · rfl
  · simp only [mul_zero, Finset.sum_const_zero]

theorem vt_at (hw : Kvw W x2 x3 x4 x8 x9 x10) (t : Fin 1024) (e : Fin 512) : k0_pay100 x0 x1 x2 x3 x4 x5 x6 x7 x8 x9 x10 (ix2 e t) = kv W (fun d => x0 (ix3 0 t d)) ⟨128 * (e.val / 64) + (64 + e.val % 64), by omega⟩ := by
  unfold Gen.k0_pay100
  rw [vt0_apply, ld_wv, kv]
  refine Finset.sum_congr rfl fun i _ => ?_
  rw [lat_at x0 x1 x2 x3 x4 x5 x6 x7 x8 x9 x10 W hw, hw.wv, mul_comm]

theorem kr_at (hw : Kvw W x2 x3 x4 x8 x9 x10) (t : Fin 1024) (l : Fin 128) : k0_pay98 x0 x1 x2 x3 x4 x5 x6 x7 x8 x9 x10 (ix2 t l) = rlane W (fun d => x0 (ix3 0 t d)) (fun k => x1 (ix5 0 0 0 k t)) (fun k => x1 (ix5 0 0 1 k t)) l := by
  unfold Gen.k0_pay98 Gen.k0_pay92 Gen.k0_pay93
  rw [rope0_apply, ld_x4, rlane]
  simp only [cos_apply, sin_apply]
  have e : (fun y => ∑ d : Fin 1024, x4 (ix2 y d) * k0_pay94 x0 x1 x2 x3 x4 x5 x6 x7 x8 x9 x10 (ix2 t d)) = fun y : Fin 32 => pr W (fun d => x0 (ix3 0 t d)) ⟨640 + y.val, by omega⟩ := by
    funext y
    rw [pr]
    refine Finset.sum_congr rfl fun d _ => ?_
    rw [xn_at x0 x1 x2 x3 x4 x5 x6 x7 x8 x9 x10 W hw, hw.wkr, mul_comm]
  rw [e]

theorem k_at (hw : Kvw W x2 x3 x4 x8 x9 x10) (h : Fin 8) (t : Fin 1024) (l : Fin 128) : out0_12 x0 x1 x2 x3 x4 x5 x6 x7 x8 x9 x10 (ix4 0 h t l) = klane W (fun d => x0 (ix3 0 t d)) (fun k => x1 (ix5 0 0 0 k t)) (fun k => x1 (ix5 0 0 1 k t)) h l := by
  rw [Head0.st0_12_apply, Head0.headk, kk_at x0 x1 x2 x3 x4 x5 x6 x7 x8 x9 x10 W hw, kr_at x0 x1 x2 x3 x4 x5 x6 x7 x8 x9 x10 W hw, klane]
  have e : (128 * h.val + l.val) % 128 = l.val := by omega
  simp only [e]

theorem v_at (hw : Kvw W x2 x3 x4 x8 x9 x10) (h : Fin 8) (t : Fin 1024) (l : Fin 128) : out0_13 x0 x1 x2 x3 x4 x5 x6 x7 x8 x9 x10 (ix5 0 h 0 l t) = vlane W (fun d => x0 (ix3 0 t d)) h l := by
  rw [Head0.st0_13_apply, Head0.headv, vlane]
  by_cases h1 : l.val < 64
  · rw [dif_pos h1, dif_pos h1, vt_at x0 x1 x2 x3 x4 x5 x6 x7 x8 x9 x10 W hw]
    have e1 : (64 * h.val + l.val) / 64 = h.val := by omega
    have e2 : (64 * h.val + l.val) % 64 = l.val := by omega
    simp only [e1, e2]
  · rw [dif_neg h1, dif_neg h1]
    unfold Gen.k0_pay101
    rw [one0_apply]
    have e : (l.val - 64 = 0) = (l.val = 64) := propext ⟨fun _ => by omega, fun _ => by omega⟩
    simp only [e]

theorem hq_at (hw : Kvw W x2 x3 x4 x8 x9 x10) (hq : Qw W x6 x7) (h : Fin 8) (t : Fin 1024) (l : Fin 128) :
    Head0.headq h (k0_pay92 x0 x1 x2 x3 x4 x5 x6 x7 x8 x9 x10) (k0_pay93 x0 x1 x2 x3 x4 x5 x6 x7 x8 x9 x10) (k0_pay103 x0 x1 x2 x3 x4 x5 x6 x7 x8 x9 x10) (k0_pay104 x0 x1 x2 x3 x4 x5 x6 x7 x8 x9 x10) l t = qlane (Named.named (F := Ideal) κ "scale_log2e" (φ := .f32) 0x3E16C740#32) W (fun d => x0 (ix3 0 t d)) (fun k => x1 (ix5 0 0 0 k t)) (fun k => x1 (ix5 0 0 1 k t)) h l := by
  have ec : ∀ k, k0_pay92 x0 x1 x2 x3 x4 x5 x6 x7 x8 x9 x10 (ix2 k t) = x1 (ix5 0 0 0 k t) := fun k => cos_apply x1 k t
  have es : ∀ k, k0_pay93 x0 x1 x2 x3 x4 x5 x6 x7 x8 x9 x10 (ix2 k t) = x1 (ix5 0 0 1 k t) := fun k => sin_apply x1 k t
  have ez : ∀ k, k0_pay104 x0 x1 x2 x3 x4 x5 x6 x7 x8 x9 x10 (ix2 k t) = 0 := fun k => z0_apply k t
  rw [Head0.headq, qlane]
  simp only [ec, es, ez, qt_at x0 x1 x2 x3 x4 x5 x6 x7 x8 x9 x10 W hw hq]
  by_cases h1 : l.val < 64
  · rw [dif_pos h1, dif_pos h1]
  by_cases h2 : l.val - 64 < 16
  · have h3 : l.val < 96 := by omega
    rw [dif_neg h1, dif_neg h1, dif_pos h2, dif_pos h3, rot, dif_pos h2]
    simp only [show 64 + (16 + (l.val - 64)) = 80 + (l.val - 64) from by omega]
  by_cases h3 : l.val - 64 - 16 < 16
  · have h4 : l.val < 96 := by omega
    rw [dif_neg h1, dif_neg h1, dif_neg h2, dif_pos h3, dif_pos h4, rot, dif_neg h2]
    simp only [show 80 + (l.val - 64 - 16) = 64 + (l.val - 64) from by omega]
  · have h4 : ¬ l.val < 96 := by omega
    rw [dif_neg h1, dif_neg h1, dif_neg h2, dif_neg h3, dif_neg h4]

theorem q_at (hw : Kvw W x2 x3 x4 x8 x9 x10) (hq : Qw W x6 x7) (h : Fin 8) (t : Fin 1024) (l : Fin 128) : out0_11 x0 x1 x2 x3 x4 x5 x6 x7 x8 x9 x10 (ix5 0 h 0 l t) = qlane (Named.named (F := Ideal) κ "scale_log2e" (φ := .f32) 0x3E16C740#32) W (fun d => x0 (ix3 0 t d)) (fun k => x1 (ix5 0 0 0 k t)) (fun k => x1 (ix5 0 0 1 k t)) h l := by
  exact (Head0.st0_11_apply x0 x1 x2 x3 x4 x5 x6 x7 x8 x9 x10 h l t).trans (hq_at x0 x1 x2 x3 x4 x5 x6 x7 x8 x9 x10 W hw hq h t l)

theorem qnorm_at (hw : Kvw W x2 x3 x4 x8 x9 x10) (hq : Qw W x6 x7) (h : Fin 8) (t : Fin 1024) : out0_15 x0 x1 x2 x3 x4 x5 x6 x7 x8 x9 x10 (ix5 0 h 0 0 t)
    = Ideal.sqrt (∑ l, qlane (Named.named (F := Ideal) κ "scale_log2e" (φ := .f32) 0x3E16C740#32) W (fun d => x0 (ix3 0 t d)) (fun k => x1 (ix5 0 0 0 k t)) (fun k => x1 (ix5 0 0 1 k t)) h l * qlane (Named.named (F := Ideal) κ "scale_log2e" (φ := .f32) 0x3E16C740#32) W (fun d => x0 (ix3 0 t d)) (fun k => x1 (ix5 0 0 0 k t)) (fun k => x1 (ix5 0 0 1 k t)) h l) := by
  rw [Head0.st0_15_apply]
  simp only [hq_at x0 x1 x2 x3 x4 x5 x6 x7 x8 x9 x10 W hw hq]

theorem ksq_at (hw : Kvw W x2 x3 x4 x8 x9 x10) (h : Fin 8) (l : Fin 128) : out0_16 x0 x1 x2 x3 x4 x5 x6 x7 x8 x9 x10 (ix5 0 h 0 0 l)
    = Finset.univ.fold max (Ideal.ofBits .f32 0xFF800000#32) fun t : Fin 1024 => ∑ l, klane W (fun d => x0 (ix3 0 t d)) (fun k => x1 (ix5 0 0 0 k t)) (fun k => x1 (ix5 0 0 1 k t)) h l * klane W (fun d => x0 (ix3 0 t d)) (fun k => x1 (ix5 0 0 0 k t)) (fun k => x1 (ix5 0 0 1 k t)) h l := by
  have e : ∀ t l, Head0.headk h (k0_pay98 x0 x1 x2 x3 x4 x5 x6 x7 x8 x9 x10) (k0_pay99 x0 x1 x2 x3 x4 x5 x6 x7 x8 x9 x10) t l = klane W (fun d => x0 (ix3 0 t d)) (fun k => x1 (ix5 0 0 0 k t)) (fun k => x1 (ix5 0 0 1 k t)) h l := fun t l => by
    rw [← Head0.st0_12_apply]
    exact k_at x0 x1 x2 x3 x4 x5 x6 x7 x8 x9 x10 W hw h t l
  rw [Head0.st0_16_apply]
  simp only [e]

end Cert.KernelIdeal.Rows0

end
-- ==== Proof.Arr0.lean ====
/- What the first call leaves in its arrays. -/
module

public import proofs.«01_k».proof.Proof.Host
public import proofs.«01_k».proof.Proof.Rows0
public import Idealize.ShloMosaic.Lib.Pipeline.ValueKit

@[expose] public section

set_option maxRecDepth 16384

noncomputable section

namespace Cert.KernelIdeal.Arr

open Idealize.ShloMosaic Idealize.ShloMosaic.TcCoe Idealize.SL.Sem
open Cert.KernelIdeal Cert.KernelIdeal.Gen Cert.Layer Cert.KernelIdeal.Host
open Idealize.ShloMosaic.Pipeline

/-- The layer's weights, out of the arguments. -/
def Wt (A : Valuation τ sig (Elt Ideal)) : Wts where
  g1 d := r_arg3 A (ix2 0 d)
  win d e := r_arg4 A (ix3 0 d e)
  gq d := r_arg5 A (ix2 0 d)
  wq d e := r_arg6 A (ix3 0 d e)
  gkv d := r_arg7 A (ix2 0 d)
  wkv d e := r_arg8 A (ix3 0 d e)

/-- The named constant. -/
def scl : EReal := Named.named (F := Ideal) κ "scale_log2e" (φ := .f32) 0x3E16C740#32

/-- A row of the sequence and its position. -/
def row (A : Valuation τ sig (Elt Ideal)) (b : Fin 4) (q : Fin 8192) (d : Fin 1024) : EReal := r_arg0 A (ix3 b q d)
def pos (A : Valuation τ sig (Elt Ideal)) (b : Fin 4) (q : Fin 8192) : BitVec 32 := r_arg1 A (ix2 b q) + 16#32

/-- Row `t` of tile `n`. -/
def tl (n : Fin 8) (t : Fin 1024) : Fin 8192 := ⟨n.val * 1024 + t.val, by omega⟩

/-- The query, key and value lanes of row `q` of batch `b`. -/
def ql (A : Valuation τ sig (Elt Ideal)) (b : Fin 4) (q : Fin 8192) (h : Fin 8) (l : Fin 128) : EReal :=
  qlane scl (Wt A) (row A b q) (cosT (pos A b q)) (sinT (pos A b q)) h l
def kl (A : Valuation τ sig (Elt Ideal)) (b : Fin 4) (q : Fin 8192) (h : Fin 8) (l : Fin 128) : EReal :=
  klane (Wt A) (row A b q) (cosT (pos A b q)) (sinT (pos A b q)) h l
def vv (A : Valuation τ sig (Elt Ideal)) (b : Fin 4) (q : Fin 8192) (h : Fin 8) (l : Fin 128) : EReal :=
  vlane (Wt A) (row A b q) h l

theorem ix5_02 {n1 n3 n4 : ℕ} (y : (⟨5, ![1, n1, 1, n3, n4]⟩ : Shape).Idx) : y = ix5 (n0 := 1) (n1 := n1) (n2 := 1) (n3 := n3) (n4 := n4) 0 (y 1) 0 (y 3) (y 4) := by
  funext a
  match a with
  | ⟨0, _⟩ => exact Subsingleton.elim (α := Fin 1) _ _
  | ⟨1, _⟩ => rfl
  | ⟨2, _⟩ => exact Subsingleton.elim (α := Fin 1) _ _
  | ⟨3, _⟩ => rfl
  | ⟨4, _⟩ => rfl

theorem ix5_023 {n1 n4 : ℕ} (y : (⟨5, ![1, n1, 1, 1, n4]⟩ : Shape).Idx) : y = ix5 (n0 := 1) (n1 := n1) (n2 := 1) (n3 := 1) (n4 := n4) 0 (y 1) 0 0 (y 4) := by
  funext a
  match a with
  | ⟨0, _⟩ => exact Subsingleton.elim (α := Fin 1) _ _
  | ⟨1, _⟩ => rfl
  | ⟨2, _⟩ => exact Subsingleton.elim (α := Fin 1) _ _
  | ⟨3, _⟩ => exact Subsingleton.elim (α := Fin 1) _ _
  | ⟨4, _⟩ => rfl

theorem ix4_0 {n1 n2 n3 : ℕ} (y : (⟨4, ![1, n1, n2, n3]⟩ : Shape).Idx) : y = ix4 (n0 := 1) (n1 := n1) (n2 := n2) (n3 := n3) 0 (y 1) (y 2) (y 3) := by
  funext a
  match a with
  | ⟨0, _⟩ => exact Subsingleton.elim (α := Fin 1) _ _
  | ⟨1, _⟩ => rfl
  | ⟨2, _⟩ => rfl
  | ⟨3, _⟩ => rfl

theorem congr3 {α β γ ε : Type*} (f : α → β → γ → ε) {a a' : α} {b b' : β} {c c' : γ} (h1 : a = a') (h2 : b = b') (h3 : c = c') :
    f a b c = f a' b' c' := by
  subst h1 h2 h3
  rfl

theorem congr4 {α β γ δ ε : Type*} (f : α → β → γ → δ → ε) {a a' : α} {b b' : β} {c c' : γ} {d d' : δ} (h1 : a = a') (h2 : b = b') (h3 : c = c') (h4 : d = d') :
    f a b c d = f a' b' c' d' := by
  subst h1 h2 h3 h4
  rfl

variable (m : (ℓ : Loc nD τ sig) → Buf (Elt Ideal) ℓ) (ρ : Dev nD → PrngReg) (c : Dev nD)

/-- The blocks' places. -/
theorem i0 : ∀ t : Fin cfg0.N, win0_0.index t = ![(grid0.coords t 0).val, (grid0.coords t 1).val, 0] := by
  show ∀ t : Fin grid0.N, win0_0.index t = ![(grid0.coords t 0).val, (grid0.coords t 1).val, 0]
  decide +kernel
theorem i1 : ∀ t : Fin cfg0.N, win0_1.index t = ![(grid0.coords t 0).val, (grid0.coords t 1).val, 0, 0, 0] := by
  show ∀ t : Fin grid0.N, win0_1.index t = ![(grid0.coords t 0).val, (grid0.coords t 1).val, 0, 0, 0]
  decide +kernel
theorem i2 : ∀ t : Fin cfg0.N, win0_2.index t = ![0, 0] := by
  show ∀ t : Fin grid0.N, win0_2.index t = ![0, 0]
  decide +kernel
theorem i3 : ∀ t : Fin cfg0.N, win0_3.index t = ![0, 0] := by
  show ∀ t : Fin grid0.N, win0_3.index t = ![0, 0]
  decide +kernel
theorem i4 : ∀ t : Fin cfg0.N, win0_4.index t = ![0, 0] := by
  show ∀ t : Fin grid0.N, win0_4.index t = ![0, 0]
  decide +kernel
theorem i5 : ∀ t : Fin cfg0.N, win0_5.index t = ![0, 0] := by
  show ∀ t : Fin grid0.N, win0_5.index t = ![0, 0]
  decide +kernel
theorem i6 : ∀ t : Fin cfg0.N, win0_6.index t = ![0, 0] := by
  show ∀ t : Fin grid0.N, win0_6.index t = ![0, 0]
  decide +kernel
theorem i7 : ∀ t : Fin cfg0.N, win0_7.index t = ![0, 0] := by
  show ∀ t : Fin grid0.N, win0_7.index t = ![0, 0]
  decide +kernel
theorem i8 : ∀ t : Fin cfg0.N, win0_8.index t = ![0, 0] := by
  show ∀ t : Fin grid0.N, win0_8.index t = ![0, 0]
  decide +kernel
theorem i9 : ∀ t : Fin cfg0.N, win0_9.index t = ![0, 0] := by
  show ∀ t : Fin grid0.N, win0_9.index t = ![0, 0]
  decide +kernel
theorem i10 : ∀ t : Fin cfg0.N, win0_10.index t = ![0, 0] := by
  show ∀ t : Fin grid0.N, win0_10.index t = ![0, 0]
  decide +kernel
theorem i11 : ∀ t : Fin cfg0.N, win0_11.index t = ![(grid0.coords t 0).val, 0, (grid0.coords t 1).val, 0, 0] := by
  show ∀ t : Fin grid0.N, win0_11.index t = ![(grid0.coords t 0).val, 0, (grid0.coords t 1).val, 0, 0]
  decide +kernel
theorem i12 : ∀ t : Fin cfg0.N, win0_12.index t = ![(grid0.coords t 0).val, 0, (grid0.coords t 1).val, 0] := by
  show ∀ t : Fin grid0.N, win0_12.index t = ![(grid0.coords t 0).val, 0, (grid0.coords t 1).val, 0]
  decide +kernel
theorem i13 : ∀ t : Fin cfg0.N, win0_13.index t = ![(grid0.coords t 0).val, 0, (grid0.coords t 1).val, 0, 0] := by
  show ∀ t : Fin grid0.N, win0_13.index t = ![(grid0.coords t 0).val, 0, (grid0.coords t 1).val, 0, 0]
  decide +kernel
theorem i15 : ∀ t : Fin cfg0.N, win0_15.index t = ![(grid0.coords t 0).val, 0, (grid0.coords t 1).val, 0, 0] := by
  show ∀ t : Fin grid0.N, win0_15.index t = ![(grid0.coords t 0).val, 0, (grid0.coords t 1).val, 0, 0]
  decide +kernel
theorem i16 : ∀ t : Fin cfg0.N, win0_16.index t = ![(grid0.coords t 0).val, 0, (grid0.coords t 1).val, 0, 0] := by
  show ∀ t : Fin grid0.N, win0_16.index t = ![(grid0.coords t 0).val, 0, (grid0.coords t 1).val, 0, 0]
  decide +kernel

theorem x_blk (t : Fin cfg0.N) (r d : Fin 1024) : (iblk0 (V1 m ρ) c 0 t : Vec Ideal S1x1024x1024 .f32) (ix3 0 r d) = row (W0 m ρ c) (grid0.coords t 0) (tl (grid0.coords t 1) r) d := by
  have e : V1 m ρ c main_arg0 = W0 m ρ c (Proc.devRef .tc main_arg0) := W1_of m ρ c main_arg0 (by decide)
  unfold iblk0 row r_arg0
  rw [← e]
  blk_ext [i0, tl]

theorem cs_blk (t : Fin cfg0.N) (k : Fin 16) (r : Fin 1024) : (iblk0 (V1 m ρ) c 1 t : Vec Ideal S1x1x2x16x1024 .f32) (ix5 0 0 0 k r) = cosT (pos (W0 m ρ c) (grid0.coords t 0) (tl (grid0.coords t 1) r)) k := by
  refine Eq.trans ?_ (v54_cos_at (W0 m ρ c) (grid0.coords t 0) (grid0.coords t 1) k r)
  unfold iblk0
  blk_ext [i1]

theorem sn_blk (t : Fin cfg0.N) (k : Fin 16) (r : Fin 1024) : (iblk0 (V1 m ρ) c 1 t : Vec Ideal S1x1x2x16x1024 .f32) (ix5 0 0 1 k r) = sinT (pos (W0 m ρ c) (grid0.coords t 0) (tl (grid0.coords t 1) r)) k := by
  refine Eq.trans ?_ (v54_sin_at (W0 m ρ c) (grid0.coords t 0) (grid0.coords t 1) k r)
  unfold iblk0
  blk_ext [i1]

theorem g1_blk (t : Fin cfg0.N) (d : Fin 1024) : (iblk0 (V1 m ρ) c 2 t : Vec Ideal S1x1024 .f32) (ix2 0 d) = (W1 m ρ c (Proc.devRef .tc main_v24) : Vec Ideal S1x1024 .f32) (ix2 0 d) := by
  unfold iblk0
  blk_ext [i2]

theorem win_blk (t : Fin cfg0.N) (d : Fin 1024) (e : Fin 640) : (iblk0 (V1 m ρ) c 3 t : Vec Ideal S1024x640 .bf16) (ix2 d e) = (W1 m ρ c (Proc.devRef .tc main_v4) : Vec Ideal S1024x640 .bf16) (ix2 d e) := by
  unfold iblk0
  blk_ext [i3]

theorem wkr_blk (t : Fin cfg0.N) (e : Fin 32) (d : Fin 1024) : (iblk0 (V1 m ρ) c 4 t : Vec Ideal S32x1024 .bf16) (ix2 e d) = (W1 m ρ c (Proc.devRef .tc main_v7) : Vec Ideal S32x1024 .bf16) (ix2 e d) := by
  unfold iblk0
  blk_ext [i4]

theorem gkv_blk (t : Fin cfg0.N) (i : Fin 256) : (iblk0 (V1 m ρ) c 8 t : Vec Ideal S1x256 .f32) (ix2 0 i) = (W1 m ρ c (Proc.devRef .tc main_v28) : Vec Ideal S1x256 .f32) (ix2 0 i) := by
  unfold iblk0
  blk_ext [i8]

theorem wk_blk (t : Fin cfg0.N) (i : Fin 256) (e : Fin 1024) : (iblk0 (V1 m ρ) c 9 t : Vec Ideal S256x1024 .bf16) (ix2 i e) = (W1 m ρ c (Proc.devRef .tc main_v18) : Vec Ideal S256x1024 .bf16) (ix2 i e) := by
  unfold iblk0
  blk_ext [i9]

theorem wv_blk (t : Fin cfg0.N) (e : Fin 512) (i : Fin 256) : (iblk0 (V1 m ρ) c 10 t : Vec Ideal S512x256 .bf16) (ix2 e i) = (W1 m ρ c (Proc.devRef .tc main_v22) : Vec Ideal S512x256 .bf16) (ix2 e i) := by
  unfold iblk0
  blk_ext [i10]

theorem kvw (t : Fin cfg0.N) : Kvw (Wt (W0 m ρ c)) (iblk0 (V1 m ρ) c 2 t) (iblk0 (V1 m ρ) c 3 t) (iblk0 (V1 m ρ) c 4 t) (iblk0 (V1 m ρ) c 8 t) (iblk0 (V1 m ρ) c 9 t) (iblk0 (V1 m ρ) c 10 t) := by
  refine ⟨fun d => (g1_blk m ρ c t d).trans (v24_at (W0 m ρ c) d), fun d e => (win_blk m ρ c t d e).trans (v4_at (W0 m ρ c) d e),
    fun e d => (wkr_blk m ρ c t e d).trans (v7_at (W0 m ρ c) e d), fun i => (gkv_blk m ρ c t i).trans (v28_at (W0 m ρ c) i),
    fun i e => (wk_blk m ρ c t i e).trans (v18_at (W0 m ρ c) i e),
    fun e i => (wv_blk m ρ c t e i).trans ((v22_at (W0 m ρ c) e i).trans (congrArg (fun k => r_arg8 (W0 m ρ c) (ix3 0 i k)) (Fin.ext ?_)))⟩
  show e.val / 64 * 128 + (64 + e.val % 64) = 128 * (e.val / 64) + (64 + e.val % 64)
  omega

theorem qw (t : Fin cfg0.N) : Qw (Wt (W0 m ρ c)) (iblk0 (V1 m ρ) c 6 t) (iblk0 (V1 m ρ) c 7 t) := by
  refine ⟨fun i => ?_, fun o i => ?_⟩
  · refine Eq.trans ?_ (v26_at (W0 m ρ c) i)
    unfold iblk0
    blk_ext [i6]
  · refine Eq.trans ?_ (v12_at (W0 m ρ c) o i)
    unfold iblk0
    blk_ext [i7]

theorem q_blk (t : Fin cfg0.N) (h : Fin 8) (l : Fin 128) (r : Fin 1024) : out0_11 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (ix5 0 h 0 l r) = ql (W0 m ρ c) (grid0.coords t 0) (tl (grid0.coords t 1) r) h l := by
  refine (Rows0.q_at (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (Wt (W0 m ρ c)) (kvw m ρ c t) (qw m ρ c t) h r l).trans ?_
  rw [show (fun d => (iblk0 (V1 m ρ) c 0 t : Vec Ideal S1x1024x1024 .f32) (ix3 0 r d)) = row (W0 m ρ c) (grid0.coords t 0) (tl (grid0.coords t 1) r) from funext fun d => x_blk m ρ c t r d,
    show (fun k => (iblk0 (V1 m ρ) c 1 t : Vec Ideal S1x1x2x16x1024 .f32) (ix5 0 0 0 k r)) = cosT (pos (W0 m ρ c) (grid0.coords t 0) (tl (grid0.coords t 1) r)) from funext fun k => cs_blk m ρ c t k r,
    show (fun k => (iblk0 (V1 m ρ) c 1 t : Vec Ideal S1x1x2x16x1024 .f32) (ix5 0 0 1 k r)) = sinT (pos (W0 m ρ c) (grid0.coords t 0) (tl (grid0.coords t 1) r)) from funext fun k => sn_blk m ρ c t k r]
  rfl

theorem k_blk (t : Fin cfg0.N) (h : Fin 8) (r : Fin 1024) (l : Fin 128) : out0_12 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (ix4 0 h r l) = kl (W0 m ρ c) (grid0.coords t 0) (tl (grid0.coords t 1) r) h l := by
  refine (Rows0.k_at (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (Wt (W0 m ρ c)) (kvw m ρ c t) h r l).trans ?_
  rw [show (fun d => (iblk0 (V1 m ρ) c 0 t : Vec Ideal S1x1024x1024 .f32) (ix3 0 r d)) = row (W0 m ρ c) (grid0.coords t 0) (tl (grid0.coords t 1) r) from funext fun d => x_blk m ρ c t r d,
    show (fun k => (iblk0 (V1 m ρ) c 1 t : Vec Ideal S1x1x2x16x1024 .f32) (ix5 0 0 0 k r)) = cosT (pos (W0 m ρ c) (grid0.coords t 0) (tl (grid0.coords t 1) r)) from funext fun k => cs_blk m ρ c t k r,
    show (fun k => (iblk0 (V1 m ρ) c 1 t : Vec Ideal S1x1x2x16x1024 .f32) (ix5 0 0 1 k r)) = sinT (pos (W0 m ρ c) (grid0.coords t 0) (tl (grid0.coords t 1) r)) from funext fun k => sn_blk m ρ c t k r]
  rfl

theorem v_blk (t : Fin cfg0.N) (h : Fin 8) (l : Fin 128) (r : Fin 1024) : out0_13 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (ix5 0 h 0 l r) = vv (W0 m ρ c) (grid0.coords t 0) (tl (grid0.coords t 1) r) h l := by
  refine (Rows0.v_at (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (Wt (W0 m ρ c)) (kvw m ρ c t) h r l).trans ?_
  rw [show (fun d => (iblk0 (V1 m ρ) c 0 t : Vec Ideal S1x1024x1024 .f32) (ix3 0 r d)) = row (W0 m ρ c) (grid0.coords t 0) (tl (grid0.coords t 1) r) from funext fun d => x_blk m ρ c t r d]
  rfl

theorem qnorm_blk (t : Fin cfg0.N) (h : Fin 8) (r : Fin 1024) : out0_15 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (ix5 0 h 0 0 r) = Ideal.sqrt (∑ l : Fin 128, ql (W0 m ρ c) (grid0.coords t 0) (tl (grid0.coords t 1) r) h l * ql (W0 m ρ c) (grid0.coords t 0) (tl (grid0.coords t 1) r) h l) := by
  refine (Rows0.qnorm_at (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (Wt (W0 m ρ c)) (kvw m ρ c t) (qw m ρ c t) h r).trans ?_
  rw [show (fun d => (iblk0 (V1 m ρ) c 0 t : Vec Ideal S1x1024x1024 .f32) (ix3 0 r d)) = row (W0 m ρ c) (grid0.coords t 0) (tl (grid0.coords t 1) r) from funext fun d => x_blk m ρ c t r d,
    show (fun k => (iblk0 (V1 m ρ) c 1 t : Vec Ideal S1x1x2x16x1024 .f32) (ix5 0 0 0 k r)) = cosT (pos (W0 m ρ c) (grid0.coords t 0) (tl (grid0.coords t 1) r)) from funext fun k => cs_blk m ρ c t k r,
    show (fun k => (iblk0 (V1 m ρ) c 1 t : Vec Ideal S1x1x2x16x1024 .f32) (ix5 0 0 1 k r)) = sinT (pos (W0 m ρ c) (grid0.coords t 0) (tl (grid0.coords t 1) r)) from funext fun k => sn_blk m ρ c t k r]
  rfl

theorem ksq_blk (t : Fin cfg0.N) (h : Fin 8) (l : Fin 128) : out0_16 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (ix5 0 h 0 0 l) = Finset.univ.fold max (Ideal.ofBits .f32 0xFF800000#32) fun r : Fin 1024 => ∑ l : Fin 128, kl (W0 m ρ c) (grid0.coords t 0) (tl (grid0.coords t 1) r) h l * kl (W0 m ρ c) (grid0.coords t 0) (tl (grid0.coords t 1) r) h l := by
  refine (Rows0.ksq_at (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (Wt (W0 m ρ c)) (kvw m ρ c t) h l).trans ?_
  refine congrArg (Finset.fold max _ · _) (funext fun r => ?_)
  rw [show (fun d => (iblk0 (V1 m ρ) c 0 t : Vec Ideal S1x1024x1024 .f32) (ix3 0 r d)) = row (W0 m ρ c) (grid0.coords t 0) (tl (grid0.coords t 1) r) from funext fun d => x_blk m ρ c t r d,
    show (fun k => (iblk0 (V1 m ρ) c 1 t : Vec Ideal S1x1x2x16x1024 .f32) (ix5 0 0 0 k r)) = cosT (pos (W0 m ρ c) (grid0.coords t 0) (tl (grid0.coords t 1) r)) from funext fun k => cs_blk m ρ c t k r,
    show (fun k => (iblk0 (V1 m ρ) c 1 t : Vec Ideal S1x1x2x16x1024 .f32) (ix5 0 0 1 k r)) = sinT (pos (W0 m ρ c) (grid0.coords t 0) (tl (grid0.coords t 1) r)) from funext fun k => sn_blk m ρ c t k r]
  rfl

/-- The array `main_v55_0`. -/
def qG (A : Valuation τ sig (Elt Ideal)) : Vec Ideal S4x8x8x128x1024 .bf16 := fun i => ql A (i 0) (tl (i 2) (i 4)) (i 1) (i 3)

theorem q_emb (t : Fin cfg0.N) (y : S1x8x1x128x1024.Idx) : qG (W0 m ρ c) (((cfg0.win 11).blk t).view.emb y) = ql (W0 m ρ c) (grid0.coords t 0) (tl (grid0.coords t 1) (y 4)) (y 1) (y 3) := by
  unfold qG
  refine congr4 (ql (W0 m ρ c)) (Fin.ext ?_) (Fin.ext ?_) (Fin.ext ?_) (Fin.ext ?_) <;> first | (blk_simp [i11, tl]; done) | (simp only [tl]; blk_simp [i11]; done) | (simp only [tl]; blk_simp [i11]; omega) | skip

theorem q_after (t : Fin cfg0.N) (y : S1x8x1x128x1024.Idx) : (dat0 (V1 m ρ) c).after 11 t y = ql (W0 m ρ c) (grid0.coords t 0) (tl (grid0.coords t 1) (y 4)) (y 1) (y 3) := by
  refine (congrFun (after0_11 (V1 m ρ) c t) y).trans ?_
  refine Eq.trans (congrArg (out0_11 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t)) (ix5_02 y)) (q_blk m ρ c t (y 1) (y 3) (y 4))

theorem q_arr : W2 m ρ c (Proc.devRef .tc main_v55_0) = qG (W0 m ρ c) := by
  refine (W2_arr m ρ c 11).trans ?_
  refine Dat.arrAt_eq_of_covers (dat0 (V1 m ρ) c) 11 (qG (W0 m ρ c)) (by decide +kernel) fun t hf y => ?_
  blk_simp
  exact (q_after m ρ c t y).trans (q_emb m ρ c t y).symm

/-- The array `main_v55_1`. -/
def kG (A : Valuation τ sig (Elt Ideal)) : Vec Ideal S4x8x8192x128 .bf16 := fun i => kl A (i 0) (i 2) (i 1) (i 3)

theorem k_emb (t : Fin cfg0.N) (y : S1x8x1024x128.Idx) : kG (W0 m ρ c) (((cfg0.win 12).blk t).view.emb y) = kl (W0 m ρ c) (grid0.coords t 0) (tl (grid0.coords t 1) (y 2)) (y 1) (y 3) := by
  unfold kG
  refine congr4 (kl (W0 m ρ c)) (Fin.ext ?_) (Fin.ext ?_) (Fin.ext ?_) (Fin.ext ?_) <;> first | (blk_simp [i12, tl]; done) | (simp only [tl]; blk_simp [i12]; done) | (simp only [tl]; blk_simp [i12]; omega) | skip

theorem k_after (t : Fin cfg0.N) (y : S1x8x1024x128.Idx) : (dat0 (V1 m ρ) c).after 12 t y = kl (W0 m ρ c) (grid0.coords t 0) (tl (grid0.coords t 1) (y 2)) (y 1) (y 3) := by
  refine (congrFun (after0_12 (V1 m ρ) c t) y).trans ?_
  refine Eq.trans (congrArg (out0_12 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t)) (ix4_0 y)) (k_blk m ρ c t (y 1) (y 2) (y 3))

theorem k_arr : W2 m ρ c (Proc.devRef .tc main_v55_1) = kG (W0 m ρ c) := by
  refine (W2_arr m ρ c 12).trans ?_
  refine Dat.arrAt_eq_of_covers (dat0 (V1 m ρ) c) 12 (kG (W0 m ρ c)) (by decide +kernel) fun t hf y => ?_
  blk_simp
  exact (k_after m ρ c t y).trans (k_emb m ρ c t y).symm

/-- The array `main_v55_2`. -/
def vG (A : Valuation τ sig (Elt Ideal)) : Vec Ideal S4x8x8x128x1024 .bf16 := fun i => vv A (i 0) (tl (i 2) (i 4)) (i 1) (i 3)

theorem v_emb (t : Fin cfg0.N) (y : S1x8x1x128x1024.Idx) : vG (W0 m ρ c) (((cfg0.win 13).blk t).view.emb y) = vv (W0 m ρ c) (grid0.coords t 0) (tl (grid0.coords t 1) (y 4)) (y 1) (y 3) := by
  unfold vG
  refine congr4 (vv (W0 m ρ c)) (Fin.ext ?_) (Fin.ext ?_) (Fin.ext ?_) (Fin.ext ?_) <;> first | (blk_simp [i13, tl]; done) | (simp only [tl]; blk_simp [i13]; done) | (simp only [tl]; blk_simp [i13]; omega) | skip

theorem v_after (t : Fin cfg0.N) (y : S1x8x1x128x1024.Idx) : (dat0 (V1 m ρ) c).after 13 t y = vv (W0 m ρ c) (grid0.coords t 0) (tl (grid0.coords t 1) (y 4)) (y 1) (y 3) := by
  refine (congrFun (after0_13 (V1 m ρ) c t) y).trans ?_
  refine Eq.trans (congrArg (out0_13 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t)) (ix5_02 y)) (v_blk m ρ c t (y 1) (y 3) (y 4))

theorem v_arr : W2 m ρ c (Proc.devRef .tc main_v55_2) = vG (W0 m ρ c) := by
  refine (W2_arr m ρ c 13).trans ?_
  refine Dat.arrAt_eq_of_covers (dat0 (V1 m ρ) c) 13 (vG (W0 m ρ c)) (by decide +kernel) fun t hf y => ?_
  blk_simp
  exact (v_after m ρ c t y).trans (v_emb m ρ c t y).symm

/-- The length of a query row, and the largest square length of a tile's key rows. -/
def qnrm (A : Valuation τ sig (Elt Ideal)) (b : Fin 4) (q : Fin 8192) (h : Fin 8) : EReal := Ideal.sqrt (∑ l : Fin 128, ql A b q h l * ql A b q h l)
def ksq (A : Valuation τ sig (Elt Ideal)) (b : Fin 4) (n : Fin 8) (h : Fin 8) : EReal :=
  Finset.univ.fold max (Ideal.ofBits .f32 0xFF800000#32) fun r : Fin 1024 => ∑ l : Fin 128, kl A b (tl n r) h l * kl A b (tl n r) h l

/-- The array `main_v55_4`. -/
def qnormG (A : Valuation τ sig (Elt Ideal)) : Vec Ideal S4x8x8x1x1024 .f32 := fun i => qnrm A (i 0) (tl (i 2) (i 4)) (i 1)

theorem qnorm_emb (t : Fin cfg0.N) (y : S1x8x1x1x1024.Idx) : qnormG (W0 m ρ c) (((cfg0.win 15).blk t).view.emb y) = qnrm (W0 m ρ c) (grid0.coords t 0) (tl (grid0.coords t 1) (y 4)) (y 1) := by
  unfold qnormG
  refine congr3 (qnrm (W0 m ρ c)) (Fin.ext ?_) (Fin.ext ?_) (Fin.ext ?_) <;> first | (blk_simp [i15, tl]; done) | (simp only [tl]; blk_simp [i15]; done) | (simp only [tl]; blk_simp [i15]; omega) | skip

theorem qnorm_after (t : Fin cfg0.N) (y : S1x8x1x1x1024.Idx) : (dat0 (V1 m ρ) c).after 15 t y = qnrm (W0 m ρ c) (grid0.coords t 0) (tl (grid0.coords t 1) (y 4)) (y 1) := by
  refine (congrFun (after0_15 (V1 m ρ) c t) y).trans ?_
  refine Eq.trans (congrArg (out0_15 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t)) (ix5_023 y)) (qnorm_blk m ρ c t (y 1) (y 4))

theorem qnorm_arr : W2 m ρ c (Proc.devRef .tc main_v55_4) = qnormG (W0 m ρ c) := by
  refine (W2_arr m ρ c 15).trans ?_
  refine Dat.arrAt_eq_of_covers (dat0 (V1 m ρ) c) 15 (qnormG (W0 m ρ c)) (by decide +kernel) fun t hf y => ?_
  blk_simp
  exact (qnorm_after m ρ c t y).trans (qnorm_emb m ρ c t y).symm

/-- The array `main_v55_5`. -/
def ksqG (A : Valuation τ sig (Elt Ideal)) : Vec Ideal S4x8x8x1x128 .f32 := fun i => ksq A (i 0) (i 2) (i 1)

theorem ksq_emb (t : Fin cfg0.N) (y : S1x8x1x1x128.Idx) : ksqG (W0 m ρ c) (((cfg0.win 16).blk t).view.emb y) = ksq (W0 m ρ c) (grid0.coords t 0) (grid0.coords t 1) (y 1) := by
  unfold ksqG
  refine congr3 (ksq (W0 m ρ c)) (Fin.ext ?_) (Fin.ext ?_) (Fin.ext ?_) <;> first | (blk_simp [i16, tl]; done) | (simp only [tl]; blk_simp [i16]; done) | (simp only [tl]; blk_simp [i16]; omega) | skip

theorem ksq_after (t : Fin cfg0.N) (y : S1x8x1x1x128.Idx) : (dat0 (V1 m ρ) c).after 16 t y = ksq (W0 m ρ c) (grid0.coords t 0) (grid0.coords t 1) (y 1) := by
  refine (congrFun (after0_16 (V1 m ρ) c t) y).trans ?_
  refine Eq.trans (congrArg (out0_16 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t)) (ix5_023 y)) (ksq_blk m ρ c t (y 1) (y 4))

theorem ksq_arr : W2 m ρ c (Proc.devRef .tc main_v55_5) = ksqG (W0 m ρ c) := by
  refine (W2_arr m ρ c 16).trans ?_
  refine Dat.arrAt_eq_of_covers (dat0 (V1 m ρ) c) 16 (ksqG (W0 m ρ c)) (by decide +kernel) fun t hf y => ?_
  blk_simp
  exact (ksq_after m ρ c t y).trans (ksq_emb m ρ c t y).symm

end Cert.KernelIdeal.Arr

end
-- ==== Proof.Head1.lean ====
/- What the meta tokens' call stores for each head, over the extended reals. -/
module

public import proofs.«01_k».proof.Proof.Gen.KernelIdeal.Frame
public import proofs.«01_k».proof.Proof.Spec
public import Idealize.ShloMosaic.Lib.Pointwise

@[expose] public section

set_option maxRecDepth 16384

noncomputable section

namespace Cert.KernelIdeal.Head1

open Idealize.ShloMosaic Idealize.ShloMosaic.TcCoe Idealize.SL.Sem
open Cert.KernelIdeal Cert.KernelIdeal.Gen Cert.Layer

/-- Lane `l` of head `h`'s keys. -/
def headk (h : Fin 8) (r : FVec Ideal S128x128 .f32) (kk : FVec Ideal S128x1024 .f32) (t : Fin 128) (l : Fin 128) : EReal :=
  kk (ix2 t ⟨128 * h.val + l.val, by omega⟩) + r (ix2 t l)

/-- Row `l` of head `h`'s values, transposed, the row of ones behind them. -/
def headv (h : Fin 8) (v : FVec Ideal S512x128 .f32) (on : FVec Ideal S64x128 .f32) (l : Fin 128) (t : Fin 128) : EReal :=
  if h1 : l.val < 64 then v (ix2 ⟨64 * h.val + l.val, by omega⟩ t) else on (ix2 ⟨l.val - 64, by omega⟩ t)

theorem k7_apply (r : FVec Ideal S128x128 .f32) (kk : FVec Ideal S128x1024 .f32) (t : Fin 128) (l : Fin 128) :
    k1_pay31 r kk (ix4 0 0 t l) = headk 7 r kk t l := by
  pointwise [headk, k1_pay31]

theorem k6_apply (r : FVec Ideal S128x128 .f32) (kk : FVec Ideal S128x1024 .f32) (t : Fin 128) (l : Fin 128) :
    k1_pay29 r kk (ix4 0 0 t l) = headk 6 r kk t l := by
  pointwise [headk, k1_pay29]

theorem k5_apply (r : FVec Ideal S128x128 .f32) (kk : FVec Ideal S128x1024 .f32) (t : Fin 128) (l : Fin 128) :
    k1_pay27 (k1_pay26 r kk) (ix4 0 0 t l) = headk 5 r kk t l := by
  pointwise [headk, k1_pay27, k1_pay26]

theorem k4_apply (r : FVec Ideal S128x128 .f32) (kk : FVec Ideal S128x1024 .f32) (t : Fin 128) (l : Fin 128) :
    k1_pay24 r kk (ix4 0 0 t l) = headk 4 r kk t l := by
  pointwise [headk, k1_pay24]

theorem k3_apply (r : FVec Ideal S128x128 .f32) (kk : FVec Ideal S128x1024 .f32) (t : Fin 128) (l : Fin 128) :
    k1_pay22 r kk (ix4 0 0 t l) = headk 3 r kk t l := by
  pointwise [headk, k1_pay22]

theorem k2_apply (r : FVec Ideal S128x128 .f32) (kk : FVec Ideal S128x1024 .f32) (t : Fin 128) (l : Fin 128) :
    k1_pay19 r kk (ix4 0 0 t l) = headk 2 r kk t l := by
  pointwise [headk, k1_pay19]

theorem k1_apply (r : FVec Ideal S128x128 .f32) (kk : FVec Ideal S128x1024 .f32) (t : Fin 128) (l : Fin 128) :
    k1_pay17 r kk (ix4 0 0 t l) = headk 1 r kk t l := by
  pointwise [headk, k1_pay17]

theorem k0_apply (r : FVec Ideal S128x128 .f32) (h0 : FVec Ideal S128x128 .f32) (t : Fin 128) (l : Fin 128) :
    k1_pay15 r h0 (ix4 0 0 t l) = h0 (ix2 t l) + r (ix2 t l) := by
  pointwise [k1_pay15]

theorem v7_apply (v : FVec Ideal S512x128 .f32) (on : FVec Ideal S64x128 .f32) (l : Fin 128) (t : Fin 128) :
    k1_pay1 (k1_pay32 v on) (ix5 0 0 0 l t) = headv 7 v on l t := by
  pointwise [headv, k1_pay1, k1_pay32]

theorem v6_apply (v : FVec Ideal S512x128 .f32) (on : FVec Ideal S64x128 .f32) (l : Fin 128) (t : Fin 128) :
    k1_pay30 v on (ix5 0 0 0 l t) = headv 6 v on l t := by
  pointwise [headv, k1_pay30]

theorem v5_apply (v : FVec Ideal S512x128 .f32) (on : FVec Ideal S64x128 .f32) (l : Fin 128) (t : Fin 128) :
    k1_pay28 v on (ix5 0 0 0 l t) = headv 5 v on l t := by
  pointwise [headv, k1_pay28]

theorem v4_apply (v : FVec Ideal S512x128 .f32) (on : FVec Ideal S64x128 .f32) (l : Fin 128) (t : Fin 128) :
    k1_pay25 v on (ix5 0 0 0 l t) = headv 4 v on l t := by
  pointwise [headv, k1_pay25]

theorem v3_apply (v : FVec Ideal S512x128 .f32) (on : FVec Ideal S64x128 .f32) (l : Fin 128) (t : Fin 128) :
    k1_pay23 v on (ix5 0 0 0 l t) = headv 3 v on l t := by
  pointwise [headv, k1_pay23]

theorem v2_apply (v : FVec Ideal S512x128 .f32) (on : FVec Ideal S64x128 .f32) (l : Fin 128) (t : Fin 128) :
    k1_pay21 (k1_pay20 v on) (ix5 0 0 0 l t) = headv 2 v on l t := by
  pointwise [headv, k1_pay21, k1_pay20]

theorem v1_apply (v : FVec Ideal S512x128 .f32) (on : FVec Ideal S64x128 .f32) (l : Fin 128) (t : Fin 128) :
    k1_pay18 v on (ix5 0 0 0 l t) = headv 1 v on l t := by
  pointwise [headv, k1_pay18]

theorem v0_apply (v : FVec Ideal S512x128 .f32) (on : FVec Ideal S64x128 .f32) (l : Fin 128) (t : Fin 128) :
    k1_pay16 v on (ix5 0 0 0 l t) = headv 0 v on l t := by
  pointwise [headv, k1_pay16]

end Cert.KernelIdeal.Head1

end
-- ==== Proof.Store1.lean ====
/- The meta tokens' call's block of every result, read at an index. -/
module

public import proofs.«01_k».proof.Proof.Head1
public import Idealize.ShloMosaic.Lib.Pipeline.ValueKit

@[expose] public section

set_option maxRecDepth 16384

noncomputable section

namespace Cert.KernelIdeal.Head1

open Idealize.ShloMosaic Idealize.ShloMosaic.TcCoe Idealize.SL.Sem
open Cert.KernelIdeal Cert.KernelIdeal.Gen Cert.Layer

variable (x0 : Vec Ideal S1x128x1024 .f32) (x1 : Vec Ideal S1x1x2x16x128 .f32) (x2 : Vec Ideal S1x1024 .f32) (x3 : Vec Ideal S1024x640 .bf16) (x4 : Vec Ideal S32x1024 .bf16) (x5 : Vec Ideal S512x1024 .bf16) (x6 : Vec Ideal S1x256 .f32) (x7 : Vec Ideal S256x1024 .bf16) (x8 : Vec Ideal S512x256 .bf16)

theorem h0_apply (t : Fin 128) (l : Fin 128) : k1_pay14 (k1_pay34 x0 x1 x2 x3 x4 x5 x6 x7 x8) (k1_pay35 x0 x1 x2 x3 x4 x5 x6 x7 x8) (k1_pay36 x0 x1 x2 x3 x4 x5 x6 x7 x8) (Scalar.ofBits .f32 0x358637BD#32) (View.ld x7 r1_7) (ix2 t l)
    = k1_pay38 x0 x1 x2 x3 x4 x5 x6 x7 x8 (ix2 t ⟨l.val, by omega⟩) := by
  unfold Gen.k1_pay38
  generalize k1_pay34 x0 x1 x2 x3 x4 x5 x6 x7 x8 = p
  generalize k1_pay35 x0 x1 x2 x3 x4 x5 x6 x7 x8 = g
  generalize k1_pay36 x0 x1 x2 x3 x4 x5 x6 x7 x8 = q
  generalize View.ld x7 r1_7 = w
  generalize hc : (Scalar.ofBits .f32 0x358637BD#32 : Ideal .f32) = c
  generalize hv : k1_pay10 p g q c w = v
  pointwise [k1_pay14, hv]

theorem st1_9_apply (h : Fin 8) (t : Fin 128) (l : Fin 128) :
    out1_9 x0 x1 x2 x3 x4 x5 x6 x7 x8 (ix4 0 h t l) = headk h (k1_pay37 x0 x1 x2 x3 x4 x5 x6 x7 x8) (k1_pay38 x0 x1 x2 x3 x4 x5 x6 x7 x8) t l := by
  unfold out1_9
  have hh := fun l => h0_apply x0 x1 x2 x3 x4 x5 x6 x7 x8 t l
  generalize k1_pay37 x0 x1 x2 x3 x4 x5 x6 x7 x8 = r
  generalize k1_pay38 x0 x1 x2 x3 x4 x5 x6 x7 x8 = kk at hh ⊢
  canon_tiles x e using cover1_9 (F := Ideal) _ _ _ _ _ _ _ _ _
  all_goals
    obtain ⟨a0, a1, a2, a3, rfl⟩ : ∃ a0 a1 a2 a3, x = ix4 a0 a1 a2 a3 := ⟨_, _, _, _, eq_ix4 x⟩
    obtain rfl : a0 = 0 := Subsingleton.elim _ _
    obtain rfl : a1 = 0 := Subsingleton.elim _ _
    obtain rfl : t = a2 := Fin.ext e2
    obtain rfl : l = a3 := Fin.ext e3
  · obtain rfl : h = 7 := Fin.ext e1
    exact k7_apply r kk t l
  · obtain rfl : h = 6 := Fin.ext e1
    exact k6_apply r kk t l
  · obtain rfl : h = 5 := Fin.ext e1
    exact k5_apply r kk t l
  · obtain rfl : h = 4 := Fin.ext e1
    exact k4_apply r kk t l
  · obtain rfl : h = 3 := Fin.ext e1
    exact k3_apply r kk t l
  · obtain rfl : h = 2 := Fin.ext e1
    exact k2_apply r kk t l
  · obtain rfl : h = 1 := Fin.ext e1
    exact k1_apply r kk t l
  · obtain rfl : h = 0 := Fin.ext e1
    exact (k0_apply r _ t l).trans (by rw [hh, headk]; simp)

theorem st1_10_apply (h : Fin 8) (l : Fin 128) (t : Fin 128) :
    out1_10 x0 x1 x2 x3 x4 x5 x6 x7 x8 (ix5 0 h 0 l t) = headv h (k1_pay39 x0 x1 x2 x3 x4 x5 x6 x7 x8) (k1_pay40 x0 x1 x2 x3 x4 x5 x6 x7 x8) l t := by
  unfold out1_10
  generalize k1_pay39 x0 x1 x2 x3 x4 x5 x6 x7 x8 = v
  generalize k1_pay40 x0 x1 x2 x3 x4 x5 x6 x7 x8 = on
  canon_tiles x e using cover1_10 (F := Ideal) _ _ _ _ _ _ _ _ _
  all_goals
    obtain ⟨a0, a1, a2, a3, a4, rfl⟩ : ∃ a0 a1 a2 a3 a4, x = ix5 a0 a1 a2 a3 a4 := ⟨_, _, _, _, _, eq_ix5 x⟩
    obtain rfl : a0 = 0 := Subsingleton.elim _ _
    obtain rfl : a1 = 0 := Subsingleton.elim _ _
    obtain rfl : a2 = 0 := Subsingleton.elim _ _
    obtain rfl : l = a3 := Fin.ext e3
    obtain rfl : t = a4 := Fin.ext e4
  · obtain rfl : h = 7 := Fin.ext e1
    exact v7_apply v on l t
  · obtain rfl : h = 6 := Fin.ext e1
    exact v6_apply v on l t
  · obtain rfl : h = 5 := Fin.ext e1
    exact v5_apply v on l t
  · obtain rfl : h = 4 := Fin.ext e1
    exact v4_apply v on l t
  · obtain rfl : h = 3 := Fin.ext e1
    exact v3_apply v on l t
  · obtain rfl : h = 2 := Fin.ext e1
    exact v2_apply v on l t
  · obtain rfl : h = 1 := Fin.ext e1
    exact v1_apply v on l t
  · obtain rfl : h = 0 := Fin.ext e1
    exact v0_apply v on l t

end Cert.KernelIdeal.Head1

end
-- ==== Proof.Proj1.lean ====
/- The same values of the meta tokens' call. -/
module

public import proofs.«01_k».proof.Proof.Gen.KernelIdeal.Frame
public import proofs.«01_k».proof.Proof.Proj0
public import Idealize.ShloMosaic.Lib.Pointwise

@[expose] public section

set_option maxRecDepth 16384

noncomputable section

namespace Cert.KernelIdeal.Proj

open Idealize.ShloMosaic Idealize.ShloMosaic.TcCoe Idealize.SL.Sem
open Cert.KernelIdeal Cert.KernelIdeal.Gen Cert.Layer

theorem x1_apply (x : Vec Ideal S1x128x1024 .f32) (g : Vec Ideal S1x1024 .f32) (t : Fin 128) (d : Fin 1024) :
    k1_pay4 x g (ix2 t d) = rms (Ideal.ofBits .f32 0x44800000#32) (fun d => x (ix3 0 t d)) (fun d => g (ix2 0 d)) d := by
  pointwise [k1_pay4]
  rfl

theorem s1_apply (x : Vec Ideal S1x128x1024 .f32) (g : Vec Ideal S1x1024 .f32) (w : Vec Ideal S1024x640 .bf16) (t : Fin 128) (e : Fin 256) :
    k1_pay5 x g w (ix2 t e) = ∑ d : Fin 1024, k1_pay4 x g (ix2 t d) * w (ix2 d ⟨384 + e.val, by omega⟩) := by
  generalize hv : k1_pay4 x g = v
  pointwise [k1_pay5, hv]

theorem ms1_apply (x : Vec Ideal S1x128x1024 .f32) (g : Vec Ideal S1x1024 .f32) (w : Vec Ideal S1024x640 .bf16) (t : Fin 128) :
    k1_pay7 x g w (ix2 t 0) = Ideal.div (∑ e : Fin 256, k1_pay5 x g w (ix2 t e) * k1_pay5 x g w (ix2 t e)) (Ideal.ofBits .f32 0x43800000#32) := by
  generalize hv : k1_pay5 x g w = v
  pointwise [k1_pay7, hv]

theorem lat1_apply (p : FVec Ideal S128x256 .f32) (g : FVec Ideal S1x256 .f32) (q : FVec Ideal S128x1 .f32) (c : EReal) (t : Fin 128) (i : Fin 256) :
    k1_pay8 (F := Ideal) p g q c (ix2 t i) = p (ix2 t i) * Ideal.rsqrt (q (ix2 t 0) + c) * g (ix2 0 i) := by
  pointwise [k1_pay8]

theorem kk1_apply (p : FVec Ideal S128x256 .f32) (g : FVec Ideal S1x256 .f32) (q : FVec Ideal S128x1 .f32) (c : EReal) (w : Vec Ideal S256x1024 .bf16) (t : Fin 128) (e : Fin 1024) :
    k1_pay10 (F := Ideal) p g q c w (ix2 t e) = ∑ i : Fin 256, k1_pay8 (F := Ideal) p g q c (ix2 t i) * w (ix2 i e) := by
  generalize hv : k1_pay8 (F := Ideal) p g q c = v
  pointwise [k1_pay10, hv]

theorem vt1_apply (p : FVec Ideal S128x256 .f32) (g : FVec Ideal S1x256 .f32) (q : FVec Ideal S128x1 .f32) (c : EReal) (w : Vec Ideal S512x256 .bf16) (e : Fin 512) (t : Fin 128) :
    k1_pay11 (F := Ideal) p g q c w (ix2 e t) = ∑ i : Fin 256, w (ix2 e i) * k1_pay8 (F := Ideal) p g q c (ix2 t i) := by
  generalize hv : k1_pay8 (F := Ideal) p g q c = v
  pointwise [k1_pay11, hv]

theorem one1_apply (e : Fin 64) (t : Fin 128) : k1_pay12 (F := Ideal) (ix2 e t) = if e.val = 0 then 1 else 0 := by
  pointwise [k1_pay12]
  exact one_val e.val (by omega)

theorem rope1_apply (c s : FVec Ideal S16x128 .f32) (x : FVec Ideal S128x1024 .bf16) (w : Vec Ideal S32x1024 .bf16) (t : Fin 128) (l : Fin 128) :
    k1_pay9 c s x w (ix2 t l) = if h : l.val < 64 then 0 else if h' : l.val < 96 then
      rot (fun k => c (ix2 k t)) (fun k => s (ix2 k t)) (fun y => ∑ d : Fin 1024, w (ix2 y d) * x (ix2 t d)) ⟨l.val - 64, by omega⟩ else 0 := by
  pointwise [k1_pay9]
  by_cases h1 : l.val < 64
  · rw [dif_pos h1, dif_pos h1]
  by_cases h2 : l.val - 64 < 16
  · have h3 : l.val < 96 := by omega
    rw [dif_neg h1, dif_neg h1, dif_pos h2, dif_pos h3, rot, dif_pos h2]
  by_cases h3 : l.val - 64 - 16 < 16
  · have h4 : l.val < 96 := by omega
    rw [dif_neg h1, dif_neg h1, dif_neg h2, dif_pos h3, dif_pos h4, rot, dif_neg h2]
    simp only [show 16 + (l.val - 64 - 16) = l.val - 64 from by omega]
  · have h4 : ¬ l.val < 96 := by omega
    rw [dif_neg h1, dif_neg h1, dif_neg h2, dif_neg h3, dif_neg h4]

end Cert.KernelIdeal.Proj

end
-- ==== Proof.Rows1.lean ====
/- What the meta tokens' call stores, in the words of the layer. -/
module

public import proofs.«01_k».proof.Proof.Store1
public import proofs.«01_k».proof.Proof.Proj1
public import proofs.«01_k».proof.Proof.Lanes

@[expose] public section

set_option maxRecDepth 16384

noncomputable section

namespace Cert.KernelIdeal.Rows1

open Idealize.ShloMosaic Idealize.ShloMosaic.TcCoe Idealize.SL.Sem
open Cert.KernelIdeal Cert.KernelIdeal.Gen Cert.KernelIdeal.Proj Cert.Layer

theorem ld_x0 (x : Vec Ideal S1x128x1024 .f32) : View.ld x r1_2 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega
  | ⟨2, _⟩ =>
    show 0 + 1 * (i 2).val = (i 2).val
    omega

theorem ld_x2 (x : Vec Ideal S1x1024 .f32) : View.ld x r1_3 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem ld_x3 (x : Vec Ideal S1024x640 .bf16) : View.ld x r1_4 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem ld_g (x : Vec Ideal S1x256 .f32) : View.ld x r1_5 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem ld_x4 (x : Vec Ideal S32x1024 .bf16) : View.ld x r1_6 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem ld_wk (x : Vec Ideal S256x1024 .bf16) : View.ld x r1_7 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem ld_wv (x : Vec Ideal S512x256 .bf16) : View.ld x r1_8 = x := by
  funext i
  refine congrArg x (funext fun a => Fin.ext ?_)
  match a with
  | ⟨0, _⟩ =>
    show 0 + 1 * (i 0).val = (i 0).val
    omega
  | ⟨1, _⟩ =>
    show 0 + 1 * (i 1).val = (i 1).val
    omega

theorem cos_apply (x : Vec Ideal S1x1x2x16x128 .f32) (k : Fin 16) (t : Fin 128) : k1_pay2 (View.ld x r1_0) (ix2 k t) = x (ix5 0 0 0 k t) := by
  have e : View.ld x r1_0 = fun i => x (ix5 0 0 0 (i 3) (i 4)) := by
    funext i
    refine congrArg x (funext fun a => Fin.ext ?_)
    match a with
    | ⟨0, _⟩ =>
      have h := (i 0).isLt
      have h0 : (i 0).val = 0 := Nat.lt_one_iff.mp h
      show 0 + 1 * (i 0).val = 0
      omega
    | ⟨1, _⟩ =>
      have h := (i 1).isLt
      have h0 : (i 1).val = 0 := Nat.lt_one_iff.mp h
      show 0 + 1 * (i 1).val = 0
      omega
    | ⟨2, _⟩ =>
      have h := (i 2).isLt
      have h0 : (i 2).val = 0 := Nat.lt_one_iff.mp h
      show 0 + 1 * (i 2).val = 0
      omega
    | ⟨3, _⟩ =>
      show 0 + 1 * (i 3).val = (i 3).val
      omega
    | ⟨4, _⟩ =>
      show 0 + 1 * (i 4).val = (i 4).val
      omega
  rw [e]
  pointwise [k1_pay2]

theorem sin_apply (x : Vec Ideal S1x1x2x16x128 .f32) (k : Fin 16) (t : Fin 128) : k1_pay3 (View.ld x r1_1) (ix2 k t) = x (ix5 0 0 1 k t) := by
  have e : View.ld x r1_1 = fun i => x (ix5 0 0 1 (i 3) (i 4)) := by
    funext i
    refine congrArg x (funext fun a => Fin.ext ?_)
    match a with
    | ⟨0, _⟩ =>
      have h := (i 0).isLt
      have h0 : (i 0).val = 0 := Nat.lt_one_iff.mp h
      show 0 + 1 * (i 0).val = 0
      omega
    | ⟨1, _⟩ =>
      have h := (i 1).isLt
      have h0 : (i 1).val = 0 := Nat.lt_one_iff.mp h
      show 0 + 1 * (i 1).val = 0
      omega
    | ⟨2, _⟩ =>
      have h := (i 2).isLt
      have h0 : (i 2).val = 0 := Nat.lt_one_iff.mp h
      show 1 + 1 * (i 2).val = 1
      omega
    | ⟨3, _⟩ =>
      show 0 + 1 * (i 3).val = (i 3).val
      omega
    | ⟨4, _⟩ =>
      show 0 + 1 * (i 4).val = (i 4).val
      omega
  rw [e]
  pointwise [k1_pay3]

variable (x0 : Vec Ideal S1x128x1024 .f32) (x1 : Vec Ideal S1x1x2x16x128 .f32) (x2 : Vec Ideal S1x1024 .f32) (x3 : Vec Ideal S1024x640 .bf16) (x4 : Vec Ideal S32x1024 .bf16) (x5 : Vec Ideal S512x1024 .bf16) (x6 : Vec Ideal S1x256 .f32) (x7 : Vec Ideal S256x1024 .bf16) (x8 : Vec Ideal S512x256 .bf16)
variable (W : Wts)

include x0 x1 x2 x3 x4 x5 x6 x7 x8 W

theorem xn_at (hw : Kvw W x2 x3 x4 x6 x7 x8) (t : Fin 128) (d : Fin 1024) : k1_pay33 x0 x1 x2 x3 x4 x5 x6 x7 x8 (ix2 t d) = xn W (fun d => x0 (ix3 0 t d)) d := by
  unfold Gen.k1_pay33
  rw [ld_x0, ld_x2, x1_apply, xn]
  exact congrArg (fun g => rms (Ideal.ofBits .f32 0x44800000#32) (fun d => x0 (ix3 0 t d)) g d) (funext hw.g1)

theorem s_at (hw : Kvw W x2 x3 x4 x6 x7 x8) (t : Fin 128) (e : Fin 256) : k1_pay5 (View.ld x0 r1_2) (View.ld x2 r1_3) (View.ld x3 r1_4) (ix2 t e) = pr W (fun d => x0 (ix3 0 t d)) ⟨384 + e.val, by omega⟩ := by
  rw [s1_apply, pr]
  refine Finset.sum_congr rfl fun d _ => ?_
  rw [show k1_pay4 (View.ld x0 r1_2) (View.ld x2 r1_3) (ix2 t d) = _ from xn_at x0 x1 x2 x3 x4 x5 x6 x7 x8 W hw t d, ld_x3, hw.win]

theorem g_at (hw : Kvw W x2 x3 x4 x6 x7 x8) (i : Fin 256) : k1_pay35 x0 x1 x2 x3 x4 x5 x6 x7 x8 (ix2 0 i) = W.gkv i := by
  unfold Gen.k1_pay35
  rw [ld_g, ← hw.gkv]
  pointwise [k1_pay6]

theorem lat_at (hw : Kvw W x2 x3 x4 x6 x7 x8) (t : Fin 128) (i : Fin 256) : k1_pay8 (F := Ideal) (k1_pay34 x0 x1 x2 x3 x4 x5 x6 x7 x8) (k1_pay35 x0 x1 x2 x3 x4 x5 x6 x7 x8) (k1_pay36 x0 x1 x2 x3 x4 x5 x6 x7 x8) (Scalar.ofBits .f32 0x358637BD#32) (ix2 t i) = kvlat W (fun d => x0 (ix3 0 t d)) i := by
  rw [lat1_apply, g_at x0 x1 x2 x3 x4 x5 x6 x7 x8 W hw]
  unfold Gen.k1_pay34 Gen.k1_pay36
  rw [ms1_apply, kvlat, rms]
  simp only [s_at x0 x1 x2 x3 x4 x5 x6 x7 x8 W hw]
  rfl

theorem kk_at (hw : Kvw W x2 x3 x4 x6 x7 x8) (t : Fin 128) (e : Fin 1024) : k1_pay38 x0 x1 x2 x3 x4 x5 x6 x7 x8 (ix2 t e) = if e.val % 128 < 64 then kv W (fun d => x0 (ix3 0 t d)) e else 0 := by
  unfold Gen.k1_pay38
  rw [kk1_apply, ld_wk]
  simp only [lat_at x0 x1 x2 x3 x4 x5 x6 x7 x8 W hw, hw.wk]
  split_ifs with h
  · rfl
  · simp only [mul_zero, Finset.sum_const_zero]

theorem vt_at (hw : Kvw W x2 x3 x4 x6 x7 x8) (t : Fin 128) (e : Fin 512) : k1_pay39 x0 x1 x2 x3 x4 x5 x6 x7 x8 (ix2 e t) = kv W (fun d => x0 (ix3 0 t d)) ⟨128 * (e.val / 64) + (64 + e.val % 64), by omega⟩ := by
  unfold Gen.k1_pay39
  rw [vt1_apply, ld_wv, kv]
  refine Finset.sum_congr rfl fun i _ => ?_
  rw [lat_at x0 x1 x2 x3 x4 x5 x6 x7 x8 W hw, hw.wv, mul_comm]

theorem kr_at (hw : Kvw W x2 x3 x4 x6 x7 x8) (t : Fin 128) (l : Fin 128) : k1_pay37 x0 x1 x2 x3 x4 x5 x6 x7 x8 (ix2 t l) = rlane W (fun d => x0 (ix3 0 t d)) (fun k => x1 (ix5 0 0 0 k t)) (fun k => x1 (ix5 0 0 1 k t)) l := by
  unfold Gen.k1_pay37
  rw [rope1_apply, ld_x4, rlane]
  simp only [cos_apply, sin_apply]
  have e : (fun y => ∑ d : Fin 1024, x4 (ix2 y d) * k1_pay33 x0 x1 x2 x3 x4 x5 x6 x7 x8 (ix2 t d)) = fun y : Fin 32 => pr W (fun d => x0 (ix3 0 t d)) ⟨640 + y.val, by omega⟩ := by
    funext y
    rw [pr]
    refine Finset.sum_congr rfl fun d _ => ?_
    rw [xn_at x0 x1 x2 x3 x4 x5 x6 x7 x8 W hw, hw.wkr, mul_comm]
  rw [e]

theorem k_at (hw : Kvw W x2 x3 x4 x6 x7 x8) (h : Fin 8) (t : Fin 128) (l : Fin 128) : out1_9 x0 x1 x2 x3 x4 x5 x6 x7 x8 (ix4 0 h t l) = klane W (fun d => x0 (ix3 0 t d)) (fun k => x1 (ix5 0 0 0 k t)) (fun k => x1 (ix5 0 0 1 k t)) h l := by
  rw [Head1.st1_9_apply, Head1.headk, kk_at x0 x1 x2 x3 x4 x5 x6 x7 x8 W hw, kr_at x0 x1 x2 x3 x4 x5 x6 x7 x8 W hw, klane]
  have e : (128 * h.val + l.val) % 128 = l.val := by omega
  simp only [e]

theorem v_at (hw : Kvw W x2 x3 x4 x6 x7 x8) (h : Fin 8) (t : Fin 128) (l : Fin 128) : out1_10 x0 x1 x2 x3 x4 x5 x6 x7 x8 (ix5 0 h 0 l t) = vlane W (fun d => x0 (ix3 0 t d)) h l := by
  rw [Head1.st1_10_apply, Head1.headv, vlane]
  by_cases h1 : l.val < 64
  · rw [dif_pos h1, dif_pos h1, vt_at x0 x1 x2 x3 x4 x5 x6 x7 x8 W hw]
    have e1 : (64 * h.val + l.val) / 64 = h.val := by omega
    have e2 : (64 * h.val + l.val) % 64 = l.val := by omega
    simp only [e1, e2]
  · rw [dif_neg h1, dif_neg h1]
    unfold Gen.k1_pay40
    rw [one1_apply]
    have e : (l.val - 64 = 0) = (l.val = 64) := propext ⟨fun _ => by omega, fun _ => by omega⟩
    simp only [e]

end Cert.KernelIdeal.Rows1

end
-- ==== Proof.Arr1.lean ====
/- What the call on the meta tokens leaves in its arrays. -/
module

public import proofs.«01_k».proof.Proof.Arr0
public import proofs.«01_k».proof.Proof.Rows1
public import Idealize.ShloMosaic.Lib.Pipeline.ValueKit

@[expose] public section

set_option maxRecDepth 16384

noncomputable section

namespace Cert.KernelIdeal.Arr

open Idealize.ShloMosaic Idealize.ShloMosaic.TcCoe Idealize.SL.Sem
open Cert.KernelIdeal Cert.KernelIdeal.Gen Cert.Layer Cert.KernelIdeal.Host
open Idealize.ShloMosaic.Pipeline

/-- Row `t` of the padded meta tokens. -/
def mrow (A : Valuation τ sig (Elt Ideal)) (t : Fin 128) (d : Fin 1024) : EReal :=
  if h : t.val < 16 then r_arg2 A (ix2 ⟨t.val, h⟩ d) else 0

/-- The key and value lanes of padded meta row `t`. -/
def km (A : Valuation τ sig (Elt Ideal)) (t : Fin 128) (h : Fin 8) (l : Fin 128) : EReal :=
  klane (Wt A) (mrow A t) (cosT (BitVec.ofNat 32 t.val)) (sinT (BitVec.ofNat 32 t.val)) h l
def vm (A : Valuation τ sig (Elt Ideal)) (t : Fin 128) (h : Fin 8) (l : Fin 128) : EReal := vlane (Wt A) (mrow A t) h l

variable (m : (ℓ : Loc nD τ sig) → Buf (Elt Ideal) ℓ) (ρ : Dev nD → PrngReg) (c : Dev nD)

theorem j0 : ∀ t : Fin cfg1.N, win1_0.index t = ![0, 0, 0] := by
  show ∀ t : Fin grid1.N, win1_0.index t = ![0, 0, 0]
  decide +kernel
theorem j1 : ∀ t : Fin cfg1.N, win1_1.index t = ![0, 0, 0, 0, 0] := by
  show ∀ t : Fin grid1.N, win1_1.index t = ![0, 0, 0, 0, 0]
  decide +kernel
theorem j2 : ∀ t : Fin cfg1.N, win1_2.index t = ![0, 0] := by
  show ∀ t : Fin grid1.N, win1_2.index t = ![0, 0]
  decide +kernel
theorem j3 : ∀ t : Fin cfg1.N, win1_3.index t = ![0, 0] := by
  show ∀ t : Fin grid1.N, win1_3.index t = ![0, 0]
  decide +kernel
theorem j4 : ∀ t : Fin cfg1.N, win1_4.index t = ![0, 0] := by
  show ∀ t : Fin grid1.N, win1_4.index t = ![0, 0]
  decide +kernel
theorem j5 : ∀ t : Fin cfg1.N, win1_5.index t = ![0, 0] := by
  show ∀ t : Fin grid1.N, win1_5.index t = ![0, 0]
  decide +kernel
theorem j6 : ∀ t : Fin cfg1.N, win1_6.index t = ![0, 0] := by
  show ∀ t : Fin grid1.N, win1_6.index t = ![0, 0]
  decide +kernel
theorem j7 : ∀ t : Fin cfg1.N, win1_7.index t = ![0, 0] := by
  show ∀ t : Fin grid1.N, win1_7.index t = ![0, 0]
  decide +kernel
theorem j8 : ∀ t : Fin cfg1.N, win1_8.index t = ![0, 0] := by
  show ∀ t : Fin grid1.N, win1_8.index t = ![0, 0]
  decide +kernel
theorem j9 : ∀ t : Fin cfg1.N, win1_9.index t = ![0, 0, 0, 0] := by
  show ∀ t : Fin grid1.N, win1_9.index t = ![0, 0, 0, 0]
  decide +kernel
theorem j10 : ∀ t : Fin cfg1.N, win1_10.index t = ![0, 0, 0, 0, 0] := by
  show ∀ t : Fin grid1.N, win1_10.index t = ![0, 0, 0, 0, 0]
  decide +kernel
theorem W5_v24 : W5 m ρ c (Proc.devRef .tc main_v24) = W1 m ρ c (Proc.devRef .tc main_v24) := by
  exact (W5_of m ρ c main_v24 (by decide)).trans ((W4_of m ρ c main_v24 (by decide)).trans ((W3_of m ρ c main_v24 (by decide)).trans (W2_of m ρ c main_v24 (by decide +kernel))))

theorem W5_v4 : W5 m ρ c (Proc.devRef .tc main_v4) = W1 m ρ c (Proc.devRef .tc main_v4) := by
  exact (W5_of m ρ c main_v4 (by decide)).trans ((W4_of m ρ c main_v4 (by decide)).trans ((W3_of m ρ c main_v4 (by decide)).trans (W2_of m ρ c main_v4 (by decide +kernel))))

theorem W5_v7 : W5 m ρ c (Proc.devRef .tc main_v7) = W1 m ρ c (Proc.devRef .tc main_v7) := by
  exact (W5_of m ρ c main_v7 (by decide)).trans ((W4_of m ρ c main_v7 (by decide)).trans ((W3_of m ρ c main_v7 (by decide)).trans (W2_of m ρ c main_v7 (by decide +kernel))))

theorem W5_v10 : W5 m ρ c (Proc.devRef .tc main_v10) = W1 m ρ c (Proc.devRef .tc main_v10) := by
  exact (W5_of m ρ c main_v10 (by decide)).trans ((W4_of m ρ c main_v10 (by decide)).trans ((W3_of m ρ c main_v10 (by decide)).trans (W2_of m ρ c main_v10 (by decide +kernel))))

theorem W5_v28 : W5 m ρ c (Proc.devRef .tc main_v28) = W1 m ρ c (Proc.devRef .tc main_v28) := by
  exact (W5_of m ρ c main_v28 (by decide)).trans ((W4_of m ρ c main_v28 (by decide)).trans ((W3_of m ρ c main_v28 (by decide)).trans (W2_of m ρ c main_v28 (by decide +kernel))))

theorem W5_v18 : W5 m ρ c (Proc.devRef .tc main_v18) = W1 m ρ c (Proc.devRef .tc main_v18) := by
  exact (W5_of m ρ c main_v18 (by decide)).trans ((W4_of m ρ c main_v18 (by decide)).trans ((W3_of m ρ c main_v18 (by decide)).trans (W2_of m ρ c main_v18 (by decide +kernel))))

theorem W5_v22 : W5 m ρ c (Proc.devRef .tc main_v22) = W1 m ρ c (Proc.devRef .tc main_v22) := by
  exact (W5_of m ρ c main_v22 (by decide)).trans ((W4_of m ρ c main_v22 (by decide)).trans ((W3_of m ρ c main_v22 (by decide)).trans (W2_of m ρ c main_v22 (by decide +kernel))))

theorem x1_blk (t : Fin cfg1.N) (r : Fin 128) (d : Fin 1024) : (iblk1 (V5 m ρ) c 0 t : Vec Ideal S1x128x1024 .f32) (ix3 0 r d) = mrow (W0 m ρ c) r d := by
  have e : (iblk1 (V5 m ρ) c 0 t : Vec Ideal S1x128x1024 .f32) (ix3 0 r d) = (W5 m ρ c (Proc.devRef .tc main_v57) : Vec Ideal S1x128x1024 .f32) (ix3 0 r d) := by
    unfold iblk1
    blk_ext [j0]
  have e2 : W3 m ρ c (Proc.devRef .tc main_arg2) = W0 m ρ c (Proc.devRef .tc main_arg2) := (W3_args m ρ c main_arg2 (by decide)).trans (W0_args m ρ c main_arg2 (by decide)).symm
  refine e.trans ((v57_at (W4 m ρ c) r d).trans ((v56_at (W3 m ρ c) (c5_at (W2 m ρ c)) r d).trans ?_))
  unfold mrow r_arg2
  rw [e2]

theorem cs1_blk (t : Fin cfg1.N) (k : Fin 16) (r : Fin 128) : (iblk1 (V5 m ρ) c 1 t : Vec Ideal S1x1x2x16x128 .f32) (ix5 0 0 0 k r) = cosT (BitVec.ofNat 32 r.val) k := by
  refine Eq.trans ?_ (v83_cos_at (W4 m ρ c) k r)
  unfold iblk1
  blk_ext [j1]

theorem sn1_blk (t : Fin cfg1.N) (k : Fin 16) (r : Fin 128) : (iblk1 (V5 m ρ) c 1 t : Vec Ideal S1x1x2x16x128 .f32) (ix5 0 0 1 k r) = sinT (BitVec.ofNat 32 r.val) k := by
  refine Eq.trans ?_ (v83_sin_at (W4 m ρ c) k r)
  unfold iblk1
  blk_ext [j1]

theorem g11_blk (t : Fin cfg1.N) (d : Fin 1024) : (iblk1 (V5 m ρ) c 2 t : Vec Ideal S1x1024 .f32) (ix2 0 d) = (W1 m ρ c (Proc.devRef .tc main_v24) : Vec Ideal S1x1024 .f32) (ix2 0 d) := by
  rw [← W5_v24]
  unfold iblk1
  blk_ext [j2]

theorem win1_blk (t : Fin cfg1.N) (d : Fin 1024) (e : Fin 640) : (iblk1 (V5 m ρ) c 3 t : Vec Ideal S1024x640 .bf16) (ix2 d e) = (W1 m ρ c (Proc.devRef .tc main_v4) : Vec Ideal S1024x640 .bf16) (ix2 d e) := by
  rw [← W5_v4]
  unfold iblk1
  blk_ext [j3]

theorem wkr1_blk (t : Fin cfg1.N) (e : Fin 32) (d : Fin 1024) : (iblk1 (V5 m ρ) c 4 t : Vec Ideal S32x1024 .bf16) (ix2 e d) = (W1 m ρ c (Proc.devRef .tc main_v7) : Vec Ideal S32x1024 .bf16) (ix2 e d) := by
  rw [← W5_v7]
  unfold iblk1
  blk_ext [j4]

theorem gkv1_blk (t : Fin cfg1.N) (i : Fin 256) : (iblk1 (V5 m ρ) c 6 t : Vec Ideal S1x256 .f32) (ix2 0 i) = (W1 m ρ c (Proc.devRef .tc main_v28) : Vec Ideal S1x256 .f32) (ix2 0 i) := by
  rw [← W5_v28]
  unfold iblk1
  blk_ext [j6]

theorem wk1_blk (t : Fin cfg1.N) (i : Fin 256) (e : Fin 1024) : (iblk1 (V5 m ρ) c 7 t : Vec Ideal S256x1024 .bf16) (ix2 i e) = (W1 m ρ c (Proc.devRef .tc main_v18) : Vec Ideal S256x1024 .bf16) (ix2 i e) := by
  rw [← W5_v18]
  unfold iblk1
  blk_ext [j7]

theorem wv1_blk (t : Fin cfg1.N) (e : Fin 512) (i : Fin 256) : (iblk1 (V5 m ρ) c 8 t : Vec Ideal S512x256 .bf16) (ix2 e i) = (W1 m ρ c (Proc.devRef .tc main_v22) : Vec Ideal S512x256 .bf16) (ix2 e i) := by
  rw [← W5_v22]
  unfold iblk1
  blk_ext [j8]

theorem kvw1 (t : Fin cfg1.N) : Kvw (Wt (W0 m ρ c)) (iblk1 (V5 m ρ) c 2 t) (iblk1 (V5 m ρ) c 3 t) (iblk1 (V5 m ρ) c 4 t) (iblk1 (V5 m ρ) c 6 t) (iblk1 (V5 m ρ) c 7 t) (iblk1 (V5 m ρ) c 8 t) := by
  refine ⟨fun d => (g11_blk m ρ c t d).trans (v24_at (W0 m ρ c) d), fun d e => (win1_blk m ρ c t d e).trans (v4_at (W0 m ρ c) d e),
    fun e d => (wkr1_blk m ρ c t e d).trans (v7_at (W0 m ρ c) e d), fun i => (gkv1_blk m ρ c t i).trans (v28_at (W0 m ρ c) i),
    fun i e => (wk1_blk m ρ c t i e).trans (v18_at (W0 m ρ c) i e),
    fun e i => (wv1_blk m ρ c t e i).trans ((v22_at (W0 m ρ c) e i).trans (congrArg (fun k => r_arg8 (W0 m ρ c) (ix3 0 i k)) (Fin.ext ?_)))⟩
  show e.val / 64 * 128 + (64 + e.val % 64) = 128 * (e.val / 64) + (64 + e.val % 64)
  omega

theorem km_blk (t : Fin cfg1.N) (h : Fin 8) (r : Fin 128) (l : Fin 128) : out1_9 (iblk1 (V5 m ρ) c 0 t) (iblk1 (V5 m ρ) c 1 t) (iblk1 (V5 m ρ) c 2 t) (iblk1 (V5 m ρ) c 3 t) (iblk1 (V5 m ρ) c 4 t) (iblk1 (V5 m ρ) c 5 t) (iblk1 (V5 m ρ) c 6 t) (iblk1 (V5 m ρ) c 7 t) (iblk1 (V5 m ρ) c 8 t) (ix4 0 h r l) = km (W0 m ρ c) r h l := by
  refine (Rows1.k_at (iblk1 (V5 m ρ) c 0 t) (iblk1 (V5 m ρ) c 1 t) (iblk1 (V5 m ρ) c 2 t) (iblk1 (V5 m ρ) c 3 t) (iblk1 (V5 m ρ) c 4 t) (iblk1 (V5 m ρ) c 5 t) (iblk1 (V5 m ρ) c 6 t) (iblk1 (V5 m ρ) c 7 t) (iblk1 (V5 m ρ) c 8 t) (Wt (W0 m ρ c)) (kvw1 m ρ c t) h r l).trans ?_
  rw [show (fun d => (iblk1 (V5 m ρ) c 0 t : Vec Ideal S1x128x1024 .f32) (ix3 0 r d)) = mrow (W0 m ρ c) r from funext fun d => x1_blk m ρ c t r d,
    show (fun k => (iblk1 (V5 m ρ) c 1 t : Vec Ideal S1x1x2x16x128 .f32) (ix5 0 0 0 k r)) = cosT (BitVec.ofNat 32 r.val) from funext fun k => cs1_blk m ρ c t k r,
    show (fun k => (iblk1 (V5 m ρ) c 1 t : Vec Ideal S1x1x2x16x128 .f32) (ix5 0 0 1 k r)) = sinT (BitVec.ofNat 32 r.val) from funext fun k => sn1_blk m ρ c t k r]
  rfl

theorem vm_blk (t : Fin cfg1.N) (h : Fin 8) (l : Fin 128) (r : Fin 128) : out1_10 (iblk1 (V5 m ρ) c 0 t) (iblk1 (V5 m ρ) c 1 t) (iblk1 (V5 m ρ) c 2 t) (iblk1 (V5 m ρ) c 3 t) (iblk1 (V5 m ρ) c 4 t) (iblk1 (V5 m ρ) c 5 t) (iblk1 (V5 m ρ) c 6 t) (iblk1 (V5 m ρ) c 7 t) (iblk1 (V5 m ρ) c 8 t) (ix5 0 h 0 l r) = vm (W0 m ρ c) r h l := by
  refine (Rows1.v_at (iblk1 (V5 m ρ) c 0 t) (iblk1 (V5 m ρ) c 1 t) (iblk1 (V5 m ρ) c 2 t) (iblk1 (V5 m ρ) c 3 t) (iblk1 (V5 m ρ) c 4 t) (iblk1 (V5 m ρ) c 5 t) (iblk1 (V5 m ρ) c 6 t) (iblk1 (V5 m ρ) c 7 t) (iblk1 (V5 m ρ) c 8 t) (Wt (W0 m ρ c)) (kvw1 m ρ c t) h r l).trans ?_
  rw [show (fun d => (iblk1 (V5 m ρ) c 0 t : Vec Ideal S1x128x1024 .f32) (ix3 0 r d)) = mrow (W0 m ρ c) r from funext fun d => x1_blk m ρ c t r d]
  rfl

/-- The array `main_v84_0`. -/
def kmG (A : Valuation τ sig (Elt Ideal)) : Vec Ideal S1x8x128x128 .bf16 := fun i => km A (i 2) (i 1) (i 3)

theorem km_emb (t : Fin cfg1.N) (y : S1x8x128x128.Idx) : kmG (W0 m ρ c) (((cfg1.win 9).blk t).view.emb y) = km (W0 m ρ c) (y 2) (y 1) (y 3) := by
  unfold kmG
  refine congr3 (km (W0 m ρ c)) (Fin.ext ?_) (Fin.ext ?_) (Fin.ext ?_) <;> first | (blk_simp [j9]; done) | (blk_simp [j9]; omega) | skip

theorem km_after (t : Fin cfg1.N) (y : S1x8x128x128.Idx) : (dat1 (V5 m ρ) c).after 9 t y = km (W0 m ρ c) (y 2) (y 1) (y 3) := by
  refine (congrFun (after1_9 (V5 m ρ) c t) y).trans ?_
  refine Eq.trans (congrArg (out1_9 (iblk1 (V5 m ρ) c 0 t) (iblk1 (V5 m ρ) c 1 t) (iblk1 (V5 m ρ) c 2 t) (iblk1 (V5 m ρ) c 3 t) (iblk1 (V5 m ρ) c 4 t) (iblk1 (V5 m ρ) c 5 t) (iblk1 (V5 m ρ) c 6 t) (iblk1 (V5 m ρ) c 7 t) (iblk1 (V5 m ρ) c 8 t)) (ix4_0 y)) (km_blk m ρ c t (y 1) (y 2) (y 3))

theorem km_arr : W6 m ρ c (Proc.devRef .tc main_v84_0) = kmG (W0 m ρ c) := by
  refine (W6_arr m ρ c 9).trans ?_
  refine Dat.arrAt_eq_of_covers (dat1 (V5 m ρ) c) 9 (kmG (W0 m ρ c)) (by decide +kernel) fun t hf y => ?_
  blk_simp
  exact (km_after m ρ c t y).trans (km_emb m ρ c t y).symm

/-- The array `main_v84_1`. -/
def vmG (A : Valuation τ sig (Elt Ideal)) : Vec Ideal S1x8x1x128x128 .bf16 := fun i => vm A (i 4) (i 1) (i 3)

theorem vm_emb (t : Fin cfg1.N) (y : S1x8x1x128x128.Idx) : vmG (W0 m ρ c) (((cfg1.win 10).blk t).view.emb y) = vm (W0 m ρ c) (y 4) (y 1) (y 3) := by
  unfold vmG
  refine congr3 (vm (W0 m ρ c)) (Fin.ext ?_) (Fin.ext ?_) (Fin.ext ?_) <;> first | (blk_simp [j10]; done) | (blk_simp [j10]; omega) | skip

theorem vm_after (t : Fin cfg1.N) (y : S1x8x1x128x128.Idx) : (dat1 (V5 m ρ) c).after 10 t y = vm (W0 m ρ c) (y 4) (y 1) (y 3) := by
  refine (congrFun (after1_10 (V5 m ρ) c t) y).trans ?_
  refine Eq.trans (congrArg (out1_10 (iblk1 (V5 m ρ) c 0 t) (iblk1 (V5 m ρ) c 1 t) (iblk1 (V5 m ρ) c 2 t) (iblk1 (V5 m ρ) c 3 t) (iblk1 (V5 m ρ) c 4 t) (iblk1 (V5 m ρ) c 5 t) (iblk1 (V5 m ρ) c 6 t) (iblk1 (V5 m ρ) c 7 t) (iblk1 (V5 m ρ) c 8 t)) (ix5_02 y)) (vm_blk m ρ c t (y 1) (y 3) (y 4))

theorem vm_arr : W6 m ρ c (Proc.devRef .tc main_v84_1) = vmG (W0 m ρ c) := by
  refine (W6_arr m ρ c 10).trans ?_
  refine Dat.arrAt_eq_of_covers (dat1 (V5 m ρ) c) 10 (vmG (W0 m ρ c)) (by decide +kernel) fun t hf y => ?_
  blk_simp
  exact (vm_after m ρ c t y).trans (vm_emb m ρ c t y).symm

end Cert.KernelIdeal.Arr

end
-- ==== Proof.AttnFold.lean ====
/- The block of the attention call, as a recursion over the chunks of keys. -/
module

public import proofs.«01_k».proof.Proof.Gen.KernelIdeal.Frame
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

variable {F : FTy → Type} [FloatOps F]

/-- Rows `256 n …` of head `hh`'s keys. -/
def ldK (x2 : Vec F S1x2x8192x128 .bf16) (hh n : ℕ) : Vec F S1x1x256x128 .bf16 := fun i =>
  x2 (ix4 0 ⟨hh % 2, Nat.mod_lt _ (by decide)⟩ ⟨(256 * n + (i 2).val) % 8192, Nat.mod_lt _ (by decide)⟩ (i 3))

/-- Columns `256 n …` of head `hh`'s values, the first 112 rows. -/
def ldV (x3 : Vec F S1x2x8x128x1024 .bf16) (hh n : ℕ) : Vec F S1x1x1x112x256 .bf16 := fun i =>
  x3 (ix5 0 ⟨hh % 2, Nat.mod_lt _ (by decide)⟩ ⟨(n / 4) % 8, Nat.mod_lt _ (by decide)⟩
    ⟨(i 3).val, lt_trans (i 3).isLt (by decide)⟩ ⟨(256 * (n % 4) + (i 4).val) % 1024, Nat.mod_lt _ (by decide)⟩)

theorem ld_keys (x2 : Vec F S1x2x8192x128 .bf16) (hh n : ℕ) (hhh : hh < 2) (hn : n < 32)
    (h : ∀ a, (![0, hh, 256 * n, 0] : Fin 4 → ℕ) a + S1x1x256x128.size a ≤ S1x2x8192x128.size a) :
    View.ld x2 (Rect.unit (s := S1x2x8192x128) ![0, hh, 256 * n, 0] S1x1x256x128.size h) = ldK x2 hh n := by
  funext i
  unfold ldK View.ld
  refine congrArg x2 (funext fun a => Fin.ext ?_)
  match a with
  | ⟨0, _⟩ =>
    have : (i 0).val = 0 := by have := (i 0).isLt; exact Nat.lt_one_iff.mp this
    show 0 + 1 * (i 0).val = 0
    omega
  | ⟨1, _⟩ =>
    have : (i 1).val = 0 := by have := (i 1).isLt; exact Nat.lt_one_iff.mp this
    show hh + 1 * (i 1).val = hh % 2
    omega
  | ⟨2, _⟩ =>
    have : (i 2).val < 256 := (i 2).isLt
    show 256 * n + 1 * (i 2).val = (256 * n + (i 2).val) % 8192
    omega
  | ⟨3, _⟩ =>
    show 0 + 1 * (i 3).val = (i 3).val
    omega

theorem ld_values (x3 : Vec F S1x2x8x128x1024 .bf16) (hh n c s : ℕ) (hc : c = n / 4) (hs : s = 256 * (n % 4)) (hhh : hh < 2) (hn : n < 32)
    (h : ∀ a, (![0, hh, c, 0, s] : Fin 5 → ℕ) a + S1x1x1x112x256.size a ≤ S1x2x8x128x1024.size a) :
    View.ld x3 (Rect.unit (s := S1x2x8x128x1024) ![0, hh, c, 0, s] S1x1x1x112x256.size h) = ldV x3 hh n := by
  funext i
  unfold ldV View.ld
  refine congrArg x3 (funext fun a => Fin.ext ?_)
  match a with
  | ⟨0, _⟩ =>
    have : (i 0).val = 0 := by have := (i 0).isLt; exact Nat.lt_one_iff.mp this
    show 0 + 1 * (i 0).val = 0
    omega
  | ⟨1, _⟩ =>
    have : (i 1).val = 0 := by have := (i 1).isLt; exact Nat.lt_one_iff.mp this
    show hh + 1 * (i 1).val = hh % 2
    omega
  | ⟨2, _⟩ =>
    have : (i 2).val = 0 := by have := (i 2).isLt; exact Nat.lt_one_iff.mp this
    show c + 1 * (i 2).val = n / 4 % 8
    omega
  | ⟨3, _⟩ =>
    show 0 + 1 * (i 3).val = (i 3).val
    omega
  | ⟨4, _⟩ =>
    have : (i 4).val < 256 := (i 4).isLt
    show s + 1 * (i 4).val = (256 * (n % 4) + (i 4).val) % 1024
    omega

/-- The scores of one chunk of keys: a row per key, a column per query. -/
def sc (q : FVec F S128x1024 .bf16) (k : Vec F S1x1x256x128 .bf16) : FVec F S256x1024 .f32 :=
  matmul dot_S256x128_S128x1024_S256x1024_1_0_0_1_n_n none (shapeCast S256x128 k shapeCasts_S1x1x256x128_S256x128) q
    (constant S256x1024 .f32 0x00000000#32)

/-- One chunk of keys added to the accumulator. -/
def stp (mr : FVec F S1x1024 .f32) (a : FVec F S112x1024 .f32) (s : FVec F S256x1024 .f32) (v : Vec F S1x1x1x112x256 .bf16) :
    FVec F S112x1024 .f32 :=
  addf a (matmul dot_S112x256_S256x1024_S112x1024_1_0_0_1_n_n none (shapeCast S112x256 v shapeCasts_S1x1x1x112x256_S112x256)
    (truncf .bf16 (exp2 (subf s (broadcastTo S256x1024 mr broadcasts_S1x1024_S256x1024))) bitsLt_bf16_f32)
    (constant S112x1024 .f32 0x00000000#32))

/-- The accumulator after the meta keys and the first `n` chunks. -/
def acc (q : FVec F S128x1024 .bf16) (mr : FVec F S1x1024 .f32) (a0 : FVec F S112x1024 .f32) (K : ℕ → Vec F S1x1x256x128 .bf16)
    (W : ℕ → Vec F S1x1x1x112x256 .bf16) : ℕ → FVec F S112x1024 .f32
  | 0 => a0
  | n + 1 => stp mr (acc q mr a0 K W n) (sc q (K n)) (W n)

/-- The accumulator of the first head of the pair and that of the second. -/
def acc0 (x0 : Vec F S1x2x1x128x1024 .bf16) (x1 : Vec F S1x2x1x1x1024 .f32) (x2 : Vec F S1x2x8192x128 .bf16) (x3 : Vec F S1x2x8x128x1024 .bf16)
    (x4 : Vec F S2x128x128 .bf16) (x5 : Vec F S2x128x128 .bf16) : FVec F S112x1024 .f32 :=
  acc (k2_pay2 (View.ld x0 r2_0)) (k2_pay3 (View.ld x1 r2_1)) (k2_pay4 (View.ld x0 r2_0) (View.ld x1 r2_1) (View.ld x4 r2_2) (View.ld x5 r2_3))
    (ldK x2 0) (ldV x3 0) 32

theorem ld_r2_4 (x : Vec F S1x2x8192x128 .bf16) : View.ld x r2_4 = ldK x 0 0 := ld_keys x 0 0 (by decide) (by decide) _
theorem ld_r2_5 (x : Vec F S1x2x8192x128 .bf16) : View.ld x r2_5 = ldK x 0 1 := ld_keys x 0 1 (by decide) (by decide) _
theorem ld_r2_6 (x : Vec F S1x2x8x128x1024 .bf16) : View.ld x r2_6 = ldV x 0 0 := ld_values x 0 0 _ _ (by decide) (by decide) (by decide) (by decide) _
theorem ld_r2_7 (x : Vec F S1x2x8192x128 .bf16) : View.ld x r2_7 = ldK x 0 2 := ld_keys x 0 2 (by decide) (by decide) _
theorem ld_r2_8 (x : Vec F S1x2x8x128x1024 .bf16) : View.ld x r2_8 = ldV x 0 1 := ld_values x 0 1 _ _ (by decide) (by decide) (by decide) (by decide) _
theorem ld_r2_9 (x : Vec F S1x2x8192x128 .bf16) : View.ld x r2_9 = ldK x 0 3 := ld_keys x 0 3 (by decide) (by decide) _
theorem ld_r2_10 (x : Vec F S1x2x8x128x1024 .bf16) : View.ld x r2_10 = ldV x 0 2 := ld_values x 0 2 _ _ (by decide) (by decide) (by decide) (by decide) _
theorem ld_r2_11 (x : Vec F S1x2x8192x128 .bf16) : View.ld x r2_11 = ldK x 0 4 := ld_keys x 0 4 (by decide) (by decide) _
theorem ld_r2_12 (x : Vec F S1x2x8x128x1024 .bf16) : View.ld x r2_12 = ldV x 0 3 := ld_values x 0 3 _ _ (by decide) (by decide) (by decide) (by decide) _
theorem ld_r2_13 (x : Vec F S1x2x8192x128 .bf16) : View.ld x r2_13 = ldK x 0 5 := ld_keys x 0 5 (by decide) (by decide) _
theorem ld_r2_14 (x : Vec F S1x2x8x128x1024 .bf16) : View.ld x r2_14 = ldV x 0 4 := ld_values x 0 4 _ _ (by decide) (by decide) (by decide) (by decide) _
theorem ld_r2_15 (x : Vec F S1x2x8192x128 .bf16) : View.ld x r2_15 = ldK x 0 6 := ld_keys x 0 6 (by decide) (by decide) _
theorem ld_r2_16 (x : Vec F S1x2x8x128x1024 .bf16) : View.ld x r2_16 = ldV x 0 5 := ld_values x 0 5 _ _ (by decide) (by decide) (by decide) (by decide) _
theorem ld_r2_17 (x : Vec F S1x2x8192x128 .bf16) : View.ld x r2_17 = ldK x 0 7 := ld_keys x 0 7 (by decide) (by decide) _
theorem ld_r2_18 (x : Vec F S1x2x8x128x1024 .bf16) : View.ld x r2_18 = ldV x 0 6 := ld_values x 0 6 _ _ (by decide) (by decide) (by decide) (by decide) _
theorem ld_r2_19 (x : Vec F S1x2x8192x128 .bf16) : View.ld x r2_19 = ldK x 0 8 := ld_keys x 0 8 (by decide) (by decide) _
theorem ld_r2_20 (x : Vec F S1x2x8x128x1024 .bf16) : View.ld x r2_20 = ldV x 0 7 := ld_values x 0 7 _ _ (by decide) (by decide) (by decide) (by decide) _
theorem ld_r2_21 (x : Vec F S1x2x8192x128 .bf16) : View.ld x r2_21 = ldK x 0 9 := ld_keys x 0 9 (by decide) (by decide) _
theorem ld_r2_22 (x : Vec F S1x2x8x128x1024 .bf16) : View.ld x r2_22 = ldV x 0 8 := ld_values x 0 8 _ _ (by decide) (by decide) (by decide) (by decide) _
theorem ld_r2_23 (x : Vec F S1x2x8192x128 .bf16) : View.ld x r2_23 = ldK x 0 10 := ld_keys x 0 10 (by decide) (by decide) _
theorem ld_r2_24 (x : Vec F S1x2x8x128x1024 .bf16) : View.ld x r2_24 = ldV x 0 9 := ld_values x 0 9 _ _ (by decide) (by decide) (by decide) (by decide) _
theorem ld_r2_25 (x : Vec F S1x2x8192x128 .bf16) : View.ld x r2_25 = ldK x 0 11 := ld_keys x 0 11 (by decide) (by decide) _
theorem ld_r2_26 (x : Vec F S1x2x8x128x1024 .bf16) : View.ld x r2_26 = ldV x 0 10 := ld_values x 0 10 _ _ (by decide) (by decide) (by decide) (by decide) _
theorem ld_r2_27 (x : Vec F S1x2x8192x128 .bf16) : View.ld x r2_27 = ldK x 0 12 := ld_keys x 0 12 (by decide) (by decide) _
theorem ld_r2_28 (x : Vec F S1x2x8x128x1024 .bf16) : View.ld x r2_28 = ldV x 0 11 := ld_values x 0 11 _ _ (by decide) (by decide) (by decide) (by decide) _
theorem ld_r2_29 (x : Vec F S1x2x8192x128 .bf16) : View.ld x r2_29 = ldK x 0 13 := ld_keys x 0 13 (by decide) (by decide) _
theorem ld_r2_30 (x : Vec F S1x2x8x128x1024 .bf16) : View.ld x r2_30 = ldV x 0 12 := ld_values x 0 12 _ _ (by decide) (by decide) (by decide) (by decide) _
theorem ld_r2_31 (x : Vec F S1x2x8192x128 .bf16) : View.ld x r2_31 = ldK x 0 14 := ld_keys x 0 14 (by decide) (by decide) _
theorem ld_r2_32 (x : Vec F S1x2x8x128x1024 .bf16) : View.ld x r2_32 = ldV x 0 13 := ld_values x 0 13 _ _ (by decide) (by decide) (by decide) (by decide) _
theorem ld_r2_33 (x : Vec F S1x2x8192x128 .bf16) : View.ld x r2_33 = ldK x 0 15 := ld_keys x 0 15 (by decide) (by decide) _
theorem ld_r2_34 (x : Vec F S1x2x8x128x1024 .bf16) : View.ld x r2_34 = ldV x 0 14 := ld_values x 0 14 _ _ (by decide) (by decide) (by decide) (by decide) _
theorem ld_r2_35 (x : Vec F S1x2x8192x128 .bf16) : View.ld x r2_35 = ldK x 0 16 := ld_keys x 0 16 (by decide) (by decide) _
theorem ld_r2_36 (x : Vec F S1x2x8x128x1024 .bf16) : View.ld x r2_36 = ldV x 0 15 := ld_values x 0 15 _ _ (by decide) (by decide) (by decide) (by decide) _
theorem ld_r2_37 (x : Vec F S1x2x8192x128 .bf16) : View.ld x r2_37 = ldK x 0 17 := ld_keys x 0 17 (by decide) (by decide) _
theorem ld_r2_38 (x : Vec F S1x2x8x128x1024 .bf16) : View.ld x r2_38 = ldV x 0 16 := ld_values x 0 16 _ _ (by decide) (by decide) (by decide) (by decide) _
theorem ld_r2_39 (x : Vec F S1x2x8192x128 .bf16) : View.ld x r2_39 = ldK x 0 18 := ld_keys x 0 18 (by decide) (by decide) _
theorem ld_r2_40 (x : Vec F S1x2x8x128x1024 .bf16) : View.ld x r2_40 = ldV x 0 17 := ld_values x 0 17 _ _ (by decide) (by decide) (by decide) (by decide) _
theorem ld_r2_41 (x : Vec F S1x2x8192x128 .bf16) : View.ld x r2_41 = ldK x 0 19 := ld_keys x 0 19 (by decide) (by decide) _
theorem ld_r2_42 (x : Vec F S1x2x8x128x1024 .bf16) : View.ld x r2_42 = ldV x 0 18 := ld_values x 0 18 _ _ (by decide) (by decide) (by decide) (by decide) _
theorem ld_r2_43 (x : Vec F S1x2x8192x128 .bf16) : View.ld x r2_43 = ldK x 0 20 := ld_keys x 0 20 (by decide) (by decide) _
theorem ld_r2_44 (x : Vec F S1x2x8x128x1024 .bf16) : View.ld x r2_44 = ldV x 0 19 := ld_values x 0 19 _ _ (by decide) (by decide) (by decide) (by decide) _
theorem ld_r2_45 (x : Vec F S1x2x8192x128 .bf16) : View.ld x r2_45 = ldK x 0 21 := ld_keys x 0 21 (by decide) (by decide) _
theorem ld_r2_46 (x : Vec F S1x2x8x128x1024 .bf16) : View.ld x r2_46 = ldV x 0 20 := ld_values x 0 20 _ _ (by decide) (by decide) (by decide) (by decide) _
theorem ld_r2_47 (x : Vec F S1x2x8192x128 .bf16) : View.ld x r2_47 = ldK x 0 22 := ld_keys x 0 22 (by decide) (by decide) _
theorem ld_r2_48 (x : Vec F S1x2x8x128x1024 .bf16) : View.ld x r2_48 = ldV x 0 21 := ld_values x 0 21 _ _ (by decide) (by decide) (by decide) (by decide) _
theorem ld_r2_49 (x : Vec F S1x2x8192x128 .bf16) : View.ld x r2_49 = ldK x 0 23 := ld_keys x 0 23 (by decide) (by decide) _
theorem ld_r2_50 (x : Vec F S1x2x8x128x1024 .bf16) : View.ld x r2_50 = ldV x 0 22 := ld_values x 0 22 _ _ (by decide) (by decide) (by decide) (by decide) _
theorem ld_r2_51 (x : Vec F S1x2x8192x128 .bf16) : View.ld x r2_51 = ldK x 0 24 := ld_keys x 0 24 (by decide) (by decide) _
theorem ld_r2_52 (x : Vec F S1x2x8x128x1024 .bf16) : View.ld x r2_52 = ldV x 0 23 := ld_values x 0 23 _ _ (by decide) (by decide) (by decide) (by decide) _
theorem ld_r2_53 (x : Vec F S1x2x8192x128 .bf16) : View.ld x r2_53 = ldK x 0 25 := ld_keys x 0 25 (by decide) (by decide) _
theorem ld_r2_54 (x : Vec F S1x2x8x128x1024 .bf16) : View.ld x r2_54 = ldV x 0 24 := ld_values x 0 24 _ _ (by decide) (by decide) (by decide) (by decide) _
theorem ld_r2_55 (x : Vec F S1x2x8192x128 .bf16) : View.ld x r2_55 = ldK x 0 26 := ld_keys x 0 26 (by decide) (by decide) _
theorem ld_r2_56 (x : Vec F S1x2x8x128x1024 .bf16) : View.ld x r2_56 = ldV x 0 25 := ld_values x 0 25 _ _ (by decide) (by decide) (by decide) (by decide) _
theorem ld_r2_57 (x : Vec F S1x2x8192x128 .bf16) : View.ld x r2_57 = ldK x 0 27 := ld_keys x 0 27 (by decide) (by decide) _
theorem ld_r2_58 (x : Vec F S1x2x8x128x1024 .bf16) : View.ld x r2_58 = ldV x 0 26 := ld_values x 0 26 _ _ (by decide) (by decide) (by decide) (by decide) _
theorem ld_r2_59 (x : Vec F S1x2x8192x128 .bf16) : View.ld x r2_59 = ldK x 0 28 := ld_keys x 0 28 (by decide) (by decide) _
theorem ld_r2_60 (x : Vec F S1x2x8x128x1024 .bf16) : View.ld x r2_60 = ldV x 0 27 := ld_values x 0 27 _ _ (by decide) (by decide) (by decide) (by decide) _
theorem ld_r2_61 (x : Vec F S1x2x8192x128 .bf16) : View.ld x r2_61 = ldK x 0 29 := ld_keys x 0 29 (by decide) (by decide) _
theorem ld_r2_62 (x : Vec F S1x2x8x128x1024 .bf16) : View.ld x r2_62 = ldV x 0 28 := ld_values x 0 28 _ _ (by decide) (by decide) (by decide) (by decide) _
theorem ld_r2_63 (x : Vec F S1x2x8192x128 .bf16) : View.ld x r2_63 = ldK x 0 30 := ld_keys x 0 30 (by decide) (by decide) _
theorem ld_r2_64 (x : Vec F S1x2x8x128x1024 .bf16) : View.ld x r2_64 = ldV x 0 29 := ld_values x 0 29 _ _ (by decide) (by decide) (by decide) (by decide) _
theorem ld_r2_65 (x : Vec F S1x2x8192x128 .bf16) : View.ld x r2_65 = ldK x 0 31 := ld_keys x 0 31 (by decide) (by decide) _
theorem ld_r2_66 (x : Vec F S1x2x8x128x1024 .bf16) : View.ld x r2_66 = ldV x 0 30 := ld_values x 0 30 _ _ (by decide) (by decide) (by decide) (by decide) _
theorem ld_r2_67 (x : Vec F S1x2x8x128x1024 .bf16) : View.ld x r2_67 = ldV x 0 31 := ld_values x 0 31 _ _ (by decide) (by decide) (by decide) (by decide) _
theorem ld_r2_72 (x : Vec F S1x2x8192x128 .bf16) : View.ld x r2_72 = ldK x 1 0 := ld_keys x 1 0 (by decide) (by decide) _
theorem ld_r2_73 (x : Vec F S1x2x8192x128 .bf16) : View.ld x r2_73 = ldK x 1 1 := ld_keys x 1 1 (by decide) (by decide) _
theorem ld_r2_74 (x : Vec F S1x2x8x128x1024 .bf16) : View.ld x r2_74 = ldV x 1 0 := ld_values x 1 0 _ _ (by decide) (by decide) (by decide) (by decide) _
theorem ld_r2_75 (x : Vec F S1x2x8192x128 .bf16) : View.ld x r2_75 = ldK x 1 2 := ld_keys x 1 2 (by decide) (by decide) _
theorem ld_r2_76 (x : Vec F S1x2x8x128x1024 .bf16) : View.ld x r2_76 = ldV x 1 1 := ld_values x 1 1 _ _ (by decide) (by decide) (by decide) (by decide) _
theorem ld_r2_77 (x : Vec F S1x2x8192x128 .bf16) : View.ld x r2_77 = ldK x 1 3 := ld_keys x 1 3 (by decide) (by decide) _
theorem ld_r2_78 (x : Vec F S1x2x8x128x1024 .bf16) : View.ld x r2_78 = ldV x 1 2 := ld_values x 1 2 _ _ (by decide) (by decide) (by decide) (by decide) _
theorem ld_r2_79 (x : Vec F S1x2x8192x128 .bf16) : View.ld x r2_79 = ldK x 1 4 := ld_keys x 1 4 (by decide) (by decide) _
theorem ld_r2_80 (x : Vec F S1x2x8x128x1024 .bf16) : View.ld x r2_80 = ldV x 1 3 := ld_values x 1 3 _ _ (by decide) (by decide) (by decide) (by decide) _
theorem ld_r2_81 (x : Vec F S1x2x8192x128 .bf16) : View.ld x r2_81 = ldK x 1 5 := ld_keys x 1 5 (by decide) (by decide) _
theorem ld_r2_82 (x : Vec F S1x2x8x128x1024 .bf16) : View.ld x r2_82 = ldV x 1 4 := ld_values x 1 4 _ _ (by decide) (by decide) (by decide) (by decide) _
theorem ld_r2_83 (x : Vec F S1x2x8192x128 .bf16) : View.ld x r2_83 = ldK x 1 6 := ld_keys x 1 6 (by decide) (by decide) _
theorem ld_r2_84 (x : Vec F S1x2x8x128x1024 .bf16) : View.ld x r2_84 = ldV x 1 5 := ld_values x 1 5 _ _ (by decide) (by decide) (by decide) (by decide) _
theorem ld_r2_85 (x : Vec F S1x2x8192x128 .bf16) : View.ld x r2_85 = ldK x 1 7 := ld_keys x 1 7 (by decide) (by decide) _
theorem ld_r2_86 (x : Vec F S1x2x8x128x1024 .bf16) : View.ld x r2_86 = ldV x 1 6 := ld_values x 1 6 _ _ (by decide) (by decide) (by decide) (by decide) _
theorem ld_r2_87 (x : Vec F S1x2x8192x128 .bf16) : View.ld x r2_87 = ldK x 1 8 := ld_keys x 1 8 (by decide) (by decide) _
theorem ld_r2_88 (x : Vec F S1x2x8x128x1024 .bf16) : View.ld x r2_88 = ldV x 1 7 := ld_values x 1 7 _ _ (by decide) (by decide) (by decide) (by decide) _
theorem ld_r2_89 (x : Vec F S1x2x8192x128 .bf16) : View.ld x r2_89 = ldK x 1 9 := ld_keys x 1 9 (by decide) (by decide) _
theorem ld_r2_90 (x : Vec F S1x2x8x128x1024 .bf16) : View.ld x r2_90 = ldV x 1 8 := ld_values x 1 8 _ _ (by decide) (by decide) (by decide) (by decide) _
theorem ld_r2_91 (x : Vec F S1x2x8192x128 .bf16) : View.ld x r2_91 = ldK x 1 10 := ld_keys x 1 10 (by decide) (by decide) _
theorem ld_r2_92 (x : Vec F S1x2x8x128x1024 .bf16) : View.ld x r2_92 = ldV x 1 9 := ld_values x 1 9 _ _ (by decide) (by decide) (by decide) (by decide) _
theorem ld_r2_93 (x : Vec F S1x2x8192x128 .bf16) : View.ld x r2_93 = ldK x 1 11 := ld_keys x 1 11 (by decide) (by decide) _
theorem ld_r2_94 (x : Vec F S1x2x8x128x1024 .bf16) : View.ld x r2_94 = ldV x 1 10 := ld_values x 1 10 _ _ (by decide) (by decide) (by decide) (by decide) _
theorem ld_r2_95 (x : Vec F S1x2x8192x128 .bf16) : View.ld x r2_95 = ldK x 1 12 := ld_keys x 1 12 (by decide) (by decide) _
theorem ld_r2_96 (x : Vec F S1x2x8x128x1024 .bf16) : View.ld x r2_96 = ldV x 1 11 := ld_values x 1 11 _ _ (by decide) (by decide) (by decide) (by decide) _
theorem ld_r2_97 (x : Vec F S1x2x8192x128 .bf16) : View.ld x r2_97 = ldK x 1 13 := ld_keys x 1 13 (by decide) (by decide) _
theorem ld_r2_98 (x : Vec F S1x2x8x128x1024 .bf16) : View.ld x r2_98 = ldV x 1 12 := ld_values x 1 12 _ _ (by decide) (by decide) (by decide) (by decide) _
theorem ld_r2_99 (x : Vec F S1x2x8192x128 .bf16) : View.ld x r2_99 = ldK x 1 14 := ld_keys x 1 14 (by decide) (by decide) _
theorem ld_r2_100 (x : Vec F S1x2x8x128x1024 .bf16) : View.ld x r2_100 = ldV x 1 13 := ld_values x 1 13 _ _ (by decide) (by decide) (by decide) (by decide) _
theorem ld_r2_101 (x : Vec F S1x2x8192x128 .bf16) : View.ld x r2_101 = ldK x 1 15 := ld_keys x 1 15 (by decide) (by decide) _
theorem ld_r2_102 (x : Vec F S1x2x8x128x1024 .bf16) : View.ld x r2_102 = ldV x 1 14 := ld_values x 1 14 _ _ (by decide) (by decide) (by decide) (by decide) _
theorem ld_r2_103 (x : Vec F S1x2x8192x128 .bf16) : View.ld x r2_103 = ldK x 1 16 := ld_keys x 1 16 (by decide) (by decide) _
theorem ld_r2_104 (x : Vec F S1x2x8x128x1024 .bf16) : View.ld x r2_104 = ldV x 1 15 := ld_values x 1 15 _ _ (by decide) (by decide) (by decide) (by decide) _
theorem ld_r2_105 (x : Vec F S1x2x8192x128 .bf16) : View.ld x r2_105 = ldK x 1 17 := ld_keys x 1 17 (by decide) (by decide) _
theorem ld_r2_106 (x : Vec F S1x2x8x128x1024 .bf16) : View.ld x r2_106 = ldV x 1 16 := ld_values x 1 16 _ _ (by decide) (by decide) (by decide) (by decide) _
theorem ld_r2_107 (x : Vec F S1x2x8192x128 .bf16) : View.ld x r2_107 = ldK x 1 18 := ld_keys x 1 18 (by decide) (by decide) _
theorem ld_r2_108 (x : Vec F S1x2x8x128x1024 .bf16) : View.ld x r2_108 = ldV x 1 17 := ld_values x 1 17 _ _ (by decide) (by decide) (by decide) (by decide) _
theorem ld_r2_109 (x : Vec F S1x2x8192x128 .bf16) : View.ld x r2_109 = ldK x 1 19 := ld_keys x 1 19 (by decide) (by decide) _
theorem ld_r2_110 (x : Vec F S1x2x8x128x1024 .bf16) : View.ld x r2_110 = ldV x 1 18 := ld_values x 1 18 _ _ (by decide) (by decide) (by decide) (by decide) _
theorem ld_r2_111 (x : Vec F S1x2x8192x128 .bf16) : View.ld x r2_111 = ldK x 1 20 := ld_keys x 1 20 (by decide) (by decide) _
theorem ld_r2_112 (x : Vec F S1x2x8x128x1024 .bf16) : View.ld x r2_112 = ldV x 1 19 := ld_values x 1 19 _ _ (by decide) (by decide) (by decide) (by decide) _
theorem ld_r2_113 (x : Vec F S1x2x8192x128 .bf16) : View.ld x r2_113 = ldK x 1 21 := ld_keys x 1 21 (by decide) (by decide) _
theorem ld_r2_114 (x : Vec F S1x2x8x128x1024 .bf16) : View.ld x r2_114 = ldV x 1 20 := ld_values x 1 20 _ _ (by decide) (by decide) (by decide) (by decide) _
theorem ld_r2_115 (x : Vec F S1x2x8192x128 .bf16) : View.ld x r2_115 = ldK x 1 22 := ld_keys x 1 22 (by decide) (by decide) _
theorem ld_r2_116 (x : Vec F S1x2x8x128x1024 .bf16) : View.ld x r2_116 = ldV x 1 21 := ld_values x 1 21 _ _ (by decide) (by decide) (by decide) (by decide) _
theorem ld_r2_117 (x : Vec F S1x2x8192x128 .bf16) : View.ld x r2_117 = ldK x 1 23 := ld_keys x 1 23 (by decide) (by decide) _
theorem ld_r2_118 (x : Vec F S1x2x8x128x1024 .bf16) : View.ld x r2_118 = ldV x 1 22 := ld_values x 1 22 _ _ (by decide) (by decide) (by decide) (by decide) _
theorem ld_r2_119 (x : Vec F S1x2x8192x128 .bf16) : View.ld x r2_119 = ldK x 1 24 := ld_keys x 1 24 (by decide) (by decide) _
theorem ld_r2_120 (x : Vec F S1x2x8x128x1024 .bf16) : View.ld x r2_120 = ldV x 1 23 := ld_values x 1 23 _ _ (by decide) (by decide) (by decide) (by decide) _
theorem ld_r2_121 (x : Vec F S1x2x8192x128 .bf16) : View.ld x r2_121 = ldK x 1 25 := ld_keys x 1 25 (by decide) (by decide) _
theorem ld_r2_122 (x : Vec F S1x2x8x128x1024 .bf16) : View.ld x r2_122 = ldV x 1 24 := ld_values x 1 24 _ _ (by decide) (by decide) (by decide) (by decide) _
theorem ld_r2_123 (x : Vec F S1x2x8192x128 .bf16) : View.ld x r2_123 = ldK x 1 26 := ld_keys x 1 26 (by decide) (by decide) _
theorem ld_r2_124 (x : Vec F S1x2x8x128x1024 .bf16) : View.ld x r2_124 = ldV x 1 25 := ld_values x 1 25 _ _ (by decide) (by decide) (by decide) (by decide) _
theorem ld_r2_125 (x : Vec F S1x2x8192x128 .bf16) : View.ld x r2_125 = ldK x 1 27 := ld_keys x 1 27 (by decide) (by decide) _
theorem ld_r2_126 (x : Vec F S1x2x8x128x1024 .bf16) : View.ld x r2_126 = ldV x 1 26 := ld_values x 1 26 _ _ (by decide) (by decide) (by decide) (by decide) _
theorem ld_r2_127 (x : Vec F S1x2x8192x128 .bf16) : View.ld x r2_127 = ldK x 1 28 := ld_keys x 1 28 (by decide) (by decide) _
theorem ld_r2_128 (x : Vec F S1x2x8x128x1024 .bf16) : View.ld x r2_128 = ldV x 1 27 := ld_values x 1 27 _ _ (by decide) (by decide) (by decide) (by decide) _
theorem ld_r2_129 (x : Vec F S1x2x8192x128 .bf16) : View.ld x r2_129 = ldK x 1 29 := ld_keys x 1 29 (by decide) (by decide) _
theorem ld_r2_130 (x : Vec F S1x2x8x128x1024 .bf16) : View.ld x r2_130 = ldV x 1 28 := ld_values x 1 28 _ _ (by decide) (by decide) (by decide) (by decide) _
theorem ld_r2_131 (x : Vec F S1x2x8192x128 .bf16) : View.ld x r2_131 = ldK x 1 30 := ld_keys x 1 30 (by decide) (by decide) _
theorem ld_r2_132 (x : Vec F S1x2x8x128x1024 .bf16) : View.ld x r2_132 = ldV x 1 29 := ld_values x 1 29 _ _ (by decide) (by decide) (by decide) (by decide) _
theorem ld_r2_133 (x : Vec F S1x2x8192x128 .bf16) : View.ld x r2_133 = ldK x 1 31 := ld_keys x 1 31 (by decide) (by decide) _
theorem ld_r2_134 (x : Vec F S1x2x8x128x1024 .bf16) : View.ld x r2_134 = ldV x 1 30 := ld_values x 1 30 _ _ (by decide) (by decide) (by decide) (by decide) _
theorem ld_r2_135 (x : Vec F S1x2x8x128x1024 .bf16) : View.ld x r2_135 = ldV x 1 31 := ld_values x 1 31 _ _ (by decide) (by decide) (by decide) (by decide) _

def acc1 (x0 : Vec F S1x2x1x128x1024 .bf16) (x1 : Vec F S1x2x1x1x1024 .f32) (x2 : Vec F S1x2x8192x128 .bf16) (x3 : Vec F S1x2x8x128x1024 .bf16)
    (x4 : Vec F S2x128x128 .bf16) (x5 : Vec F S2x128x128 .bf16) : FVec F S112x1024 .f32 :=
  acc (k2_pay2 (View.ld x0 r2_68)) (k2_pay3 (View.ld x1 r2_69)) (k2_pay4 (View.ld x0 r2_68) (View.ld x1 r2_69) (View.ld x4 r2_70) (View.ld x5 r2_71))
    (ldK x2 1) (ldV x3 1) 32

/-- One over the row of ones' sums, a row for every row of the accumulator. -/
def invRow (a : FVec F S112x1024 .f32) : FVec F S112x1024 .f32 :=
  broadcastTo S112x1024 (divf (broadcast S1x1024 (Scalar.ofBits .f32 0x3F800000#32 : F .f32))
    (extractStridedSlice S1x1024 ![64, 0] a slices_S112x1024_o64_0_S1x1024)) broadcasts_S1x1024_S112x1024

/-- The block of the attention call. -/
theorem out2_eq (x0 : Vec F S1x2x1x128x1024 .bf16) (x1 : Vec F S1x2x1x1x1024 .f32) (x2 : Vec F S1x2x8192x128 .bf16) (x3 : Vec F S1x2x8x128x1024 .bf16)
    (x4 : Vec F S2x128x128 .bf16) (x5 : Vec F S2x128x128 .bf16) :
    out2_6 x0 x1 x2 x3 x4 x5 = View.canon [⟨r2_136, k2_pay1 (acc1 x0 x1 x2 x3 x4 x5) (k2_pay81 (acc0 x0 x1 x2 x3 x4 x5)) (invRow (acc1 x0 x1 x2 x3 x4 x5))⟩] := by
  unfold_out out2_6
  simp only [ld_r2_4, ld_r2_5, ld_r2_6, ld_r2_7, ld_r2_8, ld_r2_9, ld_r2_10, ld_r2_11, ld_r2_12, ld_r2_13, ld_r2_14, ld_r2_15, ld_r2_16, ld_r2_17, ld_r2_18, ld_r2_19, ld_r2_20, ld_r2_21, ld_r2_22, ld_r2_23, ld_r2_24, ld_r2_25, ld_r2_26, ld_r2_27, ld_r2_28, ld_r2_29, ld_r2_30, ld_r2_31, ld_r2_32, ld_r2_33, ld_r2_34, ld_r2_35, ld_r2_36, ld_r2_37, ld_r2_38, ld_r2_39, ld_r2_40, ld_r2_41, ld_r2_42, ld_r2_43, ld_r2_44, ld_r2_45, ld_r2_46, ld_r2_47, ld_r2_48, ld_r2_49, ld_r2_50, ld_r2_51, ld_r2_52, ld_r2_53, ld_r2_54, ld_r2_55, ld_r2_56, ld_r2_57, ld_r2_58, ld_r2_59, ld_r2_60, ld_r2_61, ld_r2_62, ld_r2_63, ld_r2_64, ld_r2_65, ld_r2_66, ld_r2_67, ld_r2_72, ld_r2_73, ld_r2_74, ld_r2_75, ld_r2_76, ld_r2_77, ld_r2_78, ld_r2_79, ld_r2_80, ld_r2_81, ld_r2_82, ld_r2_83, ld_r2_84, ld_r2_85, ld_r2_86, ld_r2_87, ld_r2_88, ld_r2_89, ld_r2_90, ld_r2_91, ld_r2_92, ld_r2_93, ld_r2_94, ld_r2_95, ld_r2_96, ld_r2_97, ld_r2_98, ld_r2_99, ld_r2_100, ld_r2_101, ld_r2_102, ld_r2_103, ld_r2_104, ld_r2_105, ld_r2_106, ld_r2_107, ld_r2_108, ld_r2_109, ld_r2_110, ld_r2_111, ld_r2_112, ld_r2_113, ld_r2_114, ld_r2_115, ld_r2_116, ld_r2_117, ld_r2_118, ld_r2_119, ld_r2_120, ld_r2_121, ld_r2_122, ld_r2_123, ld_r2_124, ld_r2_125, ld_r2_126, ld_r2_127, ld_r2_128, ld_r2_129, ld_r2_130, ld_r2_131, ld_r2_132, ld_r2_133, ld_r2_134, ld_r2_135]
  rfl

end Cert.KernelIdeal.Attn

end
-- ==== Proof.AttnValue.lean ====
/- The block of the attention call at an index, over the extended reals. -/
module

public import proofs.«01_k».proof.Proof.AttnFold
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

theorem sc_apply (q : FVec Ideal S128x1024 .bf16) (k : Vec Ideal S1x1x256x128 .bf16) (r : Fin 256) (c : Fin 1024) :
    sc q k (ix2 r c) = ∑ d : Fin 128, k (ix4 0 0 r d) * q (ix2 d c) := by
  pointwise [sc]

theorem stp_apply (mr : FVec Ideal S1x1024 .f32) (a : FVec Ideal S112x1024 .f32) (s : FVec Ideal S256x1024 .f32) (v : Vec Ideal S1x1x1x112x256 .bf16)
    (r : Fin 112) (c : Fin 1024) :
    stp mr a s v (ix2 r c) = a (ix2 r c) + ∑ k : Fin 256, v (ix5 0 0 0 r k) * Ideal.exp2 (s (ix2 k c) - mr (ix2 0 c)) := by
  pointwise [stp]
  rfl

theorem acc_apply (q : FVec Ideal S128x1024 .bf16) (mr : FVec Ideal S1x1024 .f32) (a0 : FVec Ideal S112x1024 .f32)
    (K : ℕ → Vec Ideal S1x1x256x128 .bf16) (W : ℕ → Vec Ideal S1x1x1x112x256 .bf16) (r : Fin 112) (c : Fin 1024) (n : ℕ) :
    acc q mr a0 K W n (ix2 r c) = a0 (ix2 r c) + ∑ m ∈ Finset.range n, ∑ k : Fin 256,
      W m (ix5 0 0 0 r k) * Ideal.exp2 ((∑ d : Fin 128, K m (ix4 0 0 k d) * q (ix2 d c)) - mr (ix2 0 c)) := by
  induction n with
  | zero => simp [acc]
  | succ n ih =>
    rw [acc, stp_apply, ih, Finset.sum_range_succ, add_assoc]
    simp only [sc_apply]

theorem sum_chunks (f : ℕ → EReal) (a b : ℕ) :
    ∑ m ∈ Finset.range a, ∑ k : Fin b, f (b * m + k.val) = ∑ j : Fin (b * a), f j.val := by
  rw [Fin.sum_univ_eq_sum_range (fun j => f j)]
  induction a with
  | zero => simp
  | succ a ih =>
    rw [Finset.sum_range_succ, ih, Nat.mul_succ, Finset.sum_range_add, Fin.sum_univ_eq_sum_range (fun k => f (b * a + k))]

/-- A meta key's score: only the first 16 of the 128 keys are meta tokens. -/
def metaScore (k : Fin 128) (a : EReal) : EReal := if k.val < 16 then a else ⊥

/-- The unnormalised output of head `hh` at row `r` of its values and query `c`. -/
def headSum (x0 : Vec Ideal S1x2x1x128x1024 .bf16) (x1 : Vec Ideal S1x2x1x1x1024 .f32) (x2 : Vec Ideal S1x2x8192x128 .bf16) (x3 : Vec Ideal S1x2x8x128x1024 .bf16)
    (x4 : Vec Ideal S2x128x128 .bf16) (x5 : Vec Ideal S2x128x128 .bf16) (hh : Fin 2) (r : Fin 128) (c : Fin 1024) : EReal :=
  (∑ k : Fin 128, x5 (ix3 hh r k) * Ideal.exp2 (metaScore k (∑ d : Fin 128, x4 (ix3 hh k d) * x0 (ix5 0 hh 0 d c)) - x1 (ix5 0 hh 0 0 c)))
    + ∑ j : Fin 8192, x3 (ix5 0 hh ⟨j.val / 1024, by omega⟩ r ⟨j.val % 1024, by omega⟩)
        * Ideal.exp2 ((∑ d : Fin 128, x2 (ix4 0 hh j d) * x0 (ix5 0 hh 0 d c)) - x1 (ix5 0 hh 0 0 c))

theorem sel_apply (k : Fin 128) (a : EReal) :
    Scalar.select (IntOp.cmpi .slt (BitVec.ofNat 32 k.val) 16#32) a (Ideal.ofBits .f32 4286578688#32)
      = metaScore k a := by
  unfold metaScore
  have h : ∀ k : Fin 128, IntOp.cmpi .slt (BitVec.ofNat 32 k.val) 16#32 = if k.val < 16 then 1#1 else 0#1 := by decide +kernel
  have h2 : Ideal.ofBits .f32 4286578688#32 = ⊥ := by
    simp [Ideal.ofBits, Ideal.ieee]
  rw [h, h2]
  split <;> simp [Scalar.select]

theorem meta_apply (x0 : Vec Ideal S1x1x1x128x1024 .bf16) (x1 : Vec Ideal S1x1x1x1x1024 .f32) (x4 : Vec Ideal S1x128x128 .bf16) (x5 : Vec Ideal S1x112x128 .bf16)
    (r : Fin 112) (c : Fin 1024) :
    k2_pay4 x0 x1 x4 x5 (ix2 r c) = ∑ k : Fin 128, x5 (ix3 0 r k)
      * Ideal.exp2 (metaScore k (∑ d : Fin 128, x4 (ix3 0 k d) * x0 (ix5 0 0 0 d c)) - x1 (ix5 0 0 0 0 c)) := by
  pointwise [k2_pay4, k2_pay2, k2_pay3]
  simp only [sel_apply]
  rfl

theorem pay2_apply (x : Vec Ideal S1x1x1x128x1024 .bf16) (d : Fin 128) (c : Fin 1024) : k2_pay2 x (ix2 d c) = x (ix5 0 0 0 d c) := by
  pointwise [k2_pay2]

theorem pay3_apply (x : Vec Ideal S1x1x1x1x1024 .f32) (c : Fin 1024) : k2_pay3 x (ix2 0 c) = x (ix5 0 0 0 0 c) := by
  pointwise [k2_pay3]

theorem fin_apply (a b : FVec Ideal S112x1024 .f32) (r : Fin 1024) (c : Fin 128) :
    k2_pay1 a (k2_pay81 b) (invRow a) (ix3 0 r c) =
      if h : c.val < 64 then b (ix2 ⟨c.val, by omega⟩ r) * Ideal.div 1 (b (ix2 64 r))
      else a (ix2 ⟨c.val - 64, by omega⟩ r) * Ideal.div 1 (a (ix2 64 r)) := by
  pointwise [k2_pay1, k2_pay81, invRow]

theorem chunk_sum (x0 : Vec Ideal S1x1x1x128x1024 .bf16) (x1 : Vec Ideal S1x1x1x1x1024 .f32) (x2 : Vec Ideal S1x2x8192x128 .bf16) (x3 : Vec Ideal S1x2x8x128x1024 .bf16)
    (a0 : FVec Ideal S112x1024 .f32) (hh : Fin 2) (r : Fin 112) (c : Fin 1024) :
    acc (k2_pay2 x0) (k2_pay3 x1) a0 (ldK x2 hh.val) (ldV x3 hh.val) 32 (ix2 r c)
      = a0 (ix2 r c) + ∑ j : Fin 8192, x3 (ix5 0 hh ⟨j.val / 1024, by omega⟩ ⟨r.val, by omega⟩ ⟨j.val % 1024, by omega⟩)
        * Ideal.exp2 ((∑ d : Fin 128, x2 (ix4 0 hh j d) * x0 (ix5 0 0 0 d c)) - x1 (ix5 0 0 0 0 c)) := by
  rw [acc_apply]
  refine congrArg (a0 (ix2 r c) + ·) ?_
  let f : ℕ → EReal := fun j => x3 (ix5 0 hh ⟨(j / 1024) % 8, Nat.mod_lt _ (by decide)⟩ ⟨r.val, by omega⟩ ⟨j % 1024, Nat.mod_lt _ (by decide)⟩)
        * Ideal.exp2 ((∑ d : Fin 128, x2 (ix4 0 hh ⟨j % 8192, Nat.mod_lt _ (by decide)⟩ d) * x0 (ix5 0 0 0 d c)) - x1 (ix5 0 0 0 0 c))
  refine (Eq.trans (Finset.sum_congr rfl fun m hm => Finset.sum_congr rfl fun k _ => ?_) (sum_chunks f 32 256)).trans
    (Finset.sum_congr rfl fun j _ => ?_)
  · have hm' := Finset.mem_range.mp hm
    have hk := k.isLt
    have hhl := hh.isLt
    simp only [pay2_apply, pay3_apply]
    have hV : ldV x3 hh.val m (ix5 0 0 0 r k) = x3 (ix5 0 hh ⟨((256 * m + k.val) / 1024) % 8, Nat.mod_lt _ (by decide)⟩ ⟨r.val, by omega⟩ ⟨(256 * m + k.val) % 1024, Nat.mod_lt _ (by decide)⟩) := by
      unfold ldV
      refine congrArg x3 (funext fun a => Fin.ext ?_)
      match a with
      | ⟨0, _⟩ => rfl
      | ⟨1, _⟩ => show hh.val % 2 = hh.val; omega
      | ⟨2, _⟩ => show m / 4 % 8 = (256 * m + k.val) / 1024 % 8; omega
      | ⟨3, _⟩ => rfl
      | ⟨4, _⟩ => show (256 * (m % 4) + k.val) % 1024 = (256 * m + k.val) % 1024; omega
    have hK : ∀ d : Fin 128, ldK x2 hh.val m (ix4 0 0 k d) = x2 (ix4 0 hh ⟨(256 * m + k.val) % 8192, Nat.mod_lt _ (by decide)⟩ d) := by
      intro d
      unfold ldK
      refine congrArg x2 (funext fun a => Fin.ext ?_)
      match a with
      | ⟨0, _⟩ => rfl
      | ⟨1, _⟩ => show hh.val % 2 = hh.val; omega
      | ⟨2, _⟩ => rfl
      | ⟨3, _⟩ => rfl
    rw [hV]
    simp only [hK]
    rfl
  · have hj : j.val < 8192 := j.isLt
    have e1 : (⟨(j.val / 1024) % 8, Nat.mod_lt _ (by decide)⟩ : Fin 8) = ⟨j.val / 1024, by omega⟩ := Fin.ext (by show j.val / 1024 % 8 = j.val / 1024; omega)
    have e2 : (⟨j.val % 8192, Nat.mod_lt _ (by decide)⟩ : Fin 8192) = j := Fin.ext (Nat.mod_eq_of_lt hj)
    show x3 (ix5 0 hh ⟨(j.val / 1024) % 8, _⟩ _ _) * Ideal.exp2 ((∑ d : Fin 128, x2 (ix4 0 hh ⟨j.val % 8192, _⟩ d) * _) - _) = _
    rw [e1, e2]

theorem ld_q0 (x : Vec Ideal S1x2x1x128x1024 .bf16) : View.ld x r2_0 = (fun i : S1x1x1x128x1024.Idx => x (ix5 0 0 0 (i 3) (i 4))) := by
  funext i
  refine congrArg x (funext fun a => Fin.ext ?_)
  match a with
  | ⟨0, _⟩ =>
    have h := (i 0).isLt
    have h0 : (i 0).val = 0 := Nat.lt_one_iff.mp h
    show 0 + 1 * (i 0).val = 0
    omega
  | ⟨1, _⟩ =>
    have h := (i 1).isLt
    have h0 : (i 1).val = 0 := Nat.lt_one_iff.mp h
    show 0 + 1 * (i 1).val = 0
    omega
  | ⟨2, _⟩ =>
    have h := (i 2).isLt
    have h0 : (i 2).val = 0 := Nat.lt_one_iff.mp h
    show 0 + 1 * (i 2).val = 0
    omega
  | ⟨3, _⟩ =>
    show 0 + 1 * (i 3).val = (i 3).val
    omega
  | ⟨4, _⟩ =>
    show 0 + 1 * (i 4).val = (i 4).val
    omega

theorem ld_m0 (x : Vec Ideal S1x2x1x1x1024 .f32) : View.ld x r2_1 = (fun i : S1x1x1x1x1024.Idx => x (ix5 0 0 0 0 (i 4))) := by
  funext i
  refine congrArg x (funext fun a => Fin.ext ?_)
  match a with
  | ⟨0, _⟩ =>
    have h := (i 0).isLt
    have h0 : (i 0).val = 0 := Nat.lt_one_iff.mp h
    show 0 + 1 * (i 0).val = 0
    omega
  | ⟨1, _⟩ =>
    have h := (i 1).isLt
    have h0 : (i 1).val = 0 := Nat.lt_one_iff.mp h
    show 0 + 1 * (i 1).val = 0
    omega
  | ⟨2, _⟩ =>
    have h := (i 2).isLt
    have h0 : (i 2).val = 0 := Nat.lt_one_iff.mp h
    show 0 + 1 * (i 2).val = 0
    omega
  | ⟨3, _⟩ =>
    have h := (i 3).isLt
    have h0 : (i 3).val = 0 := Nat.lt_one_iff.mp h
    show 0 + 1 * (i 3).val = 0
    omega
  | ⟨4, _⟩ =>
    show 0 + 1 * (i 4).val = (i 4).val
    omega

theorem ld_km0 (x : Vec Ideal S2x128x128 .bf16) : View.ld x r2_2 = (fun i : S1x128x128.Idx => x (ix3 0 (i 1) (i 2))) := by
  funext i
  refine congrArg x (funext fun a => Fin.ext ?_)
  match a with
  | ⟨0, _⟩ =>
    have h := (i 0).isLt
    have h0 : (i 0).val = 0 := Nat.lt_one_iff.mp h
    show 0 + 1 * (i 0).val = 0
    omega
  | ⟨1, _⟩ =>
    show 0 + 1 * (i 1).val = (i 1).val
    omega
  | ⟨2, _⟩ =>
    show 0 + 1 * (i 2).val = (i 2).val
    omega

theorem ld_vm0 (x : Vec Ideal S2x128x128 .bf16) : View.ld x r2_3 = (fun i : S1x112x128.Idx => x (ix3 0 ⟨(i 1).val, lt_trans (i 1).isLt (by decide)⟩ (i 2))) := by
  funext i
  refine congrArg x (funext fun a => Fin.ext ?_)
  match a with
  | ⟨0, _⟩ =>
    have h := (i 0).isLt
    have h0 : (i 0).val = 0 := Nat.lt_one_iff.mp h
    show 0 + 1 * (i 0).val = 0
    omega
  | ⟨1, _⟩ =>
    show 0 + 1 * (i 1).val = (i 1).val
    omega
  | ⟨2, _⟩ =>
    show 0 + 1 * (i 2).val = (i 2).val
    omega

theorem ld_q1 (x : Vec Ideal S1x2x1x128x1024 .bf16) : View.ld x r2_68 = (fun i : S1x1x1x128x1024.Idx => x (ix5 0 1 0 (i 3) (i 4))) := by
  funext i
  refine congrArg x (funext fun a => Fin.ext ?_)
  match a with
  | ⟨0, _⟩ =>
    have h := (i 0).isLt
    have h0 : (i 0).val = 0 := Nat.lt_one_iff.mp h
    show 0 + 1 * (i 0).val = 0
    omega
  | ⟨1, _⟩ =>
    have h := (i 1).isLt
    have h0 : (i 1).val = 0 := Nat.lt_one_iff.mp h
    show 1 + 1 * (i 1).val = 1
    omega
  | ⟨2, _⟩ =>
    have h := (i 2).isLt
    have h0 : (i 2).val = 0 := Nat.lt_one_iff.mp h
    show 0 + 1 * (i 2).val = 0
    omega
  | ⟨3, _⟩ =>
    show 0 + 1 * (i 3).val = (i 3).val
    omega
  | ⟨4, _⟩ =>
    show 0 + 1 * (i 4).val = (i 4).val
    omega

theorem ld_m1 (x : Vec Ideal S1x2x1x1x1024 .f32) : View.ld x r2_69 = (fun i : S1x1x1x1x1024.Idx => x (ix5 0 1 0 0 (i 4))) := by
  funext i
  refine congrArg x (funext fun a => Fin.ext ?_)
  match a with
  | ⟨0, _⟩ =>
    have h := (i 0).isLt
    have h0 : (i 0).val = 0 := Nat.lt_one_iff.mp h
    show 0 + 1 * (i 0).val = 0
    omega
  | ⟨1, _⟩ =>
    have h := (i 1).isLt
    have h0 : (i 1).val = 0 := Nat.lt_one_iff.mp h
    show 1 + 1 * (i 1).val = 1
    omega
  | ⟨2, _⟩ =>
    have h := (i 2).isLt
    have h0 : (i 2).val = 0 := Nat.lt_one_iff.mp h
    show 0 + 1 * (i 2).val = 0
    omega
  | ⟨3, _⟩ =>
    have h := (i 3).isLt
    have h0 : (i 3).val = 0 := Nat.lt_one_iff.mp h
    show 0 + 1 * (i 3).val = 0
    omega
  | ⟨4, _⟩ =>
    show 0 + 1 * (i 4).val = (i 4).val
    omega

theorem ld_km1 (x : Vec Ideal S2x128x128 .bf16) : View.ld x r2_70 = (fun i : S1x128x128.Idx => x (ix3 1 (i 1) (i 2))) := by
  funext i
  refine congrArg x (funext fun a => Fin.ext ?_)
  match a with
  | ⟨0, _⟩ =>
    have h := (i 0).isLt
    have h0 : (i 0).val = 0 := Nat.lt_one_iff.mp h
    show 1 + 1 * (i 0).val = 1
    omega
  | ⟨1, _⟩ =>
    show 0 + 1 * (i 1).val = (i 1).val
    omega
  | ⟨2, _⟩ =>
    show 0 + 1 * (i 2).val = (i 2).val
    omega

theorem ld_vm1 (x : Vec Ideal S2x128x128 .bf16) : View.ld x r2_71 = (fun i : S1x112x128.Idx => x (ix3 1 ⟨(i 1).val, lt_trans (i 1).isLt (by decide)⟩ (i 2))) := by
  funext i
  refine congrArg x (funext fun a => Fin.ext ?_)
  match a with
  | ⟨0, _⟩ =>
    have h := (i 0).isLt
    have h0 : (i 0).val = 0 := Nat.lt_one_iff.mp h
    show 1 + 1 * (i 0).val = 1
    omega
  | ⟨1, _⟩ =>
    show 0 + 1 * (i 1).val = (i 1).val
    omega
  | ⟨2, _⟩ =>
    show 0 + 1 * (i 2).val = (i 2).val
    omega

theorem acc0_apply (x0 : Vec Ideal S1x2x1x128x1024 .bf16) (x1 : Vec Ideal S1x2x1x1x1024 .f32) (x2 : Vec Ideal S1x2x8192x128 .bf16) (x3 : Vec Ideal S1x2x8x128x1024 .bf16)
    (x4 : Vec Ideal S2x128x128 .bf16) (x5 : Vec Ideal S2x128x128 .bf16) (r : Fin 112) (c : Fin 1024) :
    acc0 x0 x1 x2 x3 x4 x5 (ix2 r c) = headSum x0 x1 x2 x3 x4 x5 0 ⟨r.val, by omega⟩ c := by
  unfold acc0 headSum
  rw [ld_q0, ld_m0, ld_km0, ld_vm0]
  refine (chunk_sum _ _ x2 x3 _ 0 r c).trans ?_
  rw [meta_apply]
  rfl

theorem acc1_apply (x0 : Vec Ideal S1x2x1x128x1024 .bf16) (x1 : Vec Ideal S1x2x1x1x1024 .f32) (x2 : Vec Ideal S1x2x8192x128 .bf16) (x3 : Vec Ideal S1x2x8x128x1024 .bf16)
    (x4 : Vec Ideal S2x128x128 .bf16) (x5 : Vec Ideal S2x128x128 .bf16) (r : Fin 112) (c : Fin 1024) :
    acc1 x0 x1 x2 x3 x4 x5 (ix2 r c) = headSum x0 x1 x2 x3 x4 x5 1 ⟨r.val, by omega⟩ c := by
  unfold acc1 headSum
  rw [ld_q1, ld_m1, ld_km1, ld_vm1]
  refine (chunk_sum _ _ x2 x3 _ 1 r c).trans ?_
  rw [meta_apply]
  rfl

/-- The block the attention call leaves, at an index. -/
theorem out2_apply (x0 : Vec Ideal S1x2x1x128x1024 .bf16) (x1 : Vec Ideal S1x2x1x1x1024 .f32) (x2 : Vec Ideal S1x2x8192x128 .bf16) (x3 : Vec Ideal S1x2x8x128x1024 .bf16)
    (x4 : Vec Ideal S2x128x128 .bf16) (x5 : Vec Ideal S2x128x128 .bf16) (r : Fin 1024) (c : Fin 128) :
    out2_6 x0 x1 x2 x3 x4 x5 (ix3 0 r c)
      = headSum x0 x1 x2 x3 x4 x5 ⟨c.val / 64, by omega⟩ ⟨c.val % 64, by omega⟩ r
        * Ideal.div 1 (headSum x0 x1 x2 x3 x4 x5 ⟨c.val / 64, by omega⟩ 64 r) := by
  rw [out2_eq, View.canon_unit_zero (by funext a; fin_cases a <;> rfl), fin_apply]
  split
  · rename_i h
    have e1 : (⟨c.val / 64, by omega⟩ : Fin 2) = 0 := Fin.ext (by show c.val / 64 = 0; omega)
    have e2 : (⟨c.val % 64, by omega⟩ : Fin 128) = ⟨c.val, by omega⟩ := Fin.ext (by show c.val % 64 = c.val; omega)
    rw [e1, e2, acc0_apply, acc0_apply]
    rfl
  · rename_i h
    have e1 : (⟨c.val / 64, by omega⟩ : Fin 2) = 1 := Fin.ext (by show c.val / 64 = 1; omega)
    have e2 : (⟨c.val % 64, by omega⟩ : Fin 128) = ⟨c.val - 64, by omega⟩ := Fin.ext (by show c.val % 64 = c.val - 64; omega)
    rw [e1, e2, acc1_apply, acc1_apply]
    rfl

end Cert.KernelIdeal.Attn

end
-- ==== Proof.Arr2.lean ====
/- What the attention call leaves in its array, out of the arguments. -/
module

public import proofs.«01_k».proof.Proof.Arr1
public import proofs.«01_k».proof.Proof.AttnValue

@[expose] public section

set_option maxRecDepth 16384

noncomputable section

namespace Cert.KernelIdeal.Arr

open Idealize.ShloMosaic Idealize.ShloMosaic.TcCoe Idealize.SL.Sem
open Cert.KernelIdeal Cert.KernelIdeal.Gen Cert.Layer Cert.KernelIdeal.Host Cert.KernelIdeal.Attn
open Idealize.ShloMosaic.Pipeline

/-- The bound the kernel subtracts from the scores of query row `q`. -/
def bnd (A : Valuation τ sig (Elt Ideal)) (b : Fin 4) (q : Fin 8192) (h : Fin 8) : EReal :=
  qnrm A b q h * (Ideal.sqrt (max (Finset.univ.fold max (Ideal.ofBits .f32 0xFF800000#32) fun p : Fin 8 × Fin 1 × Fin 128 => ksq A b p.1 h)
    (Finset.univ.fold max (Ideal.ofBits .f32 0xFF800000#32) fun t : Fin 128 => ∑ l : Fin 128, km A t h l * km A t h l)) * Ideal.ofBits .f32 0x3F820000#32)

/-- Lane `l` of the weighted sum of the value rows of head `h`, for query row `q`. -/
def hs (A : Valuation τ sig (Elt Ideal)) (b : Fin 4) (q : Fin 8192) (h : Fin 8) (l : Fin 128) : EReal :=
  (∑ k : Fin 128, vm A k h l * Ideal.exp2 (metaScore k (∑ d : Fin 128, km A k h d * ql A b q h d) - bnd A b q h))
    + ∑ j : Fin 8192, vv A b j h l * Ideal.exp2 ((∑ d : Fin 128, kl A b j h d * ql A b q h d) - bnd A b q h)

/-- Head `hh` of the pair `p`. -/
def hd (p : Fin 4) (hh : Fin 2) : Fin 8 := ⟨p.val * 2 + hh.val, by omega⟩

theorem tl_divmod (j : Fin 8192) : tl ⟨j.val / 1024, by omega⟩ ⟨j.val % 1024, by omega⟩ = j := by
  exact Fin.ext (Nat.div_add_mod' _ _)

variable (m : (ℓ : Loc nD τ sig) → Buf (Elt Ideal) ℓ) (ρ : Dev nD → PrngReg) (c : Dev nD)

theorem l0 : ∀ t : Fin cfg2.N, win2_0.index t = ![(grid2.coords t 0).val, (grid2.coords t 1).val, (grid2.coords t 2).val, 0, 0] := by
  show ∀ t : Fin grid2.N, win2_0.index t = ![(grid2.coords t 0).val, (grid2.coords t 1).val, (grid2.coords t 2).val, 0, 0]
  decide +kernel
theorem l1 : ∀ t : Fin cfg2.N, win2_1.index t = ![(grid2.coords t 0).val, (grid2.coords t 1).val, (grid2.coords t 2).val, 0, 0] := by
  show ∀ t : Fin grid2.N, win2_1.index t = ![(grid2.coords t 0).val, (grid2.coords t 1).val, (grid2.coords t 2).val, 0, 0]
  decide +kernel
theorem l2 : ∀ t : Fin cfg2.N, win2_2.index t = ![(grid2.coords t 0).val, (grid2.coords t 1).val, 0, 0] := by
  show ∀ t : Fin grid2.N, win2_2.index t = ![(grid2.coords t 0).val, (grid2.coords t 1).val, 0, 0]
  decide +kernel
theorem l3 : ∀ t : Fin cfg2.N, win2_3.index t = ![(grid2.coords t 0).val, (grid2.coords t 1).val, 0, 0, 0] := by
  show ∀ t : Fin grid2.N, win2_3.index t = ![(grid2.coords t 0).val, (grid2.coords t 1).val, 0, 0, 0]
  decide +kernel
theorem l4 : ∀ t : Fin cfg2.N, win2_4.index t = ![(grid2.coords t 1).val, 0, 0] := by
  show ∀ t : Fin grid2.N, win2_4.index t = ![(grid2.coords t 1).val, 0, 0]
  decide +kernel
theorem l5 : ∀ t : Fin cfg2.N, win2_5.index t = ![(grid2.coords t 1).val, 0, 0] := by
  show ∀ t : Fin grid2.N, win2_5.index t = ![(grid2.coords t 1).val, 0, 0]
  decide +kernel
theorem l6 : ∀ t : Fin cfg2.N, win2_6.index t = ![(grid2.coords t 0).val, (grid2.coords t 2).val, (grid2.coords t 1).val] := by
  show ∀ t : Fin grid2.N, win2_6.index t = ![(grid2.coords t 0).val, (grid2.coords t 2).val, (grid2.coords t 1).val]
  decide +kernel
theorem W6_v55_0 : W6 m ρ c (Proc.devRef .tc main_v55_0) = qG (W0 m ρ c) := by
  exact (W6_of m ρ c main_v55_0 (by decide +kernel)).trans ((W5_of m ρ c main_v55_0 (by decide)).trans ((W4_of m ρ c main_v55_0 (by decide)).trans ((W3_of m ρ c main_v55_0 (by decide)).trans (q_arr m ρ c))))

theorem W6_v55_1 : W6 m ρ c (Proc.devRef .tc main_v55_1) = kG (W0 m ρ c) := by
  exact (W6_of m ρ c main_v55_1 (by decide +kernel)).trans ((W5_of m ρ c main_v55_1 (by decide)).trans ((W4_of m ρ c main_v55_1 (by decide)).trans ((W3_of m ρ c main_v55_1 (by decide)).trans (k_arr m ρ c))))

theorem W6_v55_2 : W6 m ρ c (Proc.devRef .tc main_v55_2) = vG (W0 m ρ c) := by
  exact (W6_of m ρ c main_v55_2 (by decide +kernel)).trans ((W5_of m ρ c main_v55_2 (by decide)).trans ((W4_of m ρ c main_v55_2 (by decide)).trans ((W3_of m ρ c main_v55_2 (by decide)).trans (v_arr m ρ c))))

theorem W6_v55_4 : W6 m ρ c (Proc.devRef .tc main_v55_4) = qnormG (W0 m ρ c) := by
  exact (W6_of m ρ c main_v55_4 (by decide +kernel)).trans ((W5_of m ρ c main_v55_4 (by decide)).trans ((W4_of m ρ c main_v55_4 (by decide)).trans ((W3_of m ρ c main_v55_4 (by decide)).trans (qnorm_arr m ρ c))))

theorem W6_v55_5 : W6 m ρ c (Proc.devRef .tc main_v55_5) = ksqG (W0 m ρ c) := by
  exact (W6_of m ρ c main_v55_5 (by decide +kernel)).trans ((W5_of m ρ c main_v55_5 (by decide)).trans ((W4_of m ρ c main_v55_5 (by decide)).trans ((W3_of m ρ c main_v55_5 (by decide)).trans (ksq_arr m ρ c))))

theorem W7_v55_0 : W7 m ρ c (Proc.devRef .tc main_v55_0) = qG (W0 m ρ c) := by
  exact (W7_of m ρ c main_v55_0 (by decide)).trans (W6_v55_0 m ρ c)

theorem W7_v55_1 : W7 m ρ c (Proc.devRef .tc main_v55_1) = kG (W0 m ρ c) := by
  exact (W7_of m ρ c main_v55_1 (by decide)).trans (W6_v55_1 m ρ c)

theorem W7_v55_2 : W7 m ρ c (Proc.devRef .tc main_v55_2) = vG (W0 m ρ c) := by
  exact (W7_of m ρ c main_v55_2 (by decide)).trans (W6_v55_2 m ρ c)

theorem bnd_at (b : Fin 4) (h i : Fin 8) (t : Fin 1024) : (W7 m ρ c (Proc.devRef .tc main_v102) : Vec Ideal S4x8x8x1x1024 .f32) (ix5 b h i 0 t) = bnd (W0 m ρ c) b (tl i t) h := by
  refine (v102_at (W6 m ρ c) b h i t).trans ?_
  rw [show r_v55_4 (W6 m ρ c) = qnormG (W0 m ρ c) from W6_v55_4 m ρ c, show r_v55_5 (W6 m ρ c) = ksqG (W0 m ρ c) from W6_v55_5 m ρ c,
    show r_v84_0 (W6 m ρ c) = kmG (W0 m ρ c) from km_arr m ρ c]
  rfl

theorem km_at (h : Fin 8) (t l : Fin 128) : (W7 m ρ c (Proc.devRef .tc main_v85) : Vec Ideal S8x128x128 .bf16) (ix3 h t l) = km (W0 m ρ c) t h l := by
  refine (v85_at (W6 m ρ c) h t l).trans ?_
  rw [show r_v84_0 (W6 m ρ c) = kmG (W0 m ρ c) from km_arr m ρ c]
  rfl

theorem vm_at (h : Fin 8) (l t : Fin 128) : (W7 m ρ c (Proc.devRef .tc main_v86) : Vec Ideal S8x128x128 .bf16) (ix3 h l t) = vm (W0 m ρ c) t h l := by
  refine (v86_at (W6 m ρ c) h l t).trans ?_
  rw [show r_v84_1 (W6 m ρ c) = vmG (W0 m ρ c) from vm_arr m ρ c]
  rfl

theorem q_blk2 (t : Fin cfg2.N) (hh : Fin 2) (l : Fin 128) (r : Fin 1024) : (iblk2 (V7 m ρ) c 0 t : Vec Ideal S1x2x1x128x1024 .bf16) (ix5 0 hh 0 l r) = ql (W0 m ρ c) (grid2.coords t 0) (tl (grid2.coords t 2) r) (hd (grid2.coords t 1) hh) l := by
  have e : (iblk2 (V7 m ρ) c 0 t : Vec Ideal S1x2x1x128x1024 .bf16) (ix5 0 hh 0 l r) = (W7 m ρ c (Proc.devRef .tc main_v55_0) : Vec Ideal S4x8x8x128x1024 .bf16) (ix5 (grid2.coords t 0) (hd (grid2.coords t 1) hh) (grid2.coords t 2) l r) := by
    unfold iblk2
    blk_ext [l0, hd]
  rw [e, W7_v55_0]
  rfl

theorem bnd_blk2 (t : Fin cfg2.N) (hh : Fin 2) (r : Fin 1024) : (iblk2 (V7 m ρ) c 1 t : Vec Ideal S1x2x1x1x1024 .f32) (ix5 0 hh 0 0 r) = bnd (W0 m ρ c) (grid2.coords t 0) (tl (grid2.coords t 2) r) (hd (grid2.coords t 1) hh) := by
  have e : (iblk2 (V7 m ρ) c 1 t : Vec Ideal S1x2x1x1x1024 .f32) (ix5 0 hh 0 0 r) = (W7 m ρ c (Proc.devRef .tc main_v102) : Vec Ideal S4x8x8x1x1024 .f32) (ix5 (grid2.coords t 0) (hd (grid2.coords t 1) hh) (grid2.coords t 2) 0 r) := by
    unfold iblk2
    blk_ext [l1, hd]
  rw [e]
  exact bnd_at m ρ c _ _ _ _

theorem k_blk2 (t : Fin cfg2.N) (hh : Fin 2) (j : Fin 8192) (l : Fin 128) : (iblk2 (V7 m ρ) c 2 t : Vec Ideal S1x2x8192x128 .bf16) (ix4 0 hh j l) = kl (W0 m ρ c) (grid2.coords t 0) j (hd (grid2.coords t 1) hh) l := by
  have e : (iblk2 (V7 m ρ) c 2 t : Vec Ideal S1x2x8192x128 .bf16) (ix4 0 hh j l) = (W7 m ρ c (Proc.devRef .tc main_v55_1) : Vec Ideal S4x8x8192x128 .bf16) (ix4 (grid2.coords t 0) (hd (grid2.coords t 1) hh) j l) := by
    unfold iblk2
    blk_ext [l2, hd]
  rw [e, W7_v55_1]
  rfl

theorem v_blk2 (t : Fin cfg2.N) (hh : Fin 2) (n : Fin 8) (l : Fin 128) (r : Fin 1024) : (iblk2 (V7 m ρ) c 3 t : Vec Ideal S1x2x8x128x1024 .bf16) (ix5 0 hh n l r) = vv (W0 m ρ c) (grid2.coords t 0) (tl n r) (hd (grid2.coords t 1) hh) l := by
  have e : (iblk2 (V7 m ρ) c 3 t : Vec Ideal S1x2x8x128x1024 .bf16) (ix5 0 hh n l r) = (W7 m ρ c (Proc.devRef .tc main_v55_2) : Vec Ideal S4x8x8x128x1024 .bf16) (ix5 (grid2.coords t 0) (hd (grid2.coords t 1) hh) n l r) := by
    unfold iblk2
    blk_ext [l3, hd]
  rw [e, W7_v55_2]
  rfl

theorem km_blk2 (t : Fin cfg2.N) (hh : Fin 2) (r l : Fin 128) : (iblk2 (V7 m ρ) c 4 t : Vec Ideal S2x128x128 .bf16) (ix3 hh r l) = km (W0 m ρ c) r (hd (grid2.coords t 1) hh) l := by
  have e : (iblk2 (V7 m ρ) c 4 t : Vec Ideal S2x128x128 .bf16) (ix3 hh r l) = (W7 m ρ c (Proc.devRef .tc main_v85) : Vec Ideal S8x128x128 .bf16) (ix3 (hd (grid2.coords t 1) hh) r l) := by
    unfold iblk2
    blk_ext [l4, hd]
  rw [e]
  exact km_at m ρ c _ _ _

theorem vm_blk2 (t : Fin cfg2.N) (hh : Fin 2) (l r : Fin 128) : (iblk2 (V7 m ρ) c 5 t : Vec Ideal S2x128x128 .bf16) (ix3 hh l r) = vm (W0 m ρ c) r (hd (grid2.coords t 1) hh) l := by
  have e : (iblk2 (V7 m ρ) c 5 t : Vec Ideal S2x128x128 .bf16) (ix3 hh l r) = (W7 m ρ c (Proc.devRef .tc main_v86) : Vec Ideal S8x128x128 .bf16) (ix3 (hd (grid2.coords t 1) hh) l r) := by
    unfold iblk2
    blk_ext [l5, hd]
  rw [e]
  exact vm_at m ρ c _ _ _

theorem headSum_of (x0 : Vec Ideal S1x2x1x128x1024 .bf16) (x1 : Vec Ideal S1x2x1x1x1024 .f32) (x2 : Vec Ideal S1x2x8192x128 .bf16) (x3 : Vec Ideal S1x2x8x128x1024 .bf16)
    (x4 : Vec Ideal S2x128x128 .bf16) (x5 : Vec Ideal S2x128x128 .bf16) (A : Valuation τ sig (Elt Ideal)) (b : Fin 4) (q : Fin 8192) (h : Fin 8) (hh : Fin 2) (l : Fin 128) (r : Fin 1024)
    (h0 : ∀ d : Fin 128, x0 (ix5 0 hh 0 d r) = ql A b q h d) (h1 : x1 (ix5 0 hh 0 0 r) = bnd A b q h) (h2 : ∀ (j : Fin 8192) (d : Fin 128), x2 (ix4 0 hh j d) = kl A b j h d)
    (h3 : ∀ j : Fin 8192, x3 (ix5 0 hh ⟨j.val / 1024, by omega⟩ l ⟨j.val % 1024, by omega⟩) = vv A b j h l) (h4 : ∀ k d : Fin 128, x4 (ix3 hh k d) = km A k h d)
    (h5 : ∀ k : Fin 128, x5 (ix3 hh l k) = vm A k h l) : headSum x0 x1 x2 x3 x4 x5 hh l r = hs A b q h l := by
  unfold headSum hs
  simp only [h0, h1, h2, h3, h4, h5]

theorem hs_blk (t : Fin cfg2.N) (hh : Fin 2) (l : Fin 128) (r : Fin 1024) : headSum (iblk2 (V7 m ρ) c 0 t) (iblk2 (V7 m ρ) c 1 t) (iblk2 (V7 m ρ) c 2 t) (iblk2 (V7 m ρ) c 3 t) (iblk2 (V7 m ρ) c 4 t) (iblk2 (V7 m ρ) c 5 t) hh l r = hs (W0 m ρ c) (grid2.coords t 0) (tl (grid2.coords t 2) r) (hd (grid2.coords t 1) hh) l := by
  exact headSum_of _ _ _ _ _ _ (W0 m ρ c) (grid2.coords t 0) (tl (grid2.coords t 2) r) (hd (grid2.coords t 1) hh) hh l r (q_blk2 m ρ c t hh · r) (bnd_blk2 m ρ c t hh r) (k_blk2 m ρ c t hh)
    (fun j => (v_blk2 m ρ c t hh _ l _).trans (congrArg (fun j => vv (W0 m ρ c) (grid2.coords t 0) j (hd (grid2.coords t 1) hh) l) (tl_divmod j))) (km_blk2 m ρ c t hh) (vm_blk2 m ρ c t hh l)

/-- Column `e` of the result's row `q`. -/
def res (A : Valuation τ sig (Elt Ideal)) (b : Fin 4) (q : Fin 8192) (e : Fin 512) : EReal :=
  hs A b q ⟨e.val / 64, by omega⟩ ⟨e.val % 64, by omega⟩ * Ideal.div 1 (hs A b q ⟨e.val / 64, by omega⟩ 64)

/-- Column `e` of the pair `p`. -/
def cl (p : Fin 4) (e : Fin 128) : Fin 512 := ⟨p.val * 128 + e.val, by omega⟩

theorem out_blk (t : Fin cfg2.N) (r : Fin 1024) (e : Fin 128) : out2_6 (iblk2 (V7 m ρ) c 0 t) (iblk2 (V7 m ρ) c 1 t) (iblk2 (V7 m ρ) c 2 t) (iblk2 (V7 m ρ) c 3 t) (iblk2 (V7 m ρ) c 4 t) (iblk2 (V7 m ρ) c 5 t) (ix3 0 r e) = res (W0 m ρ c) (grid2.coords t 0) (tl (grid2.coords t 2) r) (cl (grid2.coords t 1) e) := by
  refine (out2_apply (iblk2 (V7 m ρ) c 0 t) (iblk2 (V7 m ρ) c 1 t) (iblk2 (V7 m ρ) c 2 t) (iblk2 (V7 m ρ) c 3 t) (iblk2 (V7 m ρ) c 4 t) (iblk2 (V7 m ρ) c 5 t) r e).trans ?_
  rw [hs_blk, hs_blk]
  have hp := ((grid2.coords t 1) : Fin 4).isLt
  have e1 : hd (grid2.coords t 1) ⟨e.val / 64, by omega⟩ = ⟨(cl (grid2.coords t 1) e).val / 64, by omega⟩ := Fin.ext (by show (grid2.coords t 1).val * 2 + e.val / 64 = ((grid2.coords t 1).val * 128 + e.val) / 64; omega)
  have e2 : (⟨e.val % 64, by omega⟩ : Fin 128) = ⟨(cl (grid2.coords t 1) e).val % 64, by omega⟩ := Fin.ext (by show e.val % 64 = ((grid2.coords t 1).val * 128 + e.val) % 64; omega)
  exact congrArg₂ (fun (h : Fin 8) (l : Fin 128) => hs (W0 m ρ c) (grid2.coords t 0) (tl (grid2.coords t 2) r) h l * Ideal.div 1 (hs (W0 m ρ c) (grid2.coords t 0) (tl (grid2.coords t 2) r) h 64)) e1 e2

theorem ix3_0 {n1 n2 : ℕ} (y : (⟨3, ![1, n1, n2]⟩ : Shape).Idx) : y = ix3 (n0 := 1) (n1 := n1) (n2 := n2) 0 (y 1) (y 2) := by
  funext a
  match a with
  | ⟨0, _⟩ => exact Subsingleton.elim (α := Fin 1) _ _
  | ⟨1, _⟩ => rfl
  | ⟨2, _⟩ => rfl

/-- The result array. -/
def resG (A : Valuation τ sig (Elt Ideal)) : Vec Ideal S4x8192x512 .f32 := fun i => res A (i 0) (i 1) (i 2)

theorem res_emb (t : Fin cfg2.N) (y : S1x1024x128.Idx) : resG (W0 m ρ c) (((cfg2.win 6).blk t).view.emb y) = res (W0 m ρ c) (grid2.coords t 0) (tl (grid2.coords t 2) (y 1)) (cl (grid2.coords t 1) (y 2)) := by
  unfold resG
  refine congr3 (res (W0 m ρ c)) (Fin.ext ?_) (Fin.ext ?_) (Fin.ext ?_) <;> first | (blk_simp [l6, tl, cl]; done) | (simp only [tl, cl]; blk_simp [l6]; done) | (simp only [tl, cl]; blk_simp [l6]; omega) | skip

theorem res_after (t : Fin cfg2.N) (y : S1x1024x128.Idx) : (dat2 (V7 m ρ) c).after 6 t y = res (W0 m ρ c) (grid2.coords t 0) (tl (grid2.coords t 2) (y 1)) (cl (grid2.coords t 1) (y 2)) := by
  refine (congrFun (after2_6 (V7 m ρ) c t) y).trans ?_
  refine Eq.trans (congrArg (out2_6 (iblk2 (V7 m ρ) c 0 t) (iblk2 (V7 m ρ) c 1 t) (iblk2 (V7 m ρ) c 2 t) (iblk2 (V7 m ρ) c 3 t) (iblk2 (V7 m ρ) c 4 t) (iblk2 (V7 m ρ) c 5 t)) (ix3_0 y)) (out_blk m ρ c t (y 1) (y 2))

theorem res_arr : W8 m ρ c (Proc.devRef .tc main_v103) = resG (W0 m ρ c) := by
  refine (W8_arr m ρ c 6).trans ?_
  refine Dat.arrAt_eq_of_covers (dat2 (V7 m ρ) c) 6 (resG (W0 m ρ c)) (by decide +kernel) fun t hf y => ?_
  blk_simp
  exact (res_after m ρ c t y).trans (res_emb m ρ c t y).symm

end Cert.KernelIdeal.Arr

end
-- ==== Proof.PostSpec.lean ====
/- The layer after the attention, row by row, over the extended reals: what the kernel and the reference are both read as. -/
module

public import proofs.«01_k».proof.Proof.Spec

@[expose] public section

noncomputable section

namespace Cert.Layer

open Idealize.ShloMosaic

/-- The approximate Gaussian error unit. -/
def gelu (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * y * y)))))

/-- The weights after the attention, as plain functions. -/
structure PWts where
  wglu : Fin 512 → Fin 1024 → EReal
  gmix : Fin 1024 → EReal
  wout : Fin 1024 → Fin 1024 → EReal
  gpm : Fin 1024 → EReal
  gpre : Fin 1024 → EReal
  wup : Fin 1024 → Fin 4096 → EReal
  wdn : Fin 4096 → Fin 1024 → EReal
  gpost : Fin 1024 → EReal

/-- A value gated by the logistic function of another. -/
def gate (u v : EReal) : EReal := u * Ideal.div (Ideal.ofBits .f32 0x3F800000#32) (Ideal.ofBits .f32 0x3F800000#32 + Ideal.exp (-v))

/-- Two rows normalised apart, side by side. -/
def mixV (g : Fin 1024 → EReal) (a s : Fin 512 → EReal) (e : Fin 1024) : EReal :=
  if h : e.val < 512 then rms (Ideal.ofBits .f32 0x44000000#32) a (fun i => g ⟨i.val, by omega⟩) ⟨e.val, h⟩
  else rms (Ideal.ofBits .f32 0x44000000#32) s (fun i => g ⟨512 + i.val, by omega⟩) ⟨e.val - 512, by omega⟩

/-- A rectified value, squared. -/
def sq (m : EReal) : EReal := max m 0 * max m 0

variable (P : PWts)

/-- The recurrence's row through its linear map. -/
def glin (y : Fin 512 → EReal) (e : Fin 1024) : EReal := ∑ k, gelu (y k) * P.wglu k e

/-- The gated row of the recurrence. -/
def ssm (y : Fin 512 → EReal) (e : Fin 512) : EReal := gate (glin P y ⟨e.val, by omega⟩) (glin P y ⟨512 + e.val, by omega⟩)

/-- The attention's row and the recurrence's, mixed and projected. -/
def outp (a y : Fin 512 → EReal) (e : Fin 1024) : EReal := ∑ k, mixV P.gmix a (ssm P y) k * P.wout k e

/-- The row between the two halves of the layer. -/
def hid (x : Fin 1024 → EReal) (a y : Fin 512 → EReal) (e : Fin 1024) : EReal :=
  x e + rms (Ideal.ofBits .f32 0x44800000#32) (outp P a y) P.gpm e

/-- The row entering the feed-forward network. -/
def nrm (x : Fin 1024 → EReal) (a y : Fin 512 → EReal) : Fin 1024 → EReal := rms (Ideal.ofBits .f32 0x44800000#32) (hid P x a y) P.gpre

/-- The feed-forward network of a row. -/
def act (n : Fin 1024 → EReal) (f : Fin 4096) : EReal := sq (∑ k, n k * P.wup k f)
def ffn (n : Fin 1024 → EReal) (e : Fin 1024) : EReal := ∑ f, act P n f * P.wdn f e

/-- The layer's result. -/
def post (x : Fin 1024 → EReal) (a y : Fin 512 → EReal) (e : Fin 1024) : EReal :=
  hid P x a y e + rms (Ideal.ofBits .f32 0x44800000#32) (ffn P (nrm P x a y)) P.gpost e

end Cert.Layer

end

end
-- ==== Proof.PostPay.lean ====
/- The values the last call computes over one block of rows, at an index. -/
module

public import proofs.«01_k».proof.Proof.Gen.KernelIdeal.Frame
public import proofs.«01_k».proof.Proof.PostSpec
public import Idealize.ShloMosaic.Lib.Pointwise

@[expose] public section

set_option maxRecDepth 16384

noncomputable section

namespace Cert.KernelIdeal.Post

open Idealize.ShloMosaic Idealize.ShloMosaic.TcCoe Idealize.SL.Sem
open Cert.KernelIdeal Cert.KernelIdeal.Gen Cert.Layer

/-- One chunk of the feed-forward network: 1024 of its columns. -/
def chunk (n : Fin 1024 → EReal) (u d : Fin 1024 → Fin 1024 → EReal) (e : Fin 1024) : EReal := ∑ f : Fin 1024, Layer.sq (∑ k : Fin 1024, n k * u k f) * d f e

/-- The gelu of a block of the recurrence's output, turned to rows. -/
def gz (v : FVec Ideal S512x256 .f32) : FVec Ideal S256x512 .bf16 :=
  let z := transpose S256x512 [1, 0] v transposes_S512x256_p1_0_S256x512
  truncf .bf16 (mulf (mulf (broadcast S256x512 (Scalar.ofBits (F := Ideal) .f32 0x3F000000#32)) z)
    (addf (broadcast S256x512 (Scalar.ofBits (F := Ideal) .f32 0x3F800000#32)) (tanh (mulf (broadcast S256x512 (Scalar.ofBits (F := Ideal) .f32 0x3F4C422A#32))
      (addf z (mulf (broadcast S256x512 (Scalar.ofBits (F := Ideal) .f32 0x3D372713#32)) (mulf (mulf z z) z))))))) bitsLt_bf16_f32

theorem gelu_comm (h c1 c2 one y : EReal) : h * y * (one + Ideal.tanh (c1 * (y + c2 * (y * y * y)))) = y * (h * (one + Ideal.tanh (c1 * (y + c2 * (y * y * y))))) := by
  rw [mul_comm h y, mul_assoc]

theorem gz_apply (v : FVec Ideal S512x256 .f32) (r : Fin 256) (k : Fin 512) : gz v (ix2 r k) = gelu (v (ix2 k r)) := by
  refine Eq.trans ?_ (gelu_comm _ _ _ _ (v (ix2 k r)))
  pointwise [gz]

theorem pay74_apply (v : FVec Ideal S256x512 .bf16) (w : Vec Ideal S512x1024 .bf16) (r : Fin 256) (e : Fin 1024) :
    k3_pay74 v w (ix2 r e) = ∑ k : Fin 512, v (ix2 r k) * w (ix2 k e) := by
  pointwise [k3_pay74]

theorem pay76_apply (v : FVec Ideal S256x512 .bf16) (w : Vec Ideal S512x1024 .bf16) (r : Fin 256) (e : Fin 512) :
    k3_pay76 v w (ix2 r e) = k3_pay74 v w (ix2 r ⟨e.val, by omega⟩) := by
  generalize hv : k3_pay74 v w = p
  pointwise [k3_pay76, hv]

theorem pay77_apply (v : FVec Ideal S256x512 .bf16) (w : Vec Ideal S512x1024 .bf16) (r : Fin 256) (e : Fin 512) :
    k3_pay77 v w (ix2 r e) = Ideal.ofBits .f32 0x3F800000#32 + Ideal.exp (-(k3_pay74 v w (ix2 r ⟨512 + e.val, by omega⟩))) := by
  generalize hv : k3_pay74 v w = p
  pointwise [k3_pay77, hv]
  rw [zero_sub]

theorem pay78_apply (g : FVec Ideal S1x1024 .f32) (p q : FVec Ideal S256x512 .f32) (c : EReal) (a : Vec Ideal S1x256x512 .f32) (r : Fin 256) (e : Fin 1024) :
    k3_pay78 (F := Ideal) g p q c a (ix2 r e) = mixV (fun d => g (ix2 0 d)) (fun i => a (ix3 0 r i)) (fun i => p (ix2 r i) * Ideal.div c (q (ix2 r i))) e := by
  unfold mixV
  pointwise [k3_pay78]
  rfl

theorem pay79_apply (p : FVec Ideal S256x1024 .f32) (r : Fin 256) (e : Fin 512) :
    k3_pay79 p (ix2 r e) = gate (p (ix2 r ⟨e.val, by omega⟩)) (p (ix2 r ⟨512 + e.val, by omega⟩)) := by
  unfold gate
  pointwise [k3_pay79]
  rw [zero_sub]

theorem pay80_apply (a : Vec Ideal S1x256x512 .f32) (r : Fin 256) (e : Fin 512) : k3_pay80 a (ix2 r e) = a (ix3 0 r e) := by
  pointwise [k3_pay80]

theorem pay81_apply (v : FVec Ideal S256x1024 .bf16) (w : Vec Ideal S1024x1024 .bf16) (r : Fin 256) (e : Fin 1024) :
    k3_pay81 v w (ix2 r e) = ∑ k : Fin 1024, v (ix2 r k) * w (ix2 k e) := by
  pointwise [k3_pay81]

theorem pay82_apply (g : FVec Ideal S1x1024 .f32) (s a : FVec Ideal S256x512 .f32) (w : Vec Ideal S1024x1024 .bf16) (r : Fin 256) (e : Fin 1024) :
    k3_pay82 g s a w (ix2 r e) = ∑ k : Fin 1024, mixV (fun d => g (ix2 0 d)) (fun i => a (ix2 r i)) (fun i => s (ix2 r i)) k * w (ix2 k e) := by
  unfold mixV
  pointwise [k3_pay82]
  rfl

theorem pay86_apply (v x : FVec Ideal S256x1024 .f32) (g : FVec Ideal S1x1024 .f32) (q : FVec Ideal S256x1 .f32) (c : EReal) (r : Fin 256) (e : Fin 1024) :
    k3_pay86 (F := Ideal) v x g q c (ix2 r e) = x (ix2 r e) + v (ix2 r e) * Ideal.rsqrt (Ideal.div (q (ix2 r 0)) c + eps) * g (ix2 0 e) := by
  pointwise [k3_pay86]
  rfl

theorem pay85_apply (v : FVec Ideal S256x1024 .bf16) (w : Vec Ideal S1024x1024 .bf16) (r : Fin 256) :
    k3_pay85 v w (ix2 r 0) = ∑ e : Fin 1024, k3_pay81 v w (ix2 r e) * k3_pay81 v w (ix2 r e) := by
  generalize hv : k3_pay81 v w = p
  pointwise [k3_pay85, hv]

theorem pay83_apply (x : Vec Ideal S1x256x1024 .f32) (r : Fin 256) (e : Fin 1024) : k3_pay83 x (ix2 r e) = x (ix3 0 r e) := by
  pointwise [k3_pay83]

theorem pay84_apply (g : Vec Ideal S1x1024 .f32) (e : Fin 1024) : k3_pay84 g (ix2 0 e) = g (ix2 0 e) := by
  pointwise [k3_pay84]

theorem pay89_apply (g : Vec Ideal S1x1024 .f32) (e : Fin 1024) : k3_pay89 g (ix2 0 e) = g (ix2 0 e) := by
  pointwise [k3_pay89]

theorem pay3_apply (g : Vec Ideal S1x1024 .f32) (e : Fin 1024) : k3_pay3 g (ix2 0 e) = g (ix2 0 e) := by
  pointwise [k3_pay3]

theorem pay87_apply (v : FVec Ideal S256x1024 .f32) (x : Vec Ideal S1x256x1024 .f32) (g : Vec Ideal S1x1024 .f32) (r : Fin 256) (e : Fin 1024) :
    k3_pay87 v x g (ix2 r e) = x (ix3 0 r e) + rms (Ideal.ofBits .f32 0x44800000#32) (fun d => v (ix2 r d)) (fun d => g (ix2 0 d)) e := by
  pointwise [k3_pay87]
  rfl

theorem pay88_apply (v x : FVec Ideal S256x1024 .f32) (g : FVec Ideal S1x1024 .f32) (q : FVec Ideal S256x1 .f32) (c : EReal) (g' : Vec Ideal S1x1024 .f32) (r : Fin 256) (e : Fin 1024) :
    k3_pay88 (F := Ideal) v x g q c g' (ix2 r e) = rms (Ideal.ofBits .f32 0x44800000#32) (fun d => k3_pay86 (F := Ideal) v x g q c (ix2 r d)) (fun d => g' (ix2 0 d)) e := by
  generalize hv : k3_pay86 (F := Ideal) v x g q c = p
  pointwise [k3_pay88, hv]
  rfl

theorem pay90_apply (v : FVec Ideal S256x1024 .f32) (g : FVec Ideal S1x1024 .f32) (r : Fin 256) (e : Fin 1024) :
    k3_pay90 v g (ix2 r e) = rms (Ideal.ofBits .f32 0x44800000#32) (fun d => v (ix2 r d)) (fun d => g (ix2 0 d)) e := by
  pointwise [k3_pay90]
  rfl

theorem pay91_apply (n : FVec Ideal S256x1024 .bf16) (u d : Vec Ideal S1024x1024 .bf16) (r : Fin 256) (e : Fin 1024) :
    k3_pay91 n u d (ix2 r e) = chunk (fun k => n (ix2 r k)) (fun k f => u (ix2 k f)) (fun f e => d (ix2 f e)) e := by
  unfold chunk Layer.sq
  pointwise [k3_pay91]

theorem pay92_apply (v : FVec Ideal S256x1024 .f32) (g : FVec Ideal S1x1024 .f32) (u d : Vec Ideal S1024x1024 .bf16) (r : Fin 256) (e : Fin 1024) :
    k3_pay92 v g u d (ix2 r e) = chunk (fun k => k3_pay90 v g (ix2 r k)) (fun k f => u (ix2 k f)) (fun f e => d (ix2 f e)) e := by
  unfold chunk Layer.sq
  generalize hv : k3_pay90 v g = n
  pointwise [k3_pay92, hv]

theorem pay93_apply (n : FVec Ideal S256x1024 .bf16) (u : Vec Ideal S1024x1024 .bf16) (r : Fin 256) (f : Fin 1024) :
    k3_pay93 n u (ix2 r f) = Layer.sq (∑ k : Fin 1024, n (ix2 r k) * u (ix2 k f)) := by
  unfold Layer.sq
  pointwise [k3_pay93]

theorem pay94_apply (n : FVec Ideal S256x1024 .bf16) (s : FVec Ideal S256x1024 .f32) (u d : Vec Ideal S1024x1024 .bf16) (r : Fin 256) (e : Fin 1024) :
    k3_pay94 n s u d (ix2 r e) = s (ix2 r e) + chunk (fun k => n (ix2 r k)) (fun k f => u (ix2 k f)) (fun f e => d (ix2 f e)) e := by
  unfold chunk Layer.sq
  pointwise [k3_pay94]

theorem pay95_apply (n : FVec Ideal S256x1024 .bf16) (s a : FVec Ideal S256x1024 .f32) (d' u d : Vec Ideal S1024x1024 .bf16) (r : Fin 256) (e : Fin 1024) :
    k3_pay95 n s a d' u d (ix2 r e) = s (ix2 r e) + (∑ f : Fin 1024, a (ix2 r f) * d' (ix2 f e)) + chunk (fun k => n (ix2 r k)) (fun k f => u (ix2 k f)) (fun f e => d (ix2 f e)) e := by
  unfold chunk Layer.sq
  pointwise [k3_pay95]

theorem pay96_apply (n : FVec Ideal S256x1024 .bf16) (u : Vec Ideal S1024x1024 .bf16) (r : Fin 256) (f : Fin 1024) :
    k3_pay96 n u (ix2 r f) = Layer.sq (∑ k : Fin 1024, n (ix2 r k) * u (ix2 k f)) := by
  unfold Layer.sq
  pointwise [k3_pay96]

theorem pay97_apply (w : Vec Ideal S1024x1024 .bf16) (k f : Fin 1024) : k3_pay97 w (ix2 k f) = w (ix2 k f) := by
  pointwise [k3_pay97]

theorem pay98_apply (n : FVec Ideal S256x1024 .bf16) (s : FVec Ideal S256x1024 .f32) (a : FVec Ideal S256x1024 .bf16) (d' : FVec Ideal S1024x1024 .bf16) (u d : Vec Ideal S1024x1024 .bf16) (r : Fin 256) (e : Fin 1024) :
    k3_pay98 n s a d' (constant S256x1024 .f32 0x00000000#32) u d (ix2 r e)
      = s (ix2 r e) + (∑ f : Fin 1024, a (ix2 r f) * d' (ix2 f e)) + chunk (fun k => n (ix2 r k)) (fun k f => u (ix2 k f)) (fun f e => d (ix2 f e)) e := by
  unfold chunk Layer.sq
  pointwise [k3_pay98]

theorem pay99_eq (h : FVec Ideal S256x1024 .f32) (n : FVec Ideal S256x1024 .bf16) (s : FVec Ideal S256x1024 .f32) (u d : Vec Ideal S1024x1024 .bf16) (g : Vec Ideal S1x1024 .f32) :
    k3_pay99 h n s u d g = k3_pay87 (k3_pay94 n s u d) (shapeCast S1x256x1024 h shapeCasts_S256x1024_S1x256x1024) g := by
  have e : shapeCast S256x1024 (shapeCast S1x256x1024 h shapeCasts_S256x1024_S1x256x1024) shapeCasts_S1x256x1024_S256x1024 = h := by
    funext i
    obtain ⟨r, e, rfl⟩ : ∃ (r : Fin 256) (e : Fin 1024), i = ix2 r e := ⟨i 0, i 1, eq_ix2 i⟩
    pointwise
  unfold k3_pay99 k3_pay87
  simp only [e]
  rfl

theorem cast_apply (h : FVec Ideal S256x1024 .f32) (r : Fin 256) (e : Fin 1024) : shapeCast S1x256x1024 h shapeCasts_S256x1024_S1x256x1024 (ix3 0 r e) = h (ix2 r e) := by
  pointwise

theorem pay99_apply (h : FVec Ideal S256x1024 .f32) (n : FVec Ideal S256x1024 .bf16) (s : FVec Ideal S256x1024 .f32) (u d : Vec Ideal S1024x1024 .bf16) (g : Vec Ideal S1x1024 .f32) (r : Fin 256) (e : Fin 1024) :
    k3_pay99 h n s u d g (ix2 r e) = h (ix2 r e) + rms (Ideal.ofBits .f32 0x44800000#32) (fun e => s (ix2 r e) + chunk (fun k => n (ix2 r k)) (fun k f => u (ix2 k f)) (fun f e => d (ix2 f e)) e) (fun d => g (ix2 0 d)) e := by
  rw [pay99_eq, pay87_apply, cast_apply]
  simp only [pay94_apply]

theorem pay1_apply (h : FVec Ideal S256x1024 .f32) (r : Fin 256) (e : Fin 1024) : k3_pay1 h (ix3 0 r e) = h (ix2 r e) := by
  pointwise [k3_pay1]

theorem pay2_apply (h v : FVec Ideal S256x1024 .f32) (g : Vec Ideal S1x1024 .f32) (r : Fin 256) (e : Fin 1024) :
    k3_pay2 h v g (ix3 0 r e) = h (ix2 r e) + rms (Ideal.ofBits .f32 0x44800000#32) (fun d => v (ix2 r d)) (fun d => g (ix2 0 d)) e := by
  pointwise [k3_pay2]
  rfl

end Cert.KernelIdeal.Post

end
-- ==== Proof.PostY.lean ====
/- The recurrence's output as the last call reads it. -/
module

public import proofs.«01_k».proof.Proof.PostPay
public import Idealize.ShloMosaic.Lib.Pipeline.ValueKit.Tiles

@[expose] public section

set_option maxRecDepth 16384

noncomputable section

namespace Cert.KernelIdeal.Post

open Idealize.ShloMosaic Idealize.ShloMosaic.TcCoe Idealize.SL.Sem
open Cert.KernelIdeal Cert.KernelIdeal.Gen Cert.Layer

/-- Group `g` of the recurrence's output over the `s`-th half of a block: its sixteen channels, the half's positions side by side. -/
def pv (x : Vec Ideal S32x4x16x128 .f32) (s : Fin 2) (g : Fin 32) : FVec Ideal S16x256 .f32 :=
  fun i => x (ix4 g ⟨2 * s.val + (i 1).val / 128, by have h : (i 1).val < 256 := (i 1).isLt; have := s.isLt; omega⟩ (i 0) ⟨(i 1).val % 128, Nat.mod_lt _ (by decide)⟩)

theorem ld_y (x : Vec Ideal S32x4x16x128 .f32) (g : Fin 32) (sl : Fin 4) (inb : ∀ a, ![g.val, sl.val, 0, 0] a + S1x1x16x128.size a ≤ S32x4x16x128.size a) (c : Fin 16) (t : Fin 128) :
    View.ld x (Rect.unit (s := S32x4x16x128) ![g.val, sl.val, 0, 0] S1x1x16x128.size inb) (ix4 (n0 := 1) (n1 := 1) 0 0 c t) = x (ix4 g sl c t) := by
  refine View.ld_unit_apply_of _ _ _ _ _ _ fun a => ?_
  match a with
  | ⟨0, _⟩ => exact (Nat.add_zero _).symm
  | ⟨1, _⟩ => exact (Nat.add_zero _).symm
  | ⟨2, _⟩ => exact (Nat.zero_add _).symm
  | ⟨3, _⟩ => exact (Nat.zero_add _).symm

theorem pc_apply (v w : Vec Ideal S1x1x16x128 .f32) (c : Fin 16) (r : Fin 256) :
    concatenate S16x256 1 [⟨S16x128, shapeCast S16x128 v shapeCasts_S1x1x16x128_S16x128⟩, ⟨S16x128, shapeCast S16x128 w shapeCasts_S1x1x16x128_S16x128⟩] concatenates_S16x128_S16x128_S16x256_d1 (ix2 c r)
      = if h : r.val < 128 then v (ix4 0 0 c ⟨r.val, h⟩) else w (ix4 0 0 c ⟨r.val - 128, by omega⟩) := by
  pointwise

theorem pc_eq (x : Vec Ideal S32x4x16x128 .f32) (s : Fin 2) (g : Fin 32) (h1 : ∀ a, ![g.val, 2 * s.val, 0, 0] a + S1x1x16x128.size a ≤ S32x4x16x128.size a) (h2 : ∀ a, ![g.val, 2 * s.val + 1, 0, 0] a + S1x1x16x128.size a ≤ S32x4x16x128.size a) :
    concatenate S16x256 1 [⟨S16x128, shapeCast S16x128 (View.ld x (Rect.unit (s := S32x4x16x128) ![g.val, 2 * s.val, 0, 0] S1x1x16x128.size h1)) shapeCasts_S1x1x16x128_S16x128⟩,
      ⟨S16x128, shapeCast S16x128 (View.ld x (Rect.unit (s := S32x4x16x128) ![g.val, 2 * s.val + 1, 0, 0] S1x1x16x128.size h2)) shapeCasts_S1x1x16x128_S16x128⟩] concatenates_S16x128_S16x128_S16x256_d1 = pv x s g := by
  funext i
  obtain ⟨c, r, rfl⟩ : ∃ (c : Fin 16) (r : Fin 256), i = ix2 c r := ⟨i 0, i 1, eq_ix2 i⟩
  rw [pc_apply]
  show _ = x (ix4 g ⟨2 * s.val + r.val / 128, _⟩ c ⟨r.val % 128, _⟩)
  split
  · rename_i h
    refine (ld_y x g ⟨2 * s.val, by omega⟩ h1 c _).trans ?_
    exact congrArg₂ (fun (a : Fin 4) (t : Fin 128) => x (ix4 g a c t)) (Fin.ext (by show 2 * s.val = 2 * s.val + r.val / 128; omega)) (Fin.ext (by show r.val = r.val % 128; omega))
  · rename_i h
    refine (ld_y x g ⟨2 * s.val + 1, by omega⟩ h2 c _).trans ?_
    exact congrArg₂ (fun (a : Fin 4) (t : Fin 128) => x (ix4 g a c t)) (Fin.ext (by show 2 * s.val + 1 = 2 * s.val + r.val / 128; omega)) (Fin.ext (by show r.val - 128 = r.val % 128; omega))

theorem cat32 (P : Fin 32 → FVec Ideal S16x256 .f32) (h) (k : Fin 512) (r : Fin 256) :
    concatenate S512x256 0 [⟨S16x256, P 0⟩, ⟨S16x256, P 1⟩, ⟨S16x256, P 2⟩, ⟨S16x256, P 3⟩, ⟨S16x256, P 4⟩, ⟨S16x256, P 5⟩, ⟨S16x256, P 6⟩, ⟨S16x256, P 7⟩, ⟨S16x256, P 8⟩, ⟨S16x256, P 9⟩, ⟨S16x256, P 10⟩, ⟨S16x256, P 11⟩, ⟨S16x256, P 12⟩, ⟨S16x256, P 13⟩, ⟨S16x256, P 14⟩, ⟨S16x256, P 15⟩, ⟨S16x256, P 16⟩, ⟨S16x256, P 17⟩, ⟨S16x256, P 18⟩, ⟨S16x256, P 19⟩, ⟨S16x256, P 20⟩, ⟨S16x256, P 21⟩, ⟨S16x256, P 22⟩, ⟨S16x256, P 23⟩, ⟨S16x256, P 24⟩, ⟨S16x256, P 25⟩, ⟨S16x256, P 26⟩, ⟨S16x256, P 27⟩, ⟨S16x256, P 28⟩, ⟨S16x256, P 29⟩, ⟨S16x256, P 30⟩, ⟨S16x256, P 31⟩] h (ix2 k r) = P ⟨k.val / 16, by omega⟩ (ix2 ⟨k.val % 16, by omega⟩ r) := by
  refine concatenate_ofFn_apply (t := S512x256) (s₁ := S16x256) 0 P h rfl 16 rfl (ix2 k r) ⟨k.val / 16, by omega⟩ rfl (ix2 ⟨k.val % 16, by omega⟩ r) rfl fun b hb => ?_
  match b with
  | ⟨0, _⟩ => exact absurd rfl hb
  | ⟨1, _⟩ => rfl

theorem pay38_of (P : Fin 32 → FVec Ideal S16x256 .f32) (v6 : FVec Ideal S16x256 .f32) (v11 : FVec Ideal S16x256 .f32) (v16 : FVec Ideal S16x256 .f32) (v21 : FVec Ideal S16x256 .f32) (v26 : FVec Ideal S16x256 .f32) (v31 : FVec Ideal S16x256 .f32) (v36 : FVec Ideal S16x256 .f32) (v41 : FVec Ideal S16x256 .f32) (v46 : FVec Ideal S16x256 .f32) (v51 : FVec Ideal S16x256 .f32) (v56 : FVec Ideal S16x256 .f32) (v61 : FVec Ideal S16x256 .f32) (v66 : FVec Ideal S16x256 .f32) (v71 : FVec Ideal S16x256 .f32) (v76 : FVec Ideal S16x256 .f32) (v81 : FVec Ideal S16x256 .f32) (v86 : FVec Ideal S16x256 .f32) (v91 : FVec Ideal S16x256 .f32) (v96 : FVec Ideal S16x256 .f32) (v101 : FVec Ideal S16x256 .f32) (v106 : FVec Ideal S16x256 .f32) (v111 : FVec Ideal S16x256 .f32) (v116 : FVec Ideal S16x256 .f32) (v121 : FVec Ideal S16x256 .f32) (v126 : FVec Ideal S16x256 .f32) (v131 : FVec Ideal S16x256 .f32) (v136 : FVec Ideal S16x256 .f32) (v141 : FVec Ideal S16x256 .f32) (v146 : FVec Ideal S16x256 .f32) (v151 : FVec Ideal S16x256 .f32) (v156 : FVec Ideal S16x256 .f32) (v158 : FVec Ideal S16x128 .f32) (v159 : Vec Ideal S1x1x16x128 .f32)
    (h0 : v6 = P 0) (h1 : v11 = P 1) (h2 : v16 = P 2) (h3 : v21 = P 3) (h4 : v26 = P 4) (h5 : v31 = P 5) (h6 : v36 = P 6) (h7 : v41 = P 7) (h8 : v46 = P 8) (h9 : v51 = P 9) (h10 : v56 = P 10) (h11 : v61 = P 11) (h12 : v66 = P 12) (h13 : v71 = P 13) (h14 : v76 = P 14) (h15 : v81 = P 15) (h16 : v86 = P 16) (h17 : v91 = P 17) (h18 : v96 = P 18) (h19 : v101 = P 19) (h20 : v106 = P 20) (h21 : v111 = P 21) (h22 : v116 = P 22) (h23 : v121 = P 23) (h24 : v126 = P 24) (h25 : v131 = P 25) (h26 : v136 = P 26) (h27 : v141 = P 27) (h28 : v146 = P 28) (h29 : v151 = P 29) (h30 : v156 = P 30) (h31 : concatenate S16x256 1 [⟨S16x128, v158⟩, ⟨S16x128, shapeCast S16x128 v159 shapeCasts_S1x1x16x128_S16x128⟩] concatenates_S16x128_S16x128_S16x256_d1 = P 31) (r : Fin 256) (k : Fin 512) :
    k3_pay38 v6 v11 v16 v21 v26 v31 v36 v41 v46 v51 v56 v61 v66 v71 v76 v81 v86 v91 v96 v101 v106 v111 v116 v121 v126 v131 v136 v141 v146 v151 v156 v158 v159 (ix2 r k) = gelu (P ⟨k.val / 16, by omega⟩ (ix2 ⟨k.val % 16, by omega⟩ r)) := by
  subst h0 h1 h2 h3 h4 h5 h6 h7 h8 h9 h10 h11 h12 h13 h14 h15 h16 h17 h18 h19 h20 h21 h22 h23 h24 h25 h26 h27 h28 h29 h30
  refine Eq.trans ?_ ((gz_apply _ r k).trans (congrArg gelu (cat32 P concatenates_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S512x256_d0 k r)))
  rw [← h31]
  rfl

theorem pay75_of (P : Fin 32 → FVec Ideal S16x256 .f32) (v182 : FVec Ideal S16x256 .f32) (v187 : FVec Ideal S16x256 .f32) (v192 : FVec Ideal S16x256 .f32) (v197 : FVec Ideal S16x256 .f32) (v202 : FVec Ideal S16x256 .f32) (v207 : FVec Ideal S16x256 .f32) (v212 : FVec Ideal S16x256 .f32) (v217 : FVec Ideal S16x256 .f32) (v222 : FVec Ideal S16x256 .f32) (v227 : FVec Ideal S16x256 .f32) (v232 : FVec Ideal S16x256 .f32) (v237 : FVec Ideal S16x256 .f32) (v242 : FVec Ideal S16x256 .f32) (v247 : FVec Ideal S16x256 .f32) (v252 : FVec Ideal S16x256 .f32) (v257 : FVec Ideal S16x256 .f32) (v262 : FVec Ideal S16x256 .f32) (v267 : FVec Ideal S16x256 .f32) (v272 : FVec Ideal S16x256 .f32) (v277 : FVec Ideal S16x256 .f32) (v282 : FVec Ideal S16x256 .f32) (v287 : FVec Ideal S16x256 .f32) (v292 : FVec Ideal S16x256 .f32) (v297 : FVec Ideal S16x256 .f32) (v302 : FVec Ideal S16x256 .f32) (v307 : FVec Ideal S16x256 .f32) (v312 : FVec Ideal S16x256 .f32) (v317 : FVec Ideal S16x256 .f32) (v322 : FVec Ideal S16x256 .f32) (v327 : FVec Ideal S16x256 .f32) (v329 : FVec Ideal S16x128 .f32) (v330 : Vec Ideal S1x1x16x128 .f32) (v333 : Vec Ideal S1x1x16x128 .f32) (v335 : Vec Ideal S1x1x16x128 .f32) (v357 : Vec Ideal S512x1024 .bf16)
    (h0 : v182 = P 0) (h1 : v187 = P 1) (h2 : v192 = P 2) (h3 : v197 = P 3) (h4 : v202 = P 4) (h5 : v207 = P 5) (h6 : v212 = P 6) (h7 : v217 = P 7) (h8 : v222 = P 8) (h9 : v227 = P 9) (h10 : v232 = P 10) (h11 : v237 = P 11) (h12 : v242 = P 12) (h13 : v247 = P 13) (h14 : v252 = P 14) (h15 : v257 = P 15) (h16 : v262 = P 16) (h17 : v267 = P 17) (h18 : v272 = P 18) (h19 : v277 = P 19) (h20 : v282 = P 20) (h21 : v287 = P 21) (h22 : v292 = P 22) (h23 : v297 = P 23) (h24 : v302 = P 24) (h25 : v307 = P 25) (h26 : v312 = P 26) (h27 : v317 = P 27) (h28 : v322 = P 28) (h29 : v327 = P 29) (h30 : concatenate S16x256 1 [⟨S16x128, v329⟩, ⟨S16x128, shapeCast S16x128 v330 shapeCasts_S1x1x16x128_S16x128⟩] concatenates_S16x128_S16x128_S16x256_d1 = P 30) (h31 : concatenate S16x256 1 [⟨S16x128, shapeCast S16x128 v333 shapeCasts_S1x1x16x128_S16x128⟩, ⟨S16x128, shapeCast S16x128 v335 shapeCasts_S1x1x16x128_S16x128⟩] concatenates_S16x128_S16x128_S16x256_d1 = P 31) (r : Fin 256) (e : Fin 1024) :
    k3_pay75 v182 v187 v192 v197 v202 v207 v212 v217 v222 v227 v232 v237 v242 v247 v252 v257 v262 v267 v272 v277 v282 v287 v292 v297 v302 v307 v312 v317 v322 v327 v329 v330 v333 v335 v357 (ix2 r e) = ∑ k : Fin 512, gelu (P ⟨k.val / 16, by omega⟩ (ix2 ⟨k.val % 16, by omega⟩ r)) * v357 (ix2 k e) := by
  subst h0 h1 h2 h3 h4 h5 h6 h7 h8 h9 h10 h11 h12 h13 h14 h15 h16 h17 h18 h19 h20 h21 h22 h23 h24 h25 h26 h27 h28 h29
  refine Eq.trans (b := k3_pay74 (gz (concatenate S512x256 0 [⟨S16x256, P 0⟩, ⟨S16x256, P 1⟩, ⟨S16x256, P 2⟩, ⟨S16x256, P 3⟩, ⟨S16x256, P 4⟩, ⟨S16x256, P 5⟩, ⟨S16x256, P 6⟩, ⟨S16x256, P 7⟩, ⟨S16x256, P 8⟩, ⟨S16x256, P 9⟩, ⟨S16x256, P 10⟩, ⟨S16x256, P 11⟩, ⟨S16x256, P 12⟩, ⟨S16x256, P 13⟩, ⟨S16x256, P 14⟩, ⟨S16x256, P 15⟩, ⟨S16x256, P 16⟩, ⟨S16x256, P 17⟩, ⟨S16x256, P 18⟩, ⟨S16x256, P 19⟩, ⟨S16x256, P 20⟩, ⟨S16x256, P 21⟩, ⟨S16x256, P 22⟩, ⟨S16x256, P 23⟩, ⟨S16x256, P 24⟩, ⟨S16x256, P 25⟩, ⟨S16x256, P 26⟩, ⟨S16x256, P 27⟩, ⟨S16x256, P 28⟩, ⟨S16x256, P 29⟩, ⟨S16x256, P 30⟩, ⟨S16x256, P 31⟩] concatenates_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S512x256_d0)) v357 (ix2 r e)) ?_ ?_
  · rw [← h30, ← h31]
    rfl
  · rw [pay74_apply]
    exact Finset.sum_congr rfl fun k _ => congrArg (· * _) ((gz_apply _ r k).trans (congrArg gelu (cat32 P concatenates_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S512x256_d0 k r)))

variable (x0 : Vec Ideal S1x512x1024 .f32) (x1 : Vec Ideal S1x512x512 .f32) (x2 : Vec Ideal S32x4x16x128 .f32) (x3 : Vec Ideal S512x1024 .bf16) (x4 : Vec Ideal S1x1024 .f32) (x5 : Vec Ideal S1024x1024 .bf16) (x6 : Vec Ideal S1x1024 .f32) (x7 : Vec Ideal S1x1024 .f32) (x8 : Vec Ideal S1024x4096 .bf16) (x9 : Vec Ideal S4096x1024 .bf16) (x10 : Vec Ideal S1x1024 .f32)

/-- Channel `k` of the recurrence's row `r` of the `s`-th half of a block. -/
def yb (x : Vec Ideal S32x4x16x128 .f32) (s : Fin 2) (r : Fin 256) (k : Fin 512) : EReal :=
  x (ix4 ⟨k.val / 16, by omega⟩ ⟨2 * s.val + r.val / 128, by omega⟩ ⟨k.val % 16, by omega⟩ ⟨r.val % 128, by omega⟩)

theorem p101_apply (r : Fin 256) (k : Fin 512) : Gen.k3_pay101 x0 x1 x2 x3 x4 x5 x6 x7 x8 x9 x10 (ix2 r k) = gelu (yb x2 0 r k) := by
  unfold Gen.k3_pay101
  exact pay38_of (pv x2 0) _ _ _ _ _ _ _ _ _ _ _ _ _ _ _ _ _ _ _ _ _ _ _ _ _ _ _ _ _ _ _ _ _ (pc_eq x2 0 0 _ _) (pc_eq x2 0 1 _ _) (pc_eq x2 0 2 _ _) (pc_eq x2 0 3 _ _) (pc_eq x2 0 4 _ _) (pc_eq x2 0 5 _ _) (pc_eq x2 0 6 _ _) (pc_eq x2 0 7 _ _) (pc_eq x2 0 8 _ _) (pc_eq x2 0 9 _ _) (pc_eq x2 0 10 _ _) (pc_eq x2 0 11 _ _) (pc_eq x2 0 12 _ _) (pc_eq x2 0 13 _ _) (pc_eq x2 0 14 _ _) (pc_eq x2 0 15 _ _) (pc_eq x2 0 16 _ _) (pc_eq x2 0 17 _ _) (pc_eq x2 0 18 _ _) (pc_eq x2 0 19 _ _) (pc_eq x2 0 20 _ _) (pc_eq x2 0 21 _ _) (pc_eq x2 0 22 _ _) (pc_eq x2 0 23 _ _) (pc_eq x2 0 24 _ _) (pc_eq x2 0 25 _ _) (pc_eq x2 0 26 _ _) (pc_eq x2 0 27 _ _) (pc_eq x2 0 28 _ _) (pc_eq x2 0 29 _ _) (pc_eq x2 0 30 _ _) (pc_eq x2 0 31 _ _) r k

/-- The second half's rows through the linear map. -/
def p75 (x2 : Vec Ideal S32x4x16x128 .f32) (x3 : Vec Ideal S512x1024 .bf16) : FVec Ideal S256x1024 .f32 :=
  k3_pay75 (k3_pay39 (View.ld x2 r3_65) (View.ld x2 r3_66)) (k3_pay40 (View.ld x2 r3_67) (View.ld x2 r3_68)) (k3_pay43 (k3_pay41 (View.ld x2 r3_69)) (k3_pay42 (View.ld x2 r3_70))) (k3_pay44 (View.ld x2 r3_71) (View.ld x2 r3_72)) (k3_pay45 (View.ld x2 r3_73) (View.ld x2 r3_74)) (k3_pay46 (View.ld x2 r3_75) (View.ld x2 r3_76)) (k3_pay47 (View.ld x2 r3_77) (View.ld x2 r3_78)) (k3_pay49 (k3_pay48 (View.ld x2 r3_79)) (View.ld x2 r3_80)) (k3_pay50 (View.ld x2 r3_81) (View.ld x2 r3_82)) (k3_pay51 (View.ld x2 r3_83) (View.ld x2 r3_84)) (k3_pay52 (View.ld x2 r3_85) (View.ld x2 r3_86)) (k3_pay53 (View.ld x2 r3_87) (View.ld x2 r3_88)) (k3_pay54 (View.ld x2 r3_89) (View.ld x2 r3_90)) (k3_pay55 (View.ld x2 r3_91) (View.ld x2 r3_92)) (k3_pay56 (View.ld x2 r3_93) (View.ld x2 r3_94)) (k3_pay57 (View.ld x2 r3_95) (View.ld x2 r3_96)) (k3_pay59 (k3_pay58 (View.ld x2 r3_97)) (View.ld x2 r3_98)) (k3_pay60 (View.ld x2 r3_99) (View.ld x2 r3_100)) (k3_pay61 (View.ld x2 r3_101) (View.ld x2 r3_102)) (k3_pay62 (View.ld x2 r3_103) (View.ld x2 r3_104)) (k3_pay63 (View.ld x2 r3_105) (View.ld x2 r3_106)) (k3_pay64 (View.ld x2 r3_107) (View.ld x2 r3_108)) (k3_pay65 (View.ld x2 r3_109) (View.ld x2 r3_110)) (k3_pay66 (View.ld x2 r3_111) (View.ld x2 r3_112)) (k3_pay67 (View.ld x2 r3_113) (View.ld x2 r3_114)) (k3_pay68 (View.ld x2 r3_115) (View.ld x2 r3_116)) (k3_pay69 (View.ld x2 r3_117) (View.ld x2 r3_118)) (k3_pay70 (View.ld x2 r3_119) (View.ld x2 r3_120)) (k3_pay71 (View.ld x2 r3_121) (View.ld x2 r3_122)) (k3_pay72 (View.ld x2 r3_123) (View.ld x2 r3_124)) (k3_pay73 (View.ld x2 r3_125)) (View.ld x2 r3_126) (View.ld x2 r3_127) (View.ld x2 r3_128) (View.ld x3 r3_129)

theorem p75_apply (r : Fin 256) (e : Fin 1024) : p75 x2 x3 (ix2 r e) = ∑ k : Fin 512, gelu (yb x2 1 r k) * View.ld x3 r3_129 (ix2 k e) := by
  exact pay75_of (pv x2 1) _ _ _ _ _ _ _ _ _ _ _ _ _ _ _ _ _ _ _ _ _ _ _ _ _ _ _ _ _ _ _ _ _ _ _ (pc_eq x2 1 0 _ _) (pc_eq x2 1 1 _ _) (pc_eq x2 1 2 _ _) (pc_eq x2 1 3 _ _) (pc_eq x2 1 4 _ _) (pc_eq x2 1 5 _ _) (pc_eq x2 1 6 _ _) (pc_eq x2 1 7 _ _) (pc_eq x2 1 8 _ _) (pc_eq x2 1 9 _ _) (pc_eq x2 1 10 _ _) (pc_eq x2 1 11 _ _) (pc_eq x2 1 12 _ _) (pc_eq x2 1 13 _ _) (pc_eq x2 1 14 _ _) (pc_eq x2 1 15 _ _) (pc_eq x2 1 16 _ _) (pc_eq x2 1 17 _ _) (pc_eq x2 1 18 _ _) (pc_eq x2 1 19 _ _) (pc_eq x2 1 20 _ _) (pc_eq x2 1 21 _ _) (pc_eq x2 1 22 _ _) (pc_eq x2 1 23 _ _) (pc_eq x2 1 24 _ _) (pc_eq x2 1 25 _ _) (pc_eq x2 1 26 _ _) (pc_eq x2 1 27 _ _) (pc_eq x2 1 28 _ _) (pc_eq x2 1 29 _ _) (pc_eq x2 1 30 _ _) (pc_eq x2 1 31 _ _) r e

end Cert.KernelIdeal.Post

end
-- ==== Proof.PostBlock.lean ====
/- What the last call leaves in a block, row by row. -/
module

public import proofs.«01_k».proof.Proof.PostY

@[expose] public section

set_option maxRecDepth 16384

noncomputable section

namespace Cert.KernelIdeal.Post

open Idealize.ShloMosaic Idealize.ShloMosaic.TcCoe Idealize.SL.Sem
open Cert.KernelIdeal Cert.KernelIdeal.Gen Cert.Layer
variable (x0 : Vec Ideal S1x512x1024 .f32) (x1 : Vec Ideal S1x512x512 .f32) (x2 : Vec Ideal S32x4x16x128 .f32) (x3 : Vec Ideal S512x1024 .bf16) (x4 : Vec Ideal S1x1024 .f32) (x5 : Vec Ideal S1024x1024 .bf16) (x6 : Vec Ideal S1x1024 .f32) (x7 : Vec Ideal S1x1024 .f32) (x8 : Vec Ideal S1024x4096 .bf16) (x9 : Vec Ideal S4096x1024 .bf16) (x10 : Vec Ideal S1x1024 .f32)

/-- The weights the last call's windows hold. -/
def bw (x3 : Vec Ideal S512x1024 .bf16) (x4 : Vec Ideal S1x1024 .f32) (x5 : Vec Ideal S1024x1024 .bf16) (x6 : Vec Ideal S1x1024 .f32) (x7 : Vec Ideal S1x1024 .f32) (x8 : Vec Ideal S1024x4096 .bf16) (x9 : Vec Ideal S4096x1024 .bf16) (x10 : Vec Ideal S1x1024 .f32) : PWts where
  wglu d e := x3 (ix2 d e)
  gmix d := x4 (ix2 0 d)
  wout d e := x5 (ix2 d e)
  gpm d := x6 (ix2 0 d)
  gpre d := x7 (ix2 0 d)
  wup d e := x8 (ix2 d e)
  wdn d e := x9 (ix2 d e)
  gpost d := x10 (ix2 0 d)

theorem mixV_congr {g g' : Fin 1024 → EReal} {a a' s s' : Fin 512 → EReal} (hg : ∀ d, g d = g' d) (ha : ∀ i, a i = a' i) (hs : ∀ i, s i = s' i) (e : Fin 1024) : mixV g a s e = mixV g' a' s' e := by
  rw [funext hg, funext ha, funext hs]

theorem rms_congr (N : EReal) {v v' g g' : Fin 1024 → EReal} (hv : ∀ d, v d = v' d) (hg : ∀ d, g d = g' d) (e : Fin 1024) : rms N v g e = rms N v' g' e := by
  rw [funext hv, funext hg]

theorem chunk_congr {n n' : Fin 1024 → EReal} {u u' d d' : Fin 1024 → Fin 1024 → EReal} (hn : ∀ k, n k = n' k) (hu : ∀ k f, u k f = u' k f) (hd : ∀ f e, d f e = d' f e) (e : Fin 1024) : chunk n u d e = chunk n' u' d' e := by
  rw [funext hn, funext fun k => funext (hu k), funext fun k => funext (hd k)]

/-- The columns and the rows of one chunk of the feed-forward network. -/
def cu (P : PWts) (j : Fin 4) (k f : Fin 1024) : EReal := P.wup k ⟨1024 * j.val + f.val, by omega⟩
def cd (P : PWts) (j : Fin 4) (f e : Fin 1024) : EReal := P.wdn ⟨1024 * j.val + f.val, by omega⟩ e

theorem ffn_split (P : PWts) (n : Fin 1024 → EReal) (e : Fin 1024) :
    ffn P n e = chunk n (cu P 0) (cd P 0) e + chunk n (cu P 1) (cd P 1) e + chunk n (cu P 2) (cd P 2) e + chunk n (cu P 3) (cd P 3) e := by
  unfold ffn
  rw [Fin.sum_univ_two_halves 3072 1024 rfl, Fin.sum_univ_two_halves 2048 1024 rfl, Fin.sum_univ_two_halves 1024 1024 rfl]
  refine congrArg₂ (· + ·) (congrArg₂ (· + ·) (congrArg₂ (· + ·) ?_ ?_) ?_) ?_
  · refine Finset.sum_congr rfl fun f _ => ?_
    have h : ∀ (q : ℕ) (h1 : q < 4096) (h2 : q = 1024 * (0 : Fin 4).val + f.val), act P n ⟨q, h1⟩ * P.wdn ⟨q, h1⟩ e = Layer.sq (∑ k, n k * cu P 0 k f) * cd P 0 f e := by
      intro q h1 h2; subst h2; rfl
    exact h _ _ (by show f.val = 1024 * 0 + f.val; omega)
  · exact Finset.sum_congr rfl fun f _ => rfl
  · exact Finset.sum_congr rfl fun f _ => rfl
  · exact Finset.sum_congr rfl fun f _ => rfl

theorem ld0 (x : Vec Ideal S1x1024 .f32) (d : Fin 1024) : View.ld x r3_0 (ix2 (n0 := 1) 0 d) = x (ix2 0 d) := by
  refine View.ld_unit_apply_of _ _ _ _ _ _ fun a => ?_
  match a with
  | ⟨0, _⟩ => exact (Nat.zero_add _).symm
  | ⟨1, _⟩ => exact (Nat.zero_add _).symm

theorem ld129 (x : Vec Ideal S512x1024 .bf16) (k : Fin 512) (e : Fin 1024) : View.ld x r3_129 (ix2 k e) = x (ix2 k e) := by
  refine View.ld_unit_apply_of _ _ _ _ _ _ fun a => ?_
  match a with
  | ⟨0, _⟩ => exact (Nat.zero_add _).symm
  | ⟨1, _⟩ => exact (Nat.zero_add _).symm

theorem ld132 (x : Vec Ideal S1024x1024 .bf16) (k e : Fin 1024) : View.ld x r3_132 (ix2 k e) = x (ix2 k e) := by
  refine View.ld_unit_apply_of _ _ _ _ _ _ fun a => ?_
  match a with
  | ⟨0, _⟩ => exact (Nat.zero_add _).symm
  | ⟨1, _⟩ => exact (Nat.zero_add _).symm

theorem ld130 (x : Vec Ideal S1x512x512 .f32) (r : Fin 256) (i : Fin 512) : View.ld x r3_130 (ix3 (n0 := 1) 0 r i) = x (ix3 0 ⟨256 * 0 + r.val, by omega⟩ i) := by
  refine View.ld_unit_apply_of _ _ _ _ _ _ fun a => ?_
  match a with
  | ⟨0, _⟩ => exact (Nat.zero_add _).symm
  | ⟨1, _⟩ => rfl
  | ⟨2, _⟩ => exact (Nat.zero_add _).symm

theorem ld131 (x : Vec Ideal S1x512x512 .f32) (r : Fin 256) (i : Fin 512) : View.ld x r3_131 (ix3 (n0 := 1) 0 r i) = x (ix3 0 ⟨256 * 1 + r.val, by omega⟩ i) := by
  refine View.ld_unit_apply_of _ _ _ _ _ _ fun a => ?_
  match a with
  | ⟨0, _⟩ => exact (Nat.zero_add _).symm
  | ⟨1, _⟩ => rfl
  | ⟨2, _⟩ => exact (Nat.zero_add _).symm

theorem ld133 (x : Vec Ideal S1x512x1024 .f32) (r : Fin 256) (i : Fin 1024) : View.ld x r3_133 (ix3 (n0 := 1) 0 r i) = x (ix3 0 ⟨256 * 0 + r.val, by omega⟩ i) := by
  refine View.ld_unit_apply_of _ _ _ _ _ _ fun a => ?_
  match a with
  | ⟨0, _⟩ => exact (Nat.zero_add _).symm
  | ⟨1, _⟩ => rfl
  | ⟨2, _⟩ => exact (Nat.zero_add _).symm

theorem ld134 (x : Vec Ideal S1x512x1024 .f32) (r : Fin 256) (i : Fin 1024) : View.ld x r3_134 (ix3 (n0 := 1) 0 r i) = x (ix3 0 ⟨256 * 1 + r.val, by omega⟩ i) := by
  refine View.ld_unit_apply_of _ _ _ _ _ _ fun a => ?_
  match a with
  | ⟨0, _⟩ => exact (Nat.zero_add _).symm
  | ⟨1, _⟩ => rfl
  | ⟨2, _⟩ => exact (Nat.zero_add _).symm

theorem ld135 (x : Vec Ideal S1024x4096 .bf16) (k f : Fin 1024) : View.ld x r3_135 (ix2 k f) = x (ix2 k ⟨1024 * (0 : Fin 4).val + f.val, by omega⟩) := by
  refine View.ld_unit_apply_of _ _ _ _ _ _ fun a => ?_
  match a with
  | ⟨0, _⟩ => exact (Nat.zero_add _).symm
  | ⟨1, _⟩ => rfl

theorem ld136 (x : Vec Ideal S4096x1024 .bf16) (f e : Fin 1024) : View.ld x r3_136 (ix2 f e) = x (ix2 ⟨1024 * (0 : Fin 4).val + f.val, by omega⟩ e) := by
  refine View.ld_unit_apply_of _ _ _ _ _ _ fun a => ?_
  match a with
  | ⟨0, _⟩ => rfl
  | ⟨1, _⟩ => exact (Nat.zero_add _).symm

theorem ld137 (x : Vec Ideal S1024x4096 .bf16) (k f : Fin 1024) : View.ld x r3_137 (ix2 k f) = x (ix2 k ⟨1024 * (1 : Fin 4).val + f.val, by omega⟩) := by
  refine View.ld_unit_apply_of _ _ _ _ _ _ fun a => ?_
  match a with
  | ⟨0, _⟩ => exact (Nat.zero_add _).symm
  | ⟨1, _⟩ => rfl

theorem ld138 (x : Vec Ideal S4096x1024 .bf16) (f e : Fin 1024) : View.ld x r3_138 (ix2 f e) = x (ix2 ⟨1024 * (1 : Fin 4).val + f.val, by omega⟩ e) := by
  refine View.ld_unit_apply_of _ _ _ _ _ _ fun a => ?_
  match a with
  | ⟨0, _⟩ => rfl
  | ⟨1, _⟩ => exact (Nat.zero_add _).symm

theorem ld139 (x : Vec Ideal S1024x4096 .bf16) (k f : Fin 1024) : View.ld x r3_139 (ix2 k f) = x (ix2 k ⟨1024 * (2 : Fin 4).val + f.val, by omega⟩) := by
  refine View.ld_unit_apply_of _ _ _ _ _ _ fun a => ?_
  match a with
  | ⟨0, _⟩ => exact (Nat.zero_add _).symm
  | ⟨1, _⟩ => rfl

theorem ld140 (x : Vec Ideal S4096x1024 .bf16) (f e : Fin 1024) : View.ld x r3_140 (ix2 f e) = x (ix2 ⟨1024 * (2 : Fin 4).val + f.val, by omega⟩ e) := by
  refine View.ld_unit_apply_of _ _ _ _ _ _ fun a => ?_
  match a with
  | ⟨0, _⟩ => rfl
  | ⟨1, _⟩ => exact (Nat.zero_add _).symm

theorem ld141 (x : Vec Ideal S1024x4096 .bf16) (k f : Fin 1024) : View.ld x r3_141 (ix2 k f) = x (ix2 k ⟨1024 * (3 : Fin 4).val + f.val, by omega⟩) := by
  refine View.ld_unit_apply_of _ _ _ _ _ _ fun a => ?_
  match a with
  | ⟨0, _⟩ => exact (Nat.zero_add _).symm
  | ⟨1, _⟩ => rfl

theorem ld142 (x : Vec Ideal S4096x1024 .bf16) (f e : Fin 1024) : View.ld x r3_142 (ix2 f e) = x (ix2 ⟨1024 * (3 : Fin 4).val + f.val, by omega⟩ e) := by
  refine View.ld_unit_apply_of _ _ _ _ _ _ fun a => ?_
  match a with
  | ⟨0, _⟩ => rfl
  | ⟨1, _⟩ => exact (Nat.zero_add _).symm

/-- The rows of one half of a block. -/
def xb (x : Vec Ideal S1x512x1024 .f32) (s : Fin 2) (r : Fin 256) (d : Fin 1024) : EReal := x (ix3 0 ⟨256 * s.val + r.val, by omega⟩ d)
def ab (x : Vec Ideal S1x512x512 .f32) (s : Fin 2) (r : Fin 256) (d : Fin 512) : EReal := x (ix3 0 ⟨256 * s.val + r.val, by omega⟩ d)

/-! ## The first half -/

theorem g74_0 (r : Fin 256) (e : Fin 1024) : k3_pay74 (Gen.k3_pay101 x0 x1 x2 x3 x4 x5 x6 x7 x8 x9 x10) (View.ld x3 r3_129) (ix2 r e) = glin (bw x3 x4 x5 x6 x7 x8 x9 x10) (yb x2 0 r) e := by
  rw [pay74_apply]
  exact Finset.sum_congr rfl fun k _ => congrArg₂ (· * ·) (p101_apply x0 x1 x2 x3 x4 x5 x6 x7 x8 x9 x10 r k) (ld129 x3 k e)

theorem h102 (r : Fin 256) (e : Fin 1024) : Gen.k3_pay102 x0 x1 x2 x3 x4 x5 x6 x7 x8 x9 x10 (ix2 r e) = mixV (bw x3 x4 x5 x6 x7 x8 x9 x10).gmix (ab x1 0 r) (ssm (bw x3 x4 x5 x6 x7 x8 x9 x10) (yb x2 0 r)) e := by
  unfold Gen.k3_pay102
  rw [pay78_apply]
  refine mixV_congr (fun d => ?_) (fun i => ld130 x1 r i) (fun i => ?_) e
  · unfold Gen.k3_pay100
    rw [pay3_apply]
    exact ld0 x4 d
  · rw [pay76_apply, pay77_apply, g74_0 x0 x1 x2 x3 x4 x5 x6 x7 x8 x9 x10, g74_0 x0 x1 x2 x3 x4 x5 x6 x7 x8 x9 x10]
    rfl

theorem h103 (r : Fin 256) (e : Fin 1024) : Gen.k3_pay103 x0 x1 x2 x3 x4 x5 x6 x7 x8 x9 x10 (ix2 r e) = outp (bw x3 x4 x5 x6 x7 x8 x9 x10) (ab x1 0 r) (yb x2 0 r) e := by
  unfold Gen.k3_pay103
  rw [pay81_apply]
  exact Finset.sum_congr rfl fun k _ => congrArg₂ (· * ·) (h102 x0 x1 x2 x3 x4 x5 x6 x7 x8 x9 x10 r k) (ld132 x5 k e)

theorem h106 (r : Fin 256) : Gen.k3_pay106 x0 x1 x2 x3 x4 x5 x6 x7 x8 x9 x10 (ix2 r 0) = ∑ e, outp (bw x3 x4 x5 x6 x7 x8 x9 x10) (ab x1 0 r) (yb x2 0 r) e * outp (bw x3 x4 x5 x6 x7 x8 x9 x10) (ab x1 0 r) (yb x2 0 r) e := by
  unfold Gen.k3_pay106
  rw [pay85_apply]
  exact Finset.sum_congr rfl fun k _ => congrArg₂ (· * ·) (h103 x0 x1 x2 x3 x4 x5 x6 x7 x8 x9 x10 r k) (h103 x0 x1 x2 x3 x4 x5 x6 x7 x8 x9 x10 r k)

theorem h104 (r : Fin 256) (e : Fin 1024) : Gen.k3_pay104 x0 x1 x2 x3 x4 x5 x6 x7 x8 x9 x10 (ix2 r e) = xb x0 0 r e := by
  unfold Gen.k3_pay104
  rw [pay83_apply]
  exact ld133 x0 r e

theorem h105 (e : Fin 1024) : Gen.k3_pay105 x0 x1 x2 x3 x4 x5 x6 x7 x8 x9 x10 (ix2 0 e) = (bw x3 x4 x5 x6 x7 x8 x9 x10).gpm e := by
  unfold Gen.k3_pay105
  rw [pay84_apply]
  exact ld0 x6 e

theorem h86 (r : Fin 256) (e : Fin 1024) : k3_pay86 (F := Ideal) (Gen.k3_pay103 x0 x1 x2 x3 x4 x5 x6 x7 x8 x9 x10) (Gen.k3_pay104 x0 x1 x2 x3 x4 x5 x6 x7 x8 x9 x10) (Gen.k3_pay105 x0 x1 x2 x3 x4 x5 x6 x7 x8 x9 x10) (Gen.k3_pay106 x0 x1 x2 x3 x4 x5 x6 x7 x8 x9 x10) (Scalar.ofBits .f32 0x44800000#32) (ix2 r e)
    = hid (bw x3 x4 x5 x6 x7 x8 x9 x10) (xb x0 0 r) (ab x1 0 r) (yb x2 0 r) e := by
  rw [pay86_apply, h103, h104, h105, h106]
  rfl

theorem h108 (r : Fin 256) (e : Fin 1024) : Gen.k3_pay108 x0 x1 x2 x3 x4 x5 x6 x7 x8 x9 x10 (ix2 r e) = nrm (bw x3 x4 x5 x6 x7 x8 x9 x10) (xb x0 0 r) (ab x1 0 r) (yb x2 0 r) e := by
  unfold Gen.k3_pay108
  rw [pay88_apply]
  exact rms_congr _ (h86 x0 x1 x2 x3 x4 x5 x6 x7 x8 x9 x10 r) (fun d => ld0 x7 d) e

theorem ck0 (j : Fin 4) (n : FVec Ideal S256x1024 .bf16) (u d : Vec Ideal S1024x1024 .bf16) (hu : ∀ k f, u (ix2 k f) = cu (bw x3 x4 x5 x6 x7 x8 x9 x10) j k f) (hd : ∀ f e, d (ix2 f e) = cd (bw x3 x4 x5 x6 x7 x8 x9 x10) j f e)
    (r : Fin 256) (N : Fin 1024 → EReal) (hn : ∀ k, n (ix2 r k) = N k) (e : Fin 1024) :
    chunk (fun k => n (ix2 r k)) (fun k f => u (ix2 k f)) (fun f e => d (ix2 f e)) e = chunk N (cu (bw x3 x4 x5 x6 x7 x8 x9 x10) j) (cd (bw x3 x4 x5 x6 x7 x8 x9 x10) j) e := by
  exact chunk_congr hn hu hd e

theorem first_half (r : Fin 256) (e : Fin 1024) (N : Fin 1024 → EReal) (n : FVec Ideal S256x1024 .bf16) (hn : ∀ k, n (ix2 r k) = N k) :
    (k3_pay95 n (k3_pay91 n (View.ld x8 r3_135) (View.ld x9 r3_136)) (k3_pay93 n (View.ld x8 r3_137)) (View.ld x9 r3_138) (View.ld x8 r3_139) (View.ld x9 r3_140)) (ix2 r e)
      + chunk (fun k => n (ix2 r k)) (fun k f => View.ld x8 r3_141 (ix2 k f)) (fun f e => View.ld x9 r3_142 (ix2 f e)) e = ffn (bw x3 x4 x5 x6 x7 x8 x9 x10) N e := by
  rw [pay95_apply, pay91_apply, ffn_split]
  refine congrArg₂ (· + ·) (congrArg₂ (· + ·) (congrArg₂ (· + ·) ?_ ?_) ?_) ?_
  · exact chunk_congr hn (ld135 x8) (ld136 x9) e
  · refine Eq.trans ?_ (chunk_congr (u := fun k f => View.ld x8 r3_137 (ix2 k f)) (d := fun f e => View.ld x9 r3_138 (ix2 f e)) hn (ld137 x8) (ld138 x9) e)
    exact Finset.sum_congr rfl fun f _ => congrArg (· * _) (pay93_apply n _ r f)
  · exact chunk_congr hn (ld139 x8) (ld140 x9) e
  · exact chunk_congr hn (ld141 x8) (ld142 x9) e

/-! ## The second half -/

theorem g75_1 (r : Fin 256) (e : Fin 1024) : p75 x2 x3 (ix2 r e) = glin (bw x3 x4 x5 x6 x7 x8 x9 x10) (yb x2 1 r) e := by
  rw [p75_apply]
  exact Finset.sum_congr rfl fun k _ => congrArg (_ * ·) (ld129 x3 k e)

theorem p107_eq : Gen.k3_pay107 x0 x1 x2 x3 x4 x5 x6 x7 x8 x9 x10 = k3_pay87 (k3_pay82 (Gen.k3_pay100 x0 x1 x2 x3 x4 x5 x6 x7 x8 x9 x10) (k3_pay79 (p75 x2 x3)) (k3_pay80 (View.ld x1 r3_131)) (View.ld x5 r3_132)) (View.ld x0 r3_134) (View.ld x6 r3_0) := by
  rfl

theorem h107 (r : Fin 256) (e : Fin 1024) : Gen.k3_pay107 x0 x1 x2 x3 x4 x5 x6 x7 x8 x9 x10 (ix2 r e) = hid (bw x3 x4 x5 x6 x7 x8 x9 x10) (xb x0 1 r) (ab x1 1 r) (yb x2 1 r) e := by
  rw [p107_eq, pay87_apply]
  unfold hid
  refine congrArg₂ (· + ·) (ld134 x0 r e) (rms_congr _ (fun d => ?_) (fun d => ld0 x6 d) e)
  rw [pay82_apply]
  refine Finset.sum_congr rfl fun k _ => congrArg₂ (· * ·) (mixV_congr (fun d => ?_) (fun i => ?_) (fun i => ?_) k) (ld132 x5 k d)
  · unfold Gen.k3_pay100
    rw [pay3_apply]
    exact ld0 x4 d
  · rw [pay80_apply]
    exact ld131 x1 r i
  · rw [pay79_apply, g75_1 x2 x3 x4 x5 x6 x7 x8 x9 x10, g75_1 x2 x3 x4 x5 x6 x7 x8 x9 x10]
    rfl

theorem h110 (r : Fin 256) (e : Fin 1024) : Gen.k3_pay110 x0 x1 x2 x3 x4 x5 x6 x7 x8 x9 x10 (ix2 r e) = nrm (bw x3 x4 x5 x6 x7 x8 x9 x10) (xb x0 1 r) (ab x1 1 r) (yb x2 1 r) e := by
  unfold Gen.k3_pay110
  rw [pay90_apply]
  refine rms_congr _ (h107 x0 x1 x2 x3 x4 x5 x6 x7 x8 x9 x10 r) (fun d => ?_) e
  unfold Gen.k3_pay109
  rw [pay89_apply]
  exact ld0 x7 d

theorem second_half (r : Fin 256) (e : Fin 1024) (N : Fin 1024 → EReal) (v : FVec Ideal S256x1024 .f32) (g : FVec Ideal S1x1024 .f32) (hn : ∀ k, k3_pay90 v g (ix2 r k) = N k) :
    (k3_pay98 (k3_pay90 v g) (k3_pay94 (k3_pay90 v g) (k3_pay92 v g (View.ld x8 r3_135) (View.ld x9 r3_136)) (View.ld x8 r3_137) (View.ld x9 r3_138)) (k3_pay96 (k3_pay90 v g) (View.ld x8 r3_139)) (k3_pay97 (View.ld x9 r3_140)) (constant S256x1024 .f32 0x00000000#32) (View.ld x8 r3_141) (View.ld x9 r3_142)) (ix2 r e)
      = ffn (bw x3 x4 x5 x6 x7 x8 x9 x10) N e := by
  rw [pay98_apply, pay94_apply, pay92_apply, ffn_split]
  generalize k3_pay90 v g = n at hn
  refine congrArg₂ (· + ·) (congrArg₂ (· + ·) (congrArg₂ (· + ·) ?_ ?_) ?_) ?_
  · exact chunk_congr hn (ld135 x8) (ld136 x9) e
  · exact chunk_congr hn (ld137 x8) (ld138 x9) e
  · refine Eq.trans ?_ (chunk_congr (u := fun k f => View.ld x8 r3_139 (ix2 k f)) (d := fun f e => View.ld x9 r3_140 (ix2 f e)) hn (ld139 x8) (ld140 x9) e)
    exact Finset.sum_congr rfl fun f _ => congrArg₂ (· * ·) (pay96_apply n _ r f) (pay97_apply _ f e)
  · exact chunk_congr hn (ld141 x8) (ld142 x9) e

/-- A row of the last call's block. -/
def xB (x : Vec Ideal S1x512x1024 .f32) (R : Fin 512) (d : Fin 1024) : EReal := x (ix3 0 R d)
def aB (x : Vec Ideal S1x512x512 .f32) (R : Fin 512) (d : Fin 512) : EReal := x (ix3 0 R d)
def yB (x : Vec Ideal S32x4x16x128 .f32) (R k : Fin 512) : EReal := x (ix4 ⟨k.val / 16, by omega⟩ ⟨R.val / 128, by omega⟩ ⟨k.val % 16, by omega⟩ ⟨R.val % 128, by omega⟩)

theorem post_half (P : PWts) (s : Fin 2) (r : Fin 256) (R : Fin 512) (hR : R.val = 256 * s.val + r.val) (e : Fin 1024) :
    post P (xb x0 s r) (ab x1 s r) (yb x2 s r) e = post P (xB x0 R) (aB x1 R) (yB x2 R) e := by
  obtain ⟨q, hq⟩ := R
  obtain rfl : q = 256 * s.val + r.val := hR
  have hy : yb x2 s r = yB x2 ⟨256 * s.val + r.val, hq⟩ := by
    funext k
    exact congrArg₂ (fun (a : Fin 4) (t : Fin 128) => x2 (ix4 ⟨k.val / 16, by omega⟩ a ⟨k.val % 16, by omega⟩ t))
      (Fin.ext (by show 2 * s.val + r.val / 128 = (256 * s.val + r.val) / 128; omega)) (Fin.ext (by show r.val % 128 = (256 * s.val + r.val) % 128; omega))
  rw [hy]
  rfl

theorem out3_apply (R : Fin 512) (e : Fin 1024) :
    out3_11 x0 x1 x2 x3 x4 x5 x6 x7 x8 x9 x10 (ix3 0 R e) = post (bw x3 x4 x5 x6 x7 x8 x9 x10) (xB x0 R) (aB x1 R) (yB x2 R) e := by
  unfold out3_11
  canon_tiles x e using cover3_11 (F := Ideal) _ _ _
  all_goals
    obtain ⟨a0, r, a2, rfl⟩ : ∃ a0 a1 a2, x = ix3 a0 a1 a2 := ⟨_, _, _, eq_ix3 x⟩
    obtain rfl : a0 = 0 := Subsingleton.elim _ _
    obtain rfl : e = a2 := Fin.ext e2
  · rw [pay2_apply, ← post_half x0 x1 x2 _ 1 r R (by have h1 : R.val = 256 + r.val := e1; show R.val = 256 * 1 + r.val; omega) e]
    unfold Layer.post
    refine congrArg₂ (· + ·) (h107 x0 x1 x2 x3 x4 x5 x6 x7 x8 x9 x10 r e) (rms_congr _ (fun d => ?_) (fun d => ld0 x10 d) e)
    exact second_half x3 x4 x5 x6 x7 x8 x9 x10 r d _ _ _ (h110 x0 x1 x2 x3 x4 x5 x6 x7 x8 x9 x10 r)
  · rw [pay1_apply, pay99_apply, ← post_half x0 x1 x2 _ 0 r R (by have h1 : R.val = r.val := e1; show R.val = 256 * 0 + r.val; omega) e]
    unfold Layer.post
    refine congrArg₂ (· + ·) (h86 x0 x1 x2 x3 x4 x5 x6 x7 x8 x9 x10 r e) (rms_congr _ (fun d => ?_) (fun d => ld0 x10 d) e)
    exact first_half x3 x4 x5 x6 x7 x8 x9 x10 r d _ _ (h108 x0 x1 x2 x3 x4 x5 x6 x7 x8 x9 x10 r)

end Cert.KernelIdeal.Post

end
-- ==== Proof.Host3.lean ====
/- What the host lines before the last call compute, at an index, over the extended reals. -/
module

public import proofs.«01_k».proof.Proof.Host

@[expose] public section

set_option maxRecDepth 16384

noncomputable section

namespace Cert.KernelIdeal.Host

open Idealize.ShloMosaic Idealize.ShloMosaic.TcCoe Idealize.SL.Sem
open Cert.KernelIdeal Cert.KernelIdeal.Gen Cert.Layer
/-- What buffer `main_arg9` holds. -/
abbrev r_arg9 (V : Valuation τ sig (Elt Ideal)) : FVec Ideal S4x8192x512 .f32 := V (Proc.devRef .tc main_arg9)

/-- What buffer `main_arg10` holds. -/
abbrev r_arg10 (V : Valuation τ sig (Elt Ideal)) : FVec Ideal S1x512x1024 .f32 := V (Proc.devRef .tc main_arg10)

/-- What buffer `main_arg11` holds. -/
abbrev r_arg11 (V : Valuation τ sig (Elt Ideal)) : FVec Ideal S1x1024 .f32 := V (Proc.devRef .tc main_arg11)

/-- What buffer `main_arg12` holds. -/
abbrev r_arg12 (V : Valuation τ sig (Elt Ideal)) : FVec Ideal S1x1024x1024 .f32 := V (Proc.devRef .tc main_arg12)

/-- What buffer `main_arg13` holds. -/
abbrev r_arg13 (V : Valuation τ sig (Elt Ideal)) : FVec Ideal S1x1024 .f32 := V (Proc.devRef .tc main_arg13)

/-- What buffer `main_arg14` holds. -/
abbrev r_arg14 (V : Valuation τ sig (Elt Ideal)) : FVec Ideal S1x1024 .f32 := V (Proc.devRef .tc main_arg14)

/-- What buffer `main_arg15` holds. -/
abbrev r_arg15 (V : Valuation τ sig (Elt Ideal)) : FVec Ideal S1x1024x4096 .f32 := V (Proc.devRef .tc main_arg15)

/-- What buffer `main_arg16` holds. -/
abbrev r_arg16 (V : Valuation τ sig (Elt Ideal)) : FVec Ideal S1x4096x1024 .f32 := V (Proc.devRef .tc main_arg16)

/-- What buffer `main_arg17` holds. -/
abbrev r_arg17 (V : Valuation τ sig (Elt Ideal)) : FVec Ideal S1x1024 .f32 := V (Proc.devRef .tc main_arg17)

variable (V : Valuation τ sig (Elt Ideal))

theorem v106_at (g : Fin 32) (q : Fin 64) (b : Fin 4) (c : Fin 16) (l : Fin 128) : (StableHlo.after (hostOps3 (F := Ideal)) V (Proc.devRef .tc main_v106) : Vec Ideal S32x64x64x128 .f32) (ix4 g q ⟨b.val * 16 + c.val, by omega⟩ l) = r_arg9 V (ix3 b ⟨q.val * 128 + l.val, by omega⟩ ⟨g.val * 16 + c.val, by omega⟩) := by
  after_reads_at

theorem v108_at (k : Fin 512) (e : Fin 1024) : (StableHlo.after (hostOps3 (F := Ideal)) V (Proc.devRef .tc main_v108) : Vec Ideal S512x1024 .bf16) (ix2 k e) = r_arg10 V (ix3 0 k e) := by
  after_reads_at

theorem v112_at (k e : Fin 1024) : (StableHlo.after (hostOps3 (F := Ideal)) V (Proc.devRef .tc main_v112) : Vec Ideal S1024x1024 .bf16) (ix2 k e) = r_arg12 V (ix3 0 k e) := by
  after_reads_at

theorem v118_at (k : Fin 1024) (e : Fin 4096) : (StableHlo.after (hostOps3 (F := Ideal)) V (Proc.devRef .tc main_v118) : Vec Ideal S1024x4096 .bf16) (ix2 k e) = r_arg15 V (ix3 0 k e) := by
  after_reads_at

theorem v120_at (k : Fin 4096) (e : Fin 1024) : (StableHlo.after (hostOps3 (F := Ideal)) V (Proc.devRef .tc main_v120) : Vec Ideal S4096x1024 .bf16) (ix2 k e) = r_arg16 V (ix3 0 k e) := by
  after_reads_at

theorem v110_at (d : Fin 1024) : (StableHlo.after (hostOps3 (F := Ideal)) V (Proc.devRef .tc main_v110) : Vec Ideal S1x1024 .f32) (ix2 0 d) = r_arg11 V (ix2 0 d) := by
  after_reads_at

theorem v114_at (d : Fin 1024) : (StableHlo.after (hostOps3 (F := Ideal)) V (Proc.devRef .tc main_v114) : Vec Ideal S1x1024 .f32) (ix2 0 d) = r_arg13 V (ix2 0 d) := by
  after_reads_at

theorem v116_at (d : Fin 1024) : (StableHlo.after (hostOps3 (F := Ideal)) V (Proc.devRef .tc main_v116) : Vec Ideal S1x1024 .f32) (ix2 0 d) = r_arg14 V (ix2 0 d) := by
  after_reads_at

theorem v122_at (d : Fin 1024) : (StableHlo.after (hostOps3 (F := Ideal)) V (Proc.devRef .tc main_v122) : Vec Ideal S1x1024 .f32) (ix2 0 d) = r_arg17 V (ix2 0 d) := by
  after_reads_at

end Cert.KernelIdeal.Host

end
-- ==== Proof.Arr3.lean ====
/- What the last call leaves in its array, out of the arguments. -/
module

public import proofs.«01_k».proof.Proof.Arr2
public import proofs.«01_k».proof.Proof.PostBlock
public import proofs.«01_k».proof.Proof.Host3

@[expose] public section

set_option maxRecDepth 16384

noncomputable section

namespace Cert.KernelIdeal.Arr

open Idealize.ShloMosaic Idealize.ShloMosaic.TcCoe Idealize.SL.Sem
open Cert.KernelIdeal Cert.KernelIdeal.Gen Cert.Layer Cert.KernelIdeal.Host Cert.KernelIdeal.Post
open Idealize.ShloMosaic.Pipeline
/-- The weights after the attention, out of the arguments. -/
def kw (A : Valuation τ sig (Elt Ideal)) : PWts where
  wglu d e := r_arg10 A (ix3 0 d e)
  gmix d := r_arg11 A (ix2 0 d)
  wout d e := r_arg12 A (ix3 0 d e)
  gpm d := r_arg13 A (ix2 0 d)
  gpre d := r_arg14 A (ix2 0 d)
  wup d e := r_arg15 A (ix3 0 d e)
  wdn d e := r_arg16 A (ix3 0 d e)
  gpost d := r_arg17 A (ix2 0 d)

/-- The rows the last call starts from: the layer's, the attention's and the recurrence's. -/
def kx (A : Valuation τ sig (Elt Ideal)) (b : Fin 4) (q : Fin 8192) (d : Fin 1024) : EReal := r_arg0 A (ix3 b q d)
def ka (A : Valuation τ sig (Elt Ideal)) (b : Fin 4) (q : Fin 8192) (d : Fin 512) : EReal := res A b q d
def ky (A : Valuation τ sig (Elt Ideal)) (b : Fin 4) (q : Fin 8192) (d : Fin 512) : EReal := r_arg9 A (ix3 b q d)

/-- Row `r` of block `n`. -/
def tl3 (n : Fin 16) (r : Fin 512) : Fin 8192 := ⟨n.val * 512 + r.val, by omega⟩

variable (m : (ℓ : Loc nD τ sig) → Buf (Elt Ideal) ℓ) (ρ : Dev nD → PrngReg) (c : Dev nD)

theorem p0 : ∀ t : Fin cfg3.N, win3_0.index t = ![(grid3.coords t 0).val, (grid3.coords t 1).val, 0] := by
  show ∀ t : Fin grid3.N, win3_0.index t = ![(grid3.coords t 0).val, (grid3.coords t 1).val, 0]
  decide +kernel

theorem p1 : ∀ t : Fin cfg3.N, win3_1.index t = ![(grid3.coords t 0).val, (grid3.coords t 1).val, 0] := by
  show ∀ t : Fin grid3.N, win3_1.index t = ![(grid3.coords t 0).val, (grid3.coords t 1).val, 0]
  decide +kernel

theorem p2 : ∀ t : Fin cfg3.N, win3_2.index t = ![0, (grid3.coords t 1).val, (grid3.coords t 0).val, 0] := by
  show ∀ t : Fin grid3.N, win3_2.index t = ![0, (grid3.coords t 1).val, (grid3.coords t 0).val, 0]
  decide +kernel

theorem p3 : ∀ t : Fin cfg3.N, win3_3.index t = ![0, 0] := by
  show ∀ t : Fin grid3.N, win3_3.index t = ![0, 0]
  decide +kernel

theorem p4 : ∀ t : Fin cfg3.N, win3_4.index t = ![0, 0] := by
  show ∀ t : Fin grid3.N, win3_4.index t = ![0, 0]
  decide +kernel

theorem p5 : ∀ t : Fin cfg3.N, win3_5.index t = ![0, 0] := by
  show ∀ t : Fin grid3.N, win3_5.index t = ![0, 0]
  decide +kernel

theorem p6 : ∀ t : Fin cfg3.N, win3_6.index t = ![0, 0] := by
  show ∀ t : Fin grid3.N, win3_6.index t = ![0, 0]
  decide +kernel

theorem p7 : ∀ t : Fin cfg3.N, win3_7.index t = ![0, 0] := by
  show ∀ t : Fin grid3.N, win3_7.index t = ![0, 0]
  decide +kernel

theorem p8 : ∀ t : Fin cfg3.N, win3_8.index t = ![0, 0] := by
  show ∀ t : Fin grid3.N, win3_8.index t = ![0, 0]
  decide +kernel

theorem p9 : ∀ t : Fin cfg3.N, win3_9.index t = ![0, 0] := by
  show ∀ t : Fin grid3.N, win3_9.index t = ![0, 0]
  decide +kernel

theorem p10 : ∀ t : Fin cfg3.N, win3_10.index t = ![0, 0] := by
  show ∀ t : Fin grid3.N, win3_10.index t = ![0, 0]
  decide +kernel

theorem p11 : ∀ t : Fin cfg3.N, win3_11.index t = ![(grid3.coords t 0).val, (grid3.coords t 1).val, 0] := by
  show ∀ t : Fin grid3.N, win3_11.index t = ![(grid3.coords t 0).val, (grid3.coords t 1).val, 0]
  decide +kernel

theorem W9_v103 : W9 m ρ c (Proc.devRef .tc main_v103) = resG (W0 m ρ c) := by
  exact (W9_of m ρ c main_v103 (by decide)).trans (res_arr m ρ c)

theorem W9_arg0 : W9 m ρ c (Proc.devRef .tc main_arg0) = W0 m ρ c (Proc.devRef .tc main_arg0) := by
  exact W9_args m ρ c main_arg0 (by decide)

theorem W8_arg9 : r_arg9 (W8 m ρ c) = r_arg9 (W0 m ρ c) := by
  exact W8_args m ρ c main_arg9 (by decide)

theorem W8_arg10 : r_arg10 (W8 m ρ c) = r_arg10 (W0 m ρ c) := by
  exact W8_args m ρ c main_arg10 (by decide)

theorem W8_arg11 : r_arg11 (W8 m ρ c) = r_arg11 (W0 m ρ c) := by
  exact W8_args m ρ c main_arg11 (by decide)

theorem W8_arg12 : r_arg12 (W8 m ρ c) = r_arg12 (W0 m ρ c) := by
  exact W8_args m ρ c main_arg12 (by decide)

theorem W8_arg13 : r_arg13 (W8 m ρ c) = r_arg13 (W0 m ρ c) := by
  exact W8_args m ρ c main_arg13 (by decide)

theorem W8_arg14 : r_arg14 (W8 m ρ c) = r_arg14 (W0 m ρ c) := by
  exact W8_args m ρ c main_arg14 (by decide)

theorem W8_arg15 : r_arg15 (W8 m ρ c) = r_arg15 (W0 m ρ c) := by
  exact W8_args m ρ c main_arg15 (by decide)

theorem W8_arg16 : r_arg16 (W8 m ρ c) = r_arg16 (W0 m ρ c) := by
  exact W8_args m ρ c main_arg16 (by decide)

theorem W8_arg17 : r_arg17 (W8 m ρ c) = r_arg17 (W0 m ρ c) := by
  exact W8_args m ρ c main_arg17 (by decide)

theorem x_blk3 (t : Fin cfg3.N) (r : Fin 512) (d : Fin 1024) : (iblk3 (V9 m ρ) c 0 t : Vec Ideal S1x512x1024 .f32) (ix3 0 r d) = kx (W0 m ρ c) (grid3.coords t 0) (tl3 (grid3.coords t 1) r) d := by
  have e : (iblk3 (V9 m ρ) c 0 t : Vec Ideal S1x512x1024 .f32) (ix3 0 r d) = (W9 m ρ c (Proc.devRef .tc main_arg0) : Vec Ideal S4x8192x1024 .f32) (ix3 (grid3.coords t 0) (tl3 (grid3.coords t 1) r) d) := by
    unfold iblk3
    blk_ext [p0, tl3]
  rw [e, W9_arg0]
  rfl

theorem a_blk3 (t : Fin cfg3.N) (r : Fin 512) (d : Fin 512) : (iblk3 (V9 m ρ) c 1 t : Vec Ideal S1x512x512 .f32) (ix3 0 r d) = ka (W0 m ρ c) (grid3.coords t 0) (tl3 (grid3.coords t 1) r) d := by
  have e : (iblk3 (V9 m ρ) c 1 t : Vec Ideal S1x512x512 .f32) (ix3 0 r d) = (W9 m ρ c (Proc.devRef .tc main_v103) : Vec Ideal S4x8192x512 .f32) (ix3 (grid3.coords t 0) (tl3 (grid3.coords t 1) r) d) := by
    unfold iblk3
    blk_ext [p1, tl3]
  rw [e, W9_v103]
  rfl

/-- Slab `s` of block `n`, and channel `k` of batch `b`. -/
def sl (n : Fin 16) (s : Fin 4) : Fin 64 := ⟨n.val * 4 + s.val, by omega⟩
def ch (b : Fin 4) (k : Fin 16) : Fin 64 := ⟨b.val * 16 + k.val, by omega⟩

theorem y_blk3 (t : Fin cfg3.N) (g : Fin 32) (s : Fin 4) (k : Fin 16) (l : Fin 128) : (iblk3 (V9 m ρ) c 2 t : Vec Ideal S32x4x16x128 .f32) (ix4 g s k l) = r_arg9 (W0 m ρ c) (ix3 (grid3.coords t 0) ⟨(sl (grid3.coords t 1) s).val * 128 + l.val, by omega⟩ ⟨g.val * 16 + k.val, by omega⟩) := by
  have e : (iblk3 (V9 m ρ) c 2 t : Vec Ideal S32x4x16x128 .f32) (ix4 g s k l) = (W9 m ρ c (Proc.devRef .tc main_v106) : Vec Ideal S32x64x64x128 .f32) (ix4 g (sl (grid3.coords t 1) s) (ch (grid3.coords t 0) k) l) := by
    unfold iblk3
    blk_ext [p2, sl, ch]
  rw [e, ← W8_arg9]
  exact v106_at (W8 m ρ c) g (sl (grid3.coords t 1) s) (grid3.coords t 0) k l

theorem w3_blk3 (t : Fin cfg3.N) (k : Fin 512) (d : Fin 1024) : (iblk3 (V9 m ρ) c 3 t : Vec Ideal S512x1024 .bf16) (ix2 k d) = r_arg10 (W0 m ρ c) (ix3 0 k d) := by
  have e : (iblk3 (V9 m ρ) c 3 t : Vec Ideal S512x1024 .bf16) (ix2 k d) = (W9 m ρ c (Proc.devRef .tc main_v108) : Vec Ideal S512x1024 .bf16) (ix2 k d) := by
    unfold iblk3
    blk_ext [p3]
  rw [e, ← W8_arg10]
  exact v108_at (W8 m ρ c) k d

theorem w5_blk3 (t : Fin cfg3.N) (k d : Fin 1024) : (iblk3 (V9 m ρ) c 5 t : Vec Ideal S1024x1024 .bf16) (ix2 k d) = r_arg12 (W0 m ρ c) (ix3 0 k d) := by
  have e : (iblk3 (V9 m ρ) c 5 t : Vec Ideal S1024x1024 .bf16) (ix2 k d) = (W9 m ρ c (Proc.devRef .tc main_v112) : Vec Ideal S1024x1024 .bf16) (ix2 k d) := by
    unfold iblk3
    blk_ext [p5]
  rw [e, ← W8_arg12]
  exact v112_at (W8 m ρ c) k d

theorem w8_blk3 (t : Fin cfg3.N) (k : Fin 1024) (d : Fin 4096) : (iblk3 (V9 m ρ) c 8 t : Vec Ideal S1024x4096 .bf16) (ix2 k d) = r_arg15 (W0 m ρ c) (ix3 0 k d) := by
  have e : (iblk3 (V9 m ρ) c 8 t : Vec Ideal S1024x4096 .bf16) (ix2 k d) = (W9 m ρ c (Proc.devRef .tc main_v118) : Vec Ideal S1024x4096 .bf16) (ix2 k d) := by
    unfold iblk3
    blk_ext [p8]
  rw [e, ← W8_arg15]
  exact v118_at (W8 m ρ c) k d

theorem w9_blk3 (t : Fin cfg3.N) (k : Fin 4096) (d : Fin 1024) : (iblk3 (V9 m ρ) c 9 t : Vec Ideal S4096x1024 .bf16) (ix2 k d) = r_arg16 (W0 m ρ c) (ix3 0 k d) := by
  have e : (iblk3 (V9 m ρ) c 9 t : Vec Ideal S4096x1024 .bf16) (ix2 k d) = (W9 m ρ c (Proc.devRef .tc main_v120) : Vec Ideal S4096x1024 .bf16) (ix2 k d) := by
    unfold iblk3
    blk_ext [p9]
  rw [e, ← W8_arg16]
  exact v120_at (W8 m ρ c) k d

theorem w4_blk3 (t : Fin cfg3.N) (d : Fin 1024) : (iblk3 (V9 m ρ) c 4 t : Vec Ideal S1x1024 .f32) (ix2 0 d) = r_arg11 (W0 m ρ c) (ix2 0 d) := by
  have e : (iblk3 (V9 m ρ) c 4 t : Vec Ideal S1x1024 .f32) (ix2 0 d) = (W9 m ρ c (Proc.devRef .tc main_v110) : Vec Ideal S1x1024 .f32) (ix2 0 d) := by
    unfold iblk3
    blk_ext [p4]
  rw [e, ← W8_arg11]
  exact v110_at (W8 m ρ c) d

theorem w6_blk3 (t : Fin cfg3.N) (d : Fin 1024) : (iblk3 (V9 m ρ) c 6 t : Vec Ideal S1x1024 .f32) (ix2 0 d) = r_arg13 (W0 m ρ c) (ix2 0 d) := by
  have e : (iblk3 (V9 m ρ) c 6 t : Vec Ideal S1x1024 .f32) (ix2 0 d) = (W9 m ρ c (Proc.devRef .tc main_v114) : Vec Ideal S1x1024 .f32) (ix2 0 d) := by
    unfold iblk3
    blk_ext [p6]
  rw [e, ← W8_arg13]
  exact v114_at (W8 m ρ c) d

theorem w7_blk3 (t : Fin cfg3.N) (d : Fin 1024) : (iblk3 (V9 m ρ) c 7 t : Vec Ideal S1x1024 .f32) (ix2 0 d) = r_arg14 (W0 m ρ c) (ix2 0 d) := by
  have e : (iblk3 (V9 m ρ) c 7 t : Vec Ideal S1x1024 .f32) (ix2 0 d) = (W9 m ρ c (Proc.devRef .tc main_v116) : Vec Ideal S1x1024 .f32) (ix2 0 d) := by
    unfold iblk3
    blk_ext [p7]
  rw [e, ← W8_arg14]
  exact v116_at (W8 m ρ c) d

theorem w10_blk3 (t : Fin cfg3.N) (d : Fin 1024) : (iblk3 (V9 m ρ) c 10 t : Vec Ideal S1x1024 .f32) (ix2 0 d) = r_arg17 (W0 m ρ c) (ix2 0 d) := by
  have e : (iblk3 (V9 m ρ) c 10 t : Vec Ideal S1x1024 .f32) (ix2 0 d) = (W9 m ρ c (Proc.devRef .tc main_v122) : Vec Ideal S1x1024 .f32) (ix2 0 d) := by
    unfold iblk3
    blk_ext [p10]
  rw [e, ← W8_arg17]
  exact v122_at (W8 m ρ c) d

theorem post_of (x0 : Vec Ideal S1x512x1024 .f32) (x1 : Vec Ideal S1x512x512 .f32) (x2 : Vec Ideal S32x4x16x128 .f32) (x3 : Vec Ideal S512x1024 .bf16) (x4 : Vec Ideal S1x1024 .f32) (x5 : Vec Ideal S1024x1024 .bf16) (x6 : Vec Ideal S1x1024 .f32) (x7 : Vec Ideal S1x1024 .f32) (x8 : Vec Ideal S1024x4096 .bf16) (x9 : Vec Ideal S4096x1024 .bf16) (x10 : Vec Ideal S1x1024 .f32)
    (P : PWts) (x : Fin 1024 → EReal) (a y : Fin 512 → EReal) (R : Fin 512) (e : Fin 1024)
    (h0 : ∀ d, x0 (ix3 0 R d) = x d) (h1 : ∀ d, x1 (ix3 0 R d) = a d) (h2 : ∀ k, yB x2 R k = y k) (h3 : ∀ k d, x3 (ix2 k d) = P.wglu k d) (h4 : ∀ d, x4 (ix2 0 d) = P.gmix d)
    (h5 : ∀ k d, x5 (ix2 k d) = P.wout k d) (h6 : ∀ d, x6 (ix2 0 d) = P.gpm d) (h7 : ∀ d, x7 (ix2 0 d) = P.gpre d) (h8 : ∀ k d, x8 (ix2 k d) = P.wup k d) (h9 : ∀ k d, x9 (ix2 k d) = P.wdn k d) (h10 : ∀ d, x10 (ix2 0 d) = P.gpost d) :
    out3_11 x0 x1 x2 x3 x4 x5 x6 x7 x8 x9 x10 (ix3 0 R e) = Layer.post P x a y e := by
  rw [out3_apply]
  have hP : bw x3 x4 x5 x6 x7 x8 x9 x10 = P := by
    unfold bw
    simp only [h3, h4, h5, h6, h7, h8, h9, h10]
  rw [hP, show xB x0 R = x from funext h0, show aB x1 R = a from funext h1, show yB x2 R = y from funext h2]

theorem y_row (t : Fin cfg3.N) (R k : Fin 512) : yB (iblk3 (V9 m ρ) c 2 t) R k = ky (W0 m ρ c) (grid3.coords t 0) (tl3 (grid3.coords t 1) R) k := by
  refine (y_blk3 m ρ c t ⟨k.val / 16, by omega⟩ ⟨R.val / 128, by omega⟩ ⟨k.val % 16, by omega⟩ ⟨R.val % 128, by omega⟩).trans ?_
  have hn := ((grid3.coords t 1) : Fin 16).isLt
  exact congrArg₂ (fun (q : Fin 8192) (d : Fin 512) => r_arg9 (W0 m ρ c) (ix3 (grid3.coords t 0) q d))
    (Fin.ext (by show ((grid3.coords t 1).val * 4 + R.val / 128) * 128 + R.val % 128 = (grid3.coords t 1).val * 512 + R.val; omega)) (Fin.ext (by show k.val / 16 * 16 + k.val % 16 = k.val; omega))

theorem out_blk3 (t : Fin cfg3.N) (R : Fin 512) (e : Fin 1024) : out3_11 (iblk3 (V9 m ρ) c 0 t) (iblk3 (V9 m ρ) c 1 t) (iblk3 (V9 m ρ) c 2 t) (iblk3 (V9 m ρ) c 3 t) (iblk3 (V9 m ρ) c 4 t) (iblk3 (V9 m ρ) c 5 t) (iblk3 (V9 m ρ) c 6 t) (iblk3 (V9 m ρ) c 7 t) (iblk3 (V9 m ρ) c 8 t) (iblk3 (V9 m ρ) c 9 t) (iblk3 (V9 m ρ) c 10 t) (ix3 0 R e)
    = Layer.post (kw (W0 m ρ c)) (kx (W0 m ρ c) (grid3.coords t 0) (tl3 (grid3.coords t 1) R)) (ka (W0 m ρ c) (grid3.coords t 0) (tl3 (grid3.coords t 1) R)) (ky (W0 m ρ c) (grid3.coords t 0) (tl3 (grid3.coords t 1) R)) e := by
  exact post_of (iblk3 (V9 m ρ) c 0 t) (iblk3 (V9 m ρ) c 1 t) (iblk3 (V9 m ρ) c 2 t) (iblk3 (V9 m ρ) c 3 t) (iblk3 (V9 m ρ) c 4 t) (iblk3 (V9 m ρ) c 5 t) (iblk3 (V9 m ρ) c 6 t) (iblk3 (V9 m ρ) c 7 t) (iblk3 (V9 m ρ) c 8 t) (iblk3 (V9 m ρ) c 9 t) (iblk3 (V9 m ρ) c 10 t) (kw (W0 m ρ c)) _ _ _ R e (x_blk3 m ρ c t R) (a_blk3 m ρ c t R) (y_row m ρ c t R) (w3_blk3 m ρ c t) (w4_blk3 m ρ c t) (w5_blk3 m ρ c t) (w6_blk3 m ρ c t) (w7_blk3 m ρ c t) (w8_blk3 m ρ c t) (w9_blk3 m ρ c t) (w10_blk3 m ρ c t)

/-- Column `e` of the layer's row `q`. -/
def pst (A : Valuation τ sig (Elt Ideal)) (b : Fin 4) (q : Fin 8192) (e : Fin 1024) : EReal := Layer.post (kw A) (kx A b q) (ka A b q) (ky A b q) e

/-- The result array. -/
def postG (A : Valuation τ sig (Elt Ideal)) : Vec Ideal S4x8192x1024 .f32 := fun i => pst A (i 0) (i 1) (i 2)

theorem post_emb (t : Fin cfg3.N) (y : S1x512x1024.Idx) : postG (W0 m ρ c) (((cfg3.win 11).blk t).view.emb y) = pst (W0 m ρ c) (grid3.coords t 0) (tl3 (grid3.coords t 1) (y 1)) (y 2) := by
  unfold postG
  refine congr3 (pst (W0 m ρ c)) (Fin.ext ?_) (Fin.ext ?_) (Fin.ext ?_) <;> first | (blk_simp [p11, tl3]; done) | (simp only [tl3]; blk_simp [p11]; done) | (simp only [tl3]; blk_simp [p11]; omega) | skip

theorem post_after (t : Fin cfg3.N) (y : S1x512x1024.Idx) : (dat3 (V9 m ρ) c).after 11 t y = pst (W0 m ρ c) (grid3.coords t 0) (tl3 (grid3.coords t 1) (y 1)) (y 2) := by
  refine (congrFun (after3_11 (V9 m ρ) c t) y).trans ?_
  refine Eq.trans (congrArg (out3_11 (iblk3 (V9 m ρ) c 0 t) (iblk3 (V9 m ρ) c 1 t) (iblk3 (V9 m ρ) c 2 t) (iblk3 (V9 m ρ) c 3 t) (iblk3 (V9 m ρ) c 4 t) (iblk3 (V9 m ρ) c 5 t) (iblk3 (V9 m ρ) c 6 t) (iblk3 (V9 m ρ) c 7 t) (iblk3 (V9 m ρ) c 8 t) (iblk3 (V9 m ρ) c 9 t) (iblk3 (V9 m ρ) c 10 t)) (ix3_0 y)) (out_blk3 m ρ c t (y 1) (y 2))

theorem post_arr : W10 m ρ c (Proc.devRef .tc main_v123) = postG (W0 m ρ c) := by
  refine (W10_arr m ρ c 11).trans ?_
  refine Dat.arrAt_eq_of_covers (dat3 (V9 m ρ) c) 11 (postG (W0 m ρ c)) (by decide +kernel) fun t hf y => ?_
  blk_simp
  exact (post_after m ρ c t y).trans (post_emb m ρ c t y).symm

end Cert.KernelIdeal.Arr

end
-- ==== Proof.Run.lean ====
/- The kernel's run: what its result array holds at the end. -/
module

public import proofs.«01_k».proof.Proof.Arr3

@[expose] public section

set_option maxRecDepth 16384

noncomputable section

namespace Cert.KernelIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Every execution of the program ends with the result array at the value below and the arguments unchanged. -/
theorem run : θ_run defs (onTc (τ := τ) (main (F := Ideal))) ⟨m, fun _ => 0, ρ⟩ (fun r => (∀ c : Dev nD,
      r.2.mem ((c.tc : Thread nD τ).loc main_v123) = postG (W0 m ρ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨(h c _ (mem_uc main_v123 (by decide))).trans (post_arr m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c)⟩), funext fun g => hz g (.inr (no_unscoped g.2))⟩)

end Cert.KernelIdeal.Arr

end
-- ==== Proof.Reals.lean ====
/- Rows and weights that are reals: the attention of the layer stays real, and its softmax is the one with powers of two. -/
module

public import proofs.«01_k».proof.Proof.Lanes
public import Mathlib.Analysis.SpecialFunctions.Pow.Real

@[expose] public section

set_option maxRecDepth 16384

noncomputable section

namespace Cert.Layer

open Idealize.ShloMosaic Idealize.ShloMosaic.TcCoe Idealize.SL.Sem
open Cert.KernelIdeal

/-- A value that is a real number. -/
def IsR (a : EReal) : Prop := ∃ r : ℝ, a = (r : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.add {a b : EReal} (ha : IsR a) (hb : IsR b) : IsR (a + b) := by
  obtain ⟨x, rfl⟩ := ha
  obtain ⟨y, rfl⟩ := hb
  exact ⟨x + y, (EReal.coe_add x y).symm⟩

theorem IsR.sub {a b : EReal} (ha : IsR a) (hb : IsR b) : IsR (a - b) := by
  obtain ⟨x, rfl⟩ := ha
  obtain ⟨y, rfl⟩ := hb
  exact ⟨x - y, (EReal.coe_sub x y).symm⟩

theorem IsR.mul {a b : EReal} (ha : IsR a) (hb : IsR b) : IsR (a * b) := by
  obtain ⟨x, rfl⟩ := ha
  obtain ⟨y, rfl⟩ := hb
  exact ⟨x * y, (EReal.coe_mul x y).symm⟩

theorem IsR.max {a b : EReal} (ha : IsR a) (hb : IsR b) : IsR (max a b) := by
  rcases max_choice a b with h | h <;> rw [h] <;> assumption

theorem isR_zero : IsR 0 := by
  exact ⟨0, EReal.coe_zero.symm⟩

theorem isR_one : IsR 1 := by
  exact ⟨1, EReal.coe_one.symm⟩

theorem isR_sum {ι : Type*} [Fintype ι] {f : ι → EReal} (h : ∀ i, IsR (f i)) : IsR (∑ i, f i) := by
  choose g hg using h
  refine ⟨∑ i, g i, ?_⟩
  rw [coe_sum]
  exact Finset.sum_congr rfl fun i _ => hg i

theorem bits_1024 : Ideal.ofBits .f32 0x44800000#32 = ((1024 : ℝ) : EReal) := by
  simp [Ideal.ofBits, Ideal.ieee, -EReal.coe_mul]
  norm_num

theorem bits_384 : Ideal.ofBits .f32 0x43C00000#32 = ((384 : ℝ) : EReal) := by
  simp [Ideal.ofBits, Ideal.ieee, -EReal.coe_mul]
  norm_num

theorem bits_256 : Ideal.ofBits .f32 0x43800000#32 = ((256 : ℝ) : EReal) := by
  simp [Ideal.ofBits, Ideal.ieee, -EReal.coe_mul]
  norm_num

theorem bits_eps : eps = ((8796093 / 8796093022208 : ℝ) : EReal) := by
  unfold eps
  simp [Ideal.ofBits, Ideal.ieee, -EReal.coe_mul]
  norm_num

theorem bits_10000 : Ideal.ofBits .f32 0x461C4000#32 = ((10000 : ℝ) : EReal) := by
  simp [Ideal.ofBits, Ideal.ieee, -EReal.coe_mul]
  norm_num

theorem bits_2 : Ideal.ofBits .f32 0x40000000#32 = ((2 : ℝ) : EReal) := by
  simp [Ideal.ofBits, Ideal.ieee, -EReal.coe_mul]
  norm_num

theorem bits_32 : Ideal.ofBits .f32 0x42000000#32 = ((32 : ℝ) : EReal) := by
  simp [Ideal.ofBits, Ideal.ieee, -EReal.coe_mul]
  norm_num

theorem bits_96 : Ideal.ofBits .f32 0x42C00000#32 = ((96 : ℝ) : EReal) := by
  simp [Ideal.ofBits, Ideal.ieee, -EReal.coe_mul]
  norm_num

theorem bits_mar : Ideal.ofBits .f32 0x3F820000#32 = ((65 / 64 : ℝ) : EReal) := by
  simp [Ideal.ofBits, Ideal.ieee, -EReal.coe_mul]
  norm_num

theorem bits_bot : Ideal.ofBits .f32 0xFF800000#32 = (⊥ : EReal) := by
  simp [Ideal.ofBits, Ideal.ieee]

/-- The largest of finitely many reals, at least one, is real. -/
theorem isR_fold {ι : Type*} [Fintype ι] [Nonempty ι] {f : ι → EReal} (h : ∀ i, IsR (f i)) :
    IsR (Finset.univ.fold max (Ideal.ofBits .f32 0xFF800000#32) f) := by
  rw [bits_bot]
  have key : ∀ s : Finset ι, s.Nonempty → IsR (s.fold max ⊥ f) := by
    intro s hs
    classical
    induction hs using Finset.Nonempty.cons_induction with
    | singleton a =>
      rw [Finset.fold_singleton, max_eq_left bot_le]
      exact h a
    | cons a s ha hs ih =>
      rw [Finset.fold_cons]
      exact (h a).max ih
  exact key _ Finset.univ_nonempty

theorem isR_rms {N : EReal} (hN : ∃ r : ℝ, 0 < r ∧ N = (r : EReal)) {n : ℕ} {v g : Fin n → EReal} (hv : ∀ i, IsR (v i)) (hg : ∀ i, IsR (g i)) (i : Fin n) :
    IsR (rms N v g i) := by
  obtain ⟨r, hr, rfl⟩ := hN
  choose a ha using hv
  unfold rms
  refine ((show IsR (v i) from ⟨a i, ha i⟩).mul ?_).mul (hg i)
  have hs : (∑ k, v k * v k) = ((∑ k, a k * a k : ℝ) : EReal) := by
    rw [coe_sum]
    exact Finset.sum_congr rfl fun k _ => by rw [ha k, EReal.coe_mul]
  have h0 : 0 ≤ ∑ k, a k * a k := Finset.sum_nonneg fun k _ => mul_self_nonneg _
  have h1 : 0 < (∑ k, a k * a k) * (1 / r) + 8796093 / 8796093022208 := by positivity
  rw [hs, Ideal.div_coe hr.ne', bits_eps, ← EReal.coe_mul, ← EReal.coe_add, Ideal.rsqrt_coe, if_neg h1.le.not_gt, if_neg h1.ne']
  exact ⟨_, rfl⟩

/-- Weights that are reals. -/
structure RealW (W : Wts) : Prop where
  g1 : ∀ d, IsR (W.g1 d)
  win : ∀ d e, IsR (W.win d e)
  gq : ∀ d, IsR (W.gq d)
  wq : ∀ d e, IsR (W.wq d e)
  gkv : ∀ d, IsR (W.gkv d)
  wkv : ∀ d e, IsR (W.wkv d e)

theorem isR_pr {W : Wts} (hW : RealW W) {v : Fin 1024 → EReal} (hv : ∀ d, IsR (v d)) (e : Fin 1184) : IsR (pr W v e) := by
  unfold pr xn
  exact isR_sum fun d => (isR_rms ⟨1024, by norm_num, bits_1024⟩ hv hW.g1 d).mul (hW.win d e)

theorem isR_qry {W : Wts} (hW : RealW W) {v : Fin 1024 → EReal} (hv : ∀ d, IsR (v d)) (e : Fin 768) : IsR (qry W v e) := by
  unfold qry qlat
  exact isR_sum fun d => (isR_rms ⟨384, by norm_num, bits_384⟩ (fun i => isR_pr hW hv _) hW.gq d).mul (hW.wq d e)

theorem isR_kv {W : Wts} (hW : RealW W) {v : Fin 1024 → EReal} (hv : ∀ d, IsR (v d)) (e : Fin 1024) : IsR (kv W v e) := by
  unfold kv kvlat
  exact isR_sum fun d => (isR_rms ⟨256, by norm_num, bits_256⟩ (fun i => isR_pr hW hv _) hW.gkv d).mul (hW.wkv d e)

theorem isR_sitofp (p : BitVec 32) : IsR (FloatOps.sitofp (F := Ideal) .f32 p) := by
  exact ⟨(p.toInt : ℝ), rfl⟩

theorem isR_freq (k : Fin 16) : IsR (freq k) := by
  obtain ⟨x, hx⟩ := isR_sitofp (BitVec.ofNat 32 k.val)
  unfold freq
  rw [hx, bits_10000, bits_2, bits_32, Ideal.ofBits_one_f32, Ideal.ofBits_zero_f32, zero_add, ← EReal.coe_mul, Ideal.div_coe (by norm_num : (32 : ℝ) ≠ 0), ← EReal.coe_mul,
    Ideal.pow_coe_coe, Ideal.div_coe (show Real.rpow 10000 (2 * x * (1 / 32)) ≠ 0 from (Real.rpow_pos_of_pos (by norm_num) _).ne')]
  exact isR_one.mul ⟨_, rfl⟩

theorem isR_cosT (p : BitVec 32) (k : Fin 16) : IsR (cosT p k) := by
  obtain ⟨x, hx⟩ := (isR_sitofp p).mul (isR_freq k)
  unfold cosT
  rw [hx]
  exact ⟨_, Ideal.cos_coe x⟩

theorem isR_sinT (p : BitVec 32) (k : Fin 16) : IsR (sinT p k) := by
  obtain ⟨x, hx⟩ := (isR_sitofp p).mul (isR_freq k)
  unfold sinT
  rw [hx]
  exact ⟨_, Ideal.sin_coe x⟩

/-- The rotation, on reals. -/
def rotR (c s : Fin 16 → ℝ) (f : Fin 32 → ℝ) (d : Fin 32) : ℝ :=
  if h : d.val < 16 then f d * c ⟨d.val, h⟩ - f ⟨16 + d.val, by omega⟩ * s ⟨d.val, h⟩
  else f ⟨d.val - 16, by omega⟩ * s ⟨d.val - 16, by omega⟩ + f d * c ⟨d.val - 16, by omega⟩

theorem rot_coe (c s : Fin 16 → ℝ) (f : Fin 32 → ℝ) (d : Fin 32) :
    rot (fun k => (c k : EReal)) (fun k => (s k : EReal)) (fun k => (f k : EReal)) d = ((rotR c s f d : ℝ) : EReal) := by
  unfold rot rotR
  split_ifs
  · rw [EReal.coe_sub, EReal.coe_mul, EReal.coe_mul]
  · rw [EReal.coe_add, EReal.coe_mul, EReal.coe_mul]

theorem rotR_mul (c s : Fin 16 → ℝ) (f : Fin 32 → ℝ) (a : ℝ) (d : Fin 32) : rotR c s (fun x => f x * a) d = a * rotR c s f d := by
  unfold rotR
  split_ifs <;> ring

/-- The lanes of a query and of a key, on reals. -/
def qlR (a : ℝ) (Q : Fin 768 → ℝ) (c s : Fin 16 → ℝ) (h : Fin 8) (l : Fin 128) : ℝ :=
  if h1 : l.val < 64 then Q ⟨96 * h.val + l.val, by omega⟩ * a
  else if h2 : l.val < 96 then rotR c s (fun x => Q ⟨96 * h.val + (64 + x.val), by omega⟩ * a) ⟨l.val - 64, by omega⟩
  else 0
def klR (K : Fin 1024 → ℝ) (P : Fin 1184 → ℝ) (c s : Fin 16 → ℝ) (h : Fin 8) (l : Fin 128) : ℝ :=
  (if l.val < 64 then K ⟨128 * h.val + l.val, by omega⟩ else 0)
    + (if h : l.val < 64 then 0 else if h' : l.val < 96 then rotR c s (fun x => P ⟨640 + x.val, by omega⟩) ⟨l.val - 64, by omega⟩ else 0)

theorem qlane_coe {a : ℝ} {W : Wts} {v : Fin 1024 → EReal} {cs sn : Fin 16 → EReal} {Q : Fin 768 → ℝ} {c s : Fin 16 → ℝ}
    (hQ : ∀ e, qry W v e = (Q e : EReal)) (hc : ∀ k, cs k = (c k : EReal)) (hs : ∀ k, sn k = (s k : EReal)) (h : Fin 8) (l : Fin 128) :
    qlane (a : EReal) W v cs sn h l = ((qlR a Q c s h l : ℝ) : EReal) := by
  unfold qlane qlR
  rw [funext hc, funext hs]
  simp only [hQ, ← EReal.coe_mul]
  split_ifs
  · rfl
  · exact rot_coe _ _ _ _
  · exact EReal.coe_zero.symm

theorem klane_coe {W : Wts} {v : Fin 1024 → EReal} {cs sn : Fin 16 → EReal} {K : Fin 1024 → ℝ} {P : Fin 1184 → ℝ} {c s : Fin 16 → ℝ}
    (hK : ∀ e, kv W v e = (K e : EReal)) (hP : ∀ e, pr W v e = (P e : EReal)) (hc : ∀ k, cs k = (c k : EReal)) (hs : ∀ k, sn k = (s k : EReal)) (h : Fin 8) (l : Fin 128) :
    klane W v cs sn h l = ((klR K P c s h l : ℝ) : EReal) := by
  unfold klane klR rlane
  rw [funext hc, funext hs, EReal.coe_add]
  simp only [hK, hP]
  refine congrArg₂ (· + ·) ?_ ?_
  · split_ifs
    · rfl
    · exact EReal.coe_zero.symm
  · split_ifs
    · exact EReal.coe_zero.symm
    · exact rot_coe _ _ _ _
    · exact EReal.coe_zero.symm

theorem sum128 (f : Fin 128 → ℝ) : ∑ l, f l = (∑ d : Fin 64, f ⟨d.val, by omega⟩) + ((∑ d : Fin 32, f ⟨64 + d.val, by omega⟩) + ∑ d : Fin 32, f ⟨96 + d.val, by omega⟩) := by
  rw [show (∑ l : Fin 128, f l) = ∑ l : Fin (64 + (32 + 32)), f l from rfl, Fin.sum_univ_add, Fin.sum_univ_add]
  refine congrArg₂ (· + ·) (Finset.sum_congr rfl fun d _ => congrArg f (Fin.ext rfl)) (congrArg₂ (· + ·) (Finset.sum_congr rfl fun d _ => congrArg f (Fin.ext rfl)) (Finset.sum_congr rfl fun d _ => congrArg f (Fin.ext ?_)))
  show 64 + (32 + d.val) = 96 + d.val
  omega

/-- The product of a key's lanes with a query's is the scaled score. -/
theorem dotR (a : ℝ) (Q : Fin 768 → ℝ) (c s : Fin 16 → ℝ) (K : Fin 1024 → ℝ) (P : Fin 1184 → ℝ) (c' s' : Fin 16 → ℝ) (h : Fin 8) :
    ∑ l, klR K P c' s' h l * qlR a Q c s h l
      = a * ((∑ d : Fin 64, Q ⟨h.val * 96 + d.val, by omega⟩ * K ⟨h.val * 128 + d.val, by omega⟩)
        + ∑ d : Fin 32, rotR c s (fun x => Q ⟨h.val * 96 + (64 + x.val), by omega⟩) d * rotR c' s' (fun x => P ⟨640 + x.val, by omega⟩) d) := by
  rw [sum128, mul_add, Finset.mul_sum, Finset.mul_sum]
  refine congrArg₂ (· + ·) (Finset.sum_congr rfl fun d _ => ?_) ?_
  · have hd : d.val < 64 := d.isLt
    unfold klR qlR
    rw [if_pos hd, dif_pos hd, dif_pos hd]
    simp only [Nat.mul_comm 96, Nat.mul_comm 128]
    ring
  · rw [show (∑ d : Fin 32, klR K P c' s' h ⟨96 + d.val, by omega⟩ * qlR a Q c s h ⟨96 + d.val, by omega⟩) = 0 from Finset.sum_eq_zero fun d _ => by
      have h1 : ¬ 96 + d.val < 64 := by omega
      have h2 : ¬ 96 + d.val < 96 := by omega
      unfold klR
      rw [if_neg h1, dif_neg h1, dif_neg h2, add_zero, zero_mul], add_zero]
    refine Finset.sum_congr rfl fun d _ => ?_
    have h1 : ¬ 64 + d.val < 64 := by omega
    have h2 : 64 + d.val < 96 := by omega
    have e : (⟨64 + d.val - 64, by omega⟩ : Fin 32) = d := Fin.ext (by show 64 + d.val - 64 = d.val; omega)
    unfold klR qlR
    rw [if_neg h1, dif_neg h1, dif_pos h2, dif_neg h1, dif_pos h2, zero_add, e, rotR_mul]
    simp only [Nat.mul_comm 96]
    ring

theorem score_coe {W : Wts} {v w : Fin 1024 → EReal} {p p' : BitVec 32} {Q : Fin 768 → ℝ} {c s : Fin 16 → ℝ} {K : Fin 1024 → ℝ} {P : Fin 1184 → ℝ} {c' s' : Fin 16 → ℝ}
    (hQ : ∀ e, qry W v e = (Q e : EReal)) (hc : ∀ k, cosT p k = (c k : EReal)) (hs : ∀ k, sinT p k = (s k : EReal))
    (hK : ∀ e, kv W w e = (K e : EReal)) (hP : ∀ e, pr W w e = (P e : EReal)) (hc' : ∀ k, cosT p' k = (c' k : EReal)) (hs' : ∀ k, sinT p' k = (s' k : EReal)) (h : Fin 8) :
    score W v p w p' h = (((∑ d : Fin 64, Q ⟨h.val * 96 + d.val, by omega⟩ * K ⟨h.val * 128 + d.val, by omega⟩)
        + ∑ d : Fin 32, rotR c s (fun x => Q ⟨h.val * 96 + (64 + x.val), by omega⟩) d * rotR c' s' (fun x => P ⟨640 + x.val, by omega⟩) d : ℝ) : EReal) := by
  unfold score qn kn qr kr
  rw [funext hc, funext hs, funext hc', funext hs']
  simp only [hQ, hK, hP, rot_coe]
  rw [EReal.coe_add, coe_sum, coe_sum]
  simp only [EReal.coe_mul]

/-- The score is real, and the lanes' product is the score scaled. -/
theorem dot_score {W : Wts} (hW : RealW W) {v w : Fin 1024 → EReal} (hv : ∀ d, IsR (v d)) (hw : ∀ d, IsR (w d)) (p p' : BitVec 32) (h : Fin 8) (a : ℝ) :
    ∃ r : ℝ, score W v p w p' h = (r : EReal)
      ∧ ∑ l, klane W w (cosT p') (sinT p') h l * qlane (a : EReal) W v (cosT p) (sinT p) h l = ((a * r : ℝ) : EReal) := by
  choose Q hQ using fun e => isR_qry hW hv e
  choose K hK using fun e => isR_kv hW hw e
  choose P hP using fun e => isR_pr hW hw e
  choose c hc using fun k => isR_cosT p k
  choose s hs using fun k => isR_sinT p k
  choose c' hc' using fun k => isR_cosT p' k
  choose s' hs' using fun k => isR_sinT p' k
  refine ⟨_, score_coe hQ hc hs hK hP hc' hs' h, ?_⟩
  rw [← dotR, coe_sum]
  refine Finset.sum_congr rfl fun l _ => ?_
  rw [klane_coe hK hP hc' hs', qlane_coe hQ hc hs, EReal.coe_mul]

theorem isR_qlane {W : Wts} (hW : RealW W) {v : Fin 1024 → EReal} (hv : ∀ d, IsR (v d)) (p : BitVec 32) (a : ℝ) (h : Fin 8) (l : Fin 128) :
    IsR (qlane (a : EReal) W v (cosT p) (sinT p) h l) := by
  choose Q hQ using fun e => isR_qry hW hv e
  choose c hc using fun k => isR_cosT p k
  choose s hs using fun k => isR_sinT p k
  exact ⟨_, qlane_coe hQ hc hs h l⟩

theorem isR_klane {W : Wts} (hW : RealW W) {v : Fin 1024 → EReal} (hv : ∀ d, IsR (v d)) (p : BitVec 32) (h : Fin 8) (l : Fin 128) :
    IsR (klane W v (cosT p) (sinT p) h l) := by
  choose K hK using fun e => isR_kv hW hv e
  choose P hP using fun e => isR_pr hW hv e
  choose c hc using fun k => isR_cosT p k
  choose s hs using fun k => isR_sinT p k
  exact ⟨_, klane_coe hK hP hc hs h l⟩

/-- The root of a sum of squares of reals is real. -/
theorem isR_norm {ι : Type*} [Fintype ι] {f : ι → EReal} (h : ∀ i, IsR (f i)) : IsR (Ideal.sqrt (∑ i, f i * f i)) := by
  choose g hg using h
  have hs : (∑ i, f i * f i) = ((∑ i, g i * g i : ℝ) : EReal) := by
    rw [coe_sum]
    exact Finset.sum_congr rfl fun k _ => by rw [hg k, EReal.coe_mul]
  have h0 : 0 ≤ ∑ i, g i * g i := Finset.sum_nonneg fun k _ => mul_self_nonneg _
  rw [hs, Ideal.sqrt_coe, if_neg h0.not_gt]
  exact ⟨_, rfl⟩

/-- A softmax does not depend on what is subtracted, nor on the base. -/
theorem softmaxR {ι : Type*} [Fintype ι] [Nonempty ι] (w s : ι → ℝ) (x M : ℝ) :
    ∑ k, w k * (Real.exp (s k - x) * (1 / ∑ k', Real.exp (s k' - x)))
      = (∑ k, w k * Real.rpow 2 (s k * (Real.log 2)⁻¹ - M)) * (1 * (1 / ∑ k, Real.rpow 2 (s k * (Real.log 2)⁻¹ - M))) := by
  have hl : Real.log 2 ≠ 0 := (Real.log_pos (by norm_num)).ne'
  have h2 : ∀ k, Real.rpow 2 (s k * (Real.log 2)⁻¹ - M) = Real.exp (s k) * Real.exp (-(Real.log 2 * M)) := by
    intro k
    show (2 : ℝ) ^ (s k * (Real.log 2)⁻¹ - M) = _
    rw [Real.rpow_def_of_pos (by norm_num), ← Real.exp_add]
    congr 1
    field_simp
    ring
  have h1 : ∀ k, Real.exp (s k - x) = Real.exp (s k) * Real.exp (-x) := by
    intro k
    rw [← Real.exp_add, sub_eq_add_neg]
  simp only [h1, h2]
  have hS : 0 < ∑ k, Real.exp (s k) := Finset.sum_pos (fun k _ => Real.exp_pos _) Finset.univ_nonempty
  rw [← Finset.sum_mul, ← Finset.sum_mul]
  have e1 : ∑ k, w k * (Real.exp (s k) * Real.exp (-x) * (1 / ((∑ k, Real.exp (s k)) * Real.exp (-x)))) = ∑ k, w k * Real.exp (s k) * (1 / ∑ k, Real.exp (s k)) := by
    refine Finset.sum_congr rfl fun k _ => ?_
    have := (Real.exp_pos (-x)).ne'
    field_simp
  have e2 : ∑ k, w k * (Real.exp (s k) * Real.exp (-(Real.log 2 * M))) = (∑ k, w k * Real.exp (s k)) * Real.exp (-(Real.log 2 * M)) := by
    rw [Finset.sum_mul]
    exact Finset.sum_congr rfl fun k _ => by ring
  rw [e1, e2, ← Finset.sum_mul]
  have := (Real.exp_pos (-(Real.log 2 * M))).ne'
  field_simp

/-- The same over the extended reals, of reals. -/
theorem softmax_eq {ι : Type*} [Fintype ι] [Nonempty ι] {w t s : ι → EReal} {B : EReal} (a : ℝ) (ha : 0 < a) (hB : IsR B) (hw : ∀ k, IsR (w k))
    (hs : ∀ k, ∃ r : ℝ, s k = (r : EReal) ∧ t k = (((Real.sqrt a)⁻¹ * (Real.log 2)⁻¹ * r : ℝ) : EReal)) :
    (∑ k, w k * Ideal.exp2 (t k - B)) * Ideal.div 1 (∑ k, 1 * Ideal.exp2 (t k - B))
      = ∑ k, w k * Ideal.div (Ideal.exp (Ideal.div (s k) (Ideal.sqrt (a : EReal)) - max (Ideal.ofBits .f32 0xFF800000#32) (Finset.univ.fold max (Ideal.ofBits .f32 0xFF800000#32) fun k => Ideal.div (s k) (Ideal.sqrt (a : EReal)))))
          (∑ k', Ideal.exp (Ideal.div (s k') (Ideal.sqrt (a : EReal)) - max (Ideal.ofBits .f32 0xFF800000#32) (Finset.univ.fold max (Ideal.ofBits .f32 0xFF800000#32) fun k => Ideal.div (s k) (Ideal.sqrt (a : EReal))))) := by
  have hq : Real.sqrt a ≠ 0 := (Real.sqrt_pos.mpr ha).ne'
  choose r hr ht using hs
  choose y hy using hw
  obtain ⟨M, rfl⟩ := hB
  have hd : ∀ k, Ideal.div (s k) (Ideal.sqrt (a : EReal)) = ((r k * (1 / Real.sqrt a) : ℝ) : EReal) := by
    intro k
    rw [hr, Ideal.sqrt_coe, if_neg ha.le.not_gt, Ideal.div_coe hq, EReal.coe_mul]
  obtain ⟨x, hx⟩ := isR_fold (f := fun k => Ideal.div (s k) (Ideal.sqrt (a : EReal))) fun k => ⟨_, hd k⟩
  rw [hx, bits_bot, max_eq_right bot_le]
  have ht' : ∀ k, t k - (M : EReal) = ((r k * (1 / Real.sqrt a) * (Real.log 2)⁻¹ - M : ℝ) : EReal) := by
    intro k
    rw [ht, ← EReal.coe_sub]
    congr 2
    rw [one_div]
    ring
  have hpos : 0 < ∑ k, Real.rpow 2 (r k * (1 / Real.sqrt a) * (Real.log 2)⁻¹ - M) := Finset.sum_pos (fun k _ => Real.rpow_pos_of_pos (by norm_num) _) Finset.univ_nonempty
  have hpos' : 0 < ∑ k, Real.exp (r k * (1 / Real.sqrt a) - x) := Finset.sum_pos (fun k _ => Real.exp_pos _) Finset.univ_nonempty
  have e1 : (∑ k, w k * Ideal.exp2 (t k - (M : EReal))) = ((∑ k, y k * Real.rpow 2 (r k * (1 / Real.sqrt a) * (Real.log 2)⁻¹ - M) : ℝ) : EReal) := by
    rw [coe_sum]
    exact Finset.sum_congr rfl fun k _ => by rw [hy, ht', Ideal.exp2_coe, EReal.coe_mul]
  have e2 : (∑ k, 1 * Ideal.exp2 (t k - (M : EReal))) = ((∑ k, Real.rpow 2 (r k * (1 / Real.sqrt a) * (Real.log 2)⁻¹ - M) : ℝ) : EReal) := by
    rw [coe_sum]
    exact Finset.sum_congr rfl fun k _ => by rw [one_mul, ht', Ideal.exp2_coe]
  have e3 : (∑ k', Ideal.exp (Ideal.div (s k') (Ideal.sqrt (a : EReal)) - (x : EReal))) = ((∑ k, Real.exp (r k * (1 / Real.sqrt a) - x) : ℝ) : EReal) := by
    rw [coe_sum]
    exact Finset.sum_congr rfl fun k _ => by rw [hd, ← EReal.coe_sub, Ideal.exp_coe]
  rw [e1, e2, e3, Ideal.div_coe hpos.ne']
  refine Eq.trans ?_ (Eq.trans (congrArg (fun z : ℝ => (z : EReal)) (softmaxR y (fun k => r k * (1 / Real.sqrt a)) x M).symm) ?_)
  · rw [EReal.coe_mul, EReal.coe_mul, EReal.coe_one]
  · rw [coe_sum]
    refine Finset.sum_congr rfl fun k _ => ?_
    rw [hy, hd, ← EReal.coe_sub, Ideal.exp_coe, Ideal.div_coe hpos'.ne', EReal.coe_mul, EReal.coe_mul]

end Cert.Layer

end
-- ==== Proof.RefValue.lean ====
/- The reference up to the rotated queries and keys, at an index. -/
module

public import proofs.«01_k».proof.Proof.Gen.ReferenceIdeal.Read
public import proofs.«01_k».proof.Proof.Spec

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Read Cert.Layer
variable (x0 : Vec Ideal S4x8192x1024 .f32) (x1 : Vec Ideal S4x8192 .i32) (x2 : Vec Ideal S16x1024 .f32) (x3 : Vec Ideal S1x1024 .f32) (x4 : Vec Ideal S1x1024x1184 .f32) (x5 : Vec Ideal S1x384 .f32) (x6 : Vec Ideal S1x384x768 .f32) (x7 : Vec Ideal S1x256 .f32) (x8 : Vec Ideal S1x256x1024 .f32)

/-- The weights of the layer as the programs' arguments hold them. -/
def wts : Wts where
  g1 d := x3 (ix2 0 d)
  win d e := x4 (ix3 0 d e)
  gq d := x5 (ix2 0 d)
  wq d e := x6 (ix3 0 d e)
  gkv d := x7 (ix2 0 d)
  wkv d e := x8 (ix3 0 d e)

/-- The rows of the sequence, the meta tokens first, and their positions. -/
def hrow (b : Fin 4) (t : Fin 8208) (d : Fin 1024) : EReal :=
  if h : t.val < 16 then x2 (ix2 ⟨t.val, h⟩ d) else x0 (ix3 b ⟨t.val - 16, by omega⟩ d)
def hpos (b : Fin 4) (t : Fin 8208) : BitVec 32 :=
  if h : t.val < 16 then BitVec.ofNat 32 t.val else x1 (ix2 b ⟨t.val - 16, by omega⟩) + 16#32

theorem cat_rows (m : FVec Ideal S4x16x1024 .f32) (x : FVec Ideal S4x8192x1024 .f32) (b : Fin 4) (t : Fin 8208) (d : Fin 1024) :
    concatenate S4x8208x1024 1 [⟨S4x16x1024, m⟩, ⟨S4x8192x1024, x⟩] concatenates_S4x16x1024_S4x8192x1024_S4x8208x1024_d1 (ix3 b t d)
      = if h : t.val < 16 then m (ix3 b ⟨t.val, h⟩ d) else x (ix3 b ⟨t.val - 16, by omega⟩ d) := by
  pointwise

theorem cat_pos (m : IVec S4x16 32) (x : IVec S4x8192 32) (b : Fin 4) (t : Fin 8208) :
    concatenate S4x8208 1 [⟨S4x16, m⟩, ⟨S4x8192, x⟩] concatenates_S4x16_S4x8192_S4x8208_d1 (ix2 b t)
      = if h : t.val < 16 then m (ix2 b ⟨t.val, h⟩) else x (ix2 b ⟨t.val - 16, by omega⟩) := by
  pointwise

theorem cat_q (m x : FVec Ideal S4x8208x8x16 .f32) (b : Fin 4) (t : Fin 8208) (h : Fin 8) (d : Fin 32) :
    concatenate S4x8208x8x32 3 [⟨S4x8208x8x16, m⟩, ⟨S4x8208x8x16, x⟩] concatenates_S4x8208x8x16_S4x8208x8x16_S4x8208x8x32_d3 (ix4 b t h d)
      = if hd : d.val < 16 then m (ix4 b t h ⟨d.val, hd⟩) else x (ix4 b t h ⟨d.val - 16, by omega⟩) := by
  pointwise

theorem cat_k (m x : FVec Ideal S4x8208x16 .f32) (b : Fin 4) (t : Fin 8208) (d : Fin 32) :
    concatenate S4x8208x32 2 [⟨S4x8208x16, m⟩, ⟨S4x8208x16, x⟩] concatenates_S4x8208x16_S4x8208x16_S4x8208x32_d2 (ix3 b t d)
      = if hd : d.val < 16 then m (ix3 b t ⟨d.val, hd⟩) else x (ix3 b t ⟨d.val - 16, by omega⟩) := by
  pointwise

theorem v2_at (i : S4x8208x1024.Idx) : (val_main_v2 (F := Ideal) x0 x2) i = hrow x0 x2 (i 0) (i 1) (i 2) := by
  obtain ⟨b, t, d, rfl⟩ : ∃ (b : Fin 4) (t : Fin 8208) (d : Fin 1024), i = ix3 b t d := ⟨i 0, i 1, i 2, eq_ix3 i⟩
  refine (cat_rows _ _ b t d).trans ?_
  show _ = hrow x0 x2 b t d
  unfold hrow
  simp only [val_main_v0_apply, val_main_v1_apply]
  split
  · refine congrArg x2 (funext fun a => ?_)
    match a with
    | ⟨0, _⟩ => rfl
    | ⟨1, _⟩ => rfl
  · rfl

theorem v7_at (i : S4x8208.Idx) : (val_main_v7 (F := Ideal) x1) i = hpos x1 (i 0) (i 1) := by
  obtain ⟨b, t, rfl⟩ : ∃ (b : Fin 4) (t : Fin 8208), i = ix2 b t := ⟨i 0, i 1, eq_ix2 i⟩
  refine (cat_pos _ _ b t).trans ?_
  show _ = hpos x1 b t
  unfold hpos
  simp only [val_main_v3_apply, val_main_v4_apply, val_main_v5_apply, val_main_v6_apply, val_main_c_apply]
  rfl

theorem v18_at (i : S16.Idx) : (val_main_v18 (F := Ideal)) i = freq (i 0) := by
  simp only [val_main_v18_apply, val_main_v17_apply, val_main_v16_apply, val_main_v15_apply, val_main_v14_apply, val_main_v13_apply, val_main_v12_apply, val_main_v11_apply, val_main_v10_apply, val_main_v9_apply, val_main_cst_apply, val_main_cst_0_apply, val_main_cst_1_apply, val_main_cst_2_apply, val_main_cst_3_apply]
  unfold val_main_v8 freq
  rfl

theorem v25_at (i : S4x8208x16.Idx) : (val_main_v25 (F := Ideal) x1) i = cosT (hpos x1 (i 0) (i 1)) (i 2) := by
  simp only [val_main_v25_apply, val_main_v24_apply, val_main_v23_apply, val_main_v22_apply, val_main_v21_apply, val_main_v20_apply, val_main_v19_apply, v18_at, v7_at]
  rfl

theorem v26_at (i : S4x8208x16.Idx) : (val_main_v26 (F := Ideal) x1) i = sinT (hpos x1 (i 0) (i 1)) (i 2) := by
  simp only [val_main_v26_apply, val_main_v24_apply, val_main_v23_apply, val_main_v22_apply, val_main_v21_apply, val_main_v20_apply, val_main_v19_apply, v18_at, v7_at]
  rfl

theorem v40_at (i : S4x8208x1024.Idx) : (val_main_v40 (F := Ideal) x0 x2 x3) i = xn (wts x3 x4 x5 x6 x7 x8) (hrow x0 x2 (i 0) (i 1)) (i 2) := by
  simp only [val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_cst_4_apply, val_main_cst_5_apply, val_main_cst_6_apply, v2_at, Ideal.ofBits_def, Ideal.ofBits_zero_f32, zero_add]
  refine congrArg (_ * ·) (congrArg x3 (funext fun a => ?_))
  match a with
  | ⟨0, _⟩ => rfl
  | ⟨1, _⟩ => exact Fin.ext (Nat.mod_eq_of_lt (i 2).isLt)

theorem v42_at (i : S4x8208x1184.Idx) : (val_main_v42 (F := Ideal) x0 x2 x3 x4) i = pr (wts x3 x4 x5 x6 x7 x8) (hrow x0 x2 (i 0) (i 1)) (i 2) := by
  simp only [val_main_v42_apply, val_main_v41_apply, v40_at x0 x2 x3 x4 x5 x6 x7 x8]
  refine Finset.sum_congr rfl fun k _ => congrArg (_ * ·) (congrArg x4 (funext fun a => Fin.ext ?_))
  match a with
  | ⟨0, _⟩ => rfl
  | ⟨1, _⟩ => have h2 : (i 2).val < 1184 := (i 2).isLt; show (k.val * 1184 + (i 2).val) / 1184 % 1024 = k.val; omega
  | ⟨2, _⟩ => have h2 : (i 2).val < 1184 := (i 2).isLt; show (k.val * 1184 + (i 2).val) % 1184 = (i 2).val; omega

theorem v59_at (i : S4x8208x384.Idx) : (val_main_v59 (F := Ideal) x0 x2 x3 x4 x5) i = qlat (wts x3 x4 x5 x6 x7 x8) (hrow x0 x2 (i 0) (i 1)) (i 2) := by
  simp only [val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v43_apply, val_main_cst_7_apply, val_main_cst_8_apply, val_main_cst_9_apply, v42_at x0 x2 x3 x4 x5 x6 x7 x8, Ideal.ofBits_def, Ideal.ofBits_zero_f32, zero_add]
  refine congrArg₂ (· * ·) (congrArg₂ (· * ·) rfl ?_) (congrArg x5 (funext fun a => ?_))
  · rfl
  · match a with
    | ⟨0, _⟩ => rfl
    | ⟨1, _⟩ => exact Fin.ext (Nat.mod_eq_of_lt (i 2).isLt)

theorem v62_at (i : S4x8208x8x96.Idx) : (val_main_v62 (F := Ideal) x0 x2 x3 x4 x5 x6) i = qry (wts x3 x4 x5 x6 x7 x8) (hrow x0 x2 (i 0) (i 1)) ⟨(i 2).val * 96 + (i 3).val, by have h2 : (i 2).val < 8 := (i 2).isLt; have h3 : (i 3).val < 96 := (i 3).isLt; omega⟩ := by
  obtain ⟨b, t, h, d, rfl⟩ : ∃ (b : Fin 4) (t : Fin 8208) (h : Fin 8) (d : Fin 96), i = ix4 b t h d := ⟨i 0, i 1, i 2, i 3, eq_ix4 i⟩
  have hb := b.isLt
  have ht := t.isLt
  have hh := h.isLt
  have hd := d.isLt
  simp only [val_main_v62_apply, val_main_v61_apply, val_main_v60_apply, v59_at x0 x2 x3 x4 x5 x6 x7 x8]
  refine Finset.sum_congr rfl fun k _ => congrArg₂ (· * ·) ?_ (congrArg x6 (funext fun a => Fin.ext ?_))
  · refine congrArg₂ (fun v (k : Fin 384) => qlat (wts x3 x4 x5 x6 x7 x8) v k) (congrArg₂ (hrow x0 x2) (Fin.ext ?_) (Fin.ext ?_)) rfl
    · show (((b.val * 8208 + t.val) * 8 + h.val) * 96 + d.val) / 6303744 = b.val
      omega
    · show (((b.val * 8208 + t.val) * 8 + h.val) * 96 + d.val) / 768 % 8208 = t.val
      omega
  · match a with
    | ⟨0, _⟩ => rfl
    | ⟨1, _⟩ =>
      show (k.val * 768 + (((b.val * 8208 + t.val) * 8 + h.val) * 96 + d.val) % 768) / 768 % 384 = k.val
      omega
    | ⟨2, _⟩ =>
      show (k.val * 768 + (((b.val * 8208 + t.val) * 8 + h.val) * 96 + d.val) % 768) % 768 = h.val * 96 + d.val
      omega

theorem v64_at (i : S4x8208x8x32.Idx) : (val_main_v64 (F := Ideal) x0 x2 x3 x4 x5 x6) i = qry (wts x3 x4 x5 x6 x7 x8) (hrow x0 x2 (i 0) (i 1)) ⟨(i 2).val * 96 + (64 + (i 3).val), by have h2 : (i 2).val < 8 := (i 2).isLt; have h3 : (i 3).val < 32 := (i 3).isLt; omega⟩ := by
  rw [val_main_v64_apply, v62_at x0 x2 x3 x4 x5 x6 x7 x8]
  rfl

theorem v73_at (b : Fin 4) (t : Fin 8208) (h : Fin 8) (d : Fin 16) : (val_main_v73 (F := Ideal) x0 x1 x2 x3 x4 x5 x6) (ix4 b t h d) =
    qry (wts x3 x4 x5 x6 x7 x8) (hrow x0 x2 b t) ⟨h.val * 96 + (64 + d.val), by omega⟩ * cosT (hpos x1 b t) d
      - qry (wts x3 x4 x5 x6 x7 x8) (hrow x0 x2 b t) ⟨h.val * 96 + (64 + (16 + d.val)), by omega⟩ * sinT (hpos x1 b t) d := by
  have e1 : (val_main_v67 (F := Ideal) x0 x2 x3 x4 x5 x6) (ix4 b t h d) = qry (wts x3 x4 x5 x6 x7 x8) (hrow x0 x2 b t) ⟨h.val * 96 + (64 + d.val), by omega⟩ := by
    rw [val_main_v67_apply, v64_at x0 x2 x3 x4 x5 x6 x7 x8]
    rfl
  have e2 : (val_main_v68 (F := Ideal) x0 x2 x3 x4 x5 x6) (ix4 b t h d) = qry (wts x3 x4 x5 x6 x7 x8) (hrow x0 x2 b t) ⟨h.val * 96 + (64 + (16 + d.val)), by omega⟩ := by
    rw [val_main_v68_apply, v64_at x0 x2 x3 x4 x5 x6 x7 x8]
    rfl
  have e3 : (val_main_v69 (F := Ideal) x1) (ix4 b t h d) = cosT (hpos x1 b t) d := by
    rw [val_main_v69_apply, val_main_v65_apply, v25_at]
    rfl
  have e4 : (val_main_v71 (F := Ideal) x1) (ix4 b t h d) = sinT (hpos x1 b t) d := by
    rw [val_main_v71_apply, val_main_v66_apply, v26_at]
    rfl
  rw [val_main_v73_apply, val_main_v70_apply, val_main_v72_apply, e1, e2, e3, e4]
  rfl

theorem v78_at (b : Fin 4) (t : Fin 8208) (h : Fin 8) (d : Fin 16) : (val_main_v78 (F := Ideal) x0 x1 x2 x3 x4 x5 x6) (ix4 b t h d) =
    qry (wts x3 x4 x5 x6 x7 x8) (hrow x0 x2 b t) ⟨h.val * 96 + (64 + d.val), by omega⟩ * sinT (hpos x1 b t) d
      + qry (wts x3 x4 x5 x6 x7 x8) (hrow x0 x2 b t) ⟨h.val * 96 + (64 + (16 + d.val)), by omega⟩ * cosT (hpos x1 b t) d := by
  have e1 : (val_main_v67 (F := Ideal) x0 x2 x3 x4 x5 x6) (ix4 b t h d) = qry (wts x3 x4 x5 x6 x7 x8) (hrow x0 x2 b t) ⟨h.val * 96 + (64 + d.val), by omega⟩ := by
    rw [val_main_v67_apply, v64_at x0 x2 x3 x4 x5 x6 x7 x8]
    rfl
  have e2 : (val_main_v68 (F := Ideal) x0 x2 x3 x4 x5 x6) (ix4 b t h d) = qry (wts x3 x4 x5 x6 x7 x8) (hrow x0 x2 b t) ⟨h.val * 96 + (64 + (16 + d.val)), by omega⟩ := by
    rw [val_main_v68_apply, v64_at x0 x2 x3 x4 x5 x6 x7 x8]
    rfl
  have e3 : (val_main_v76 (F := Ideal) x1) (ix4 b t h d) = cosT (hpos x1 b t) d := by
    rw [val_main_v76_apply, val_main_v65_apply, v25_at]
    rfl
  have e4 : (val_main_v74 (F := Ideal) x1) (ix4 b t h d) = sinT (hpos x1 b t) d := by
    rw [val_main_v74_apply, val_main_v66_apply, v26_at]
    rfl
  rw [val_main_v78_apply, val_main_v75_apply, val_main_v77_apply, e1, e2, e3, e4]
  rfl

theorem v79_at (b : Fin 4) (t : Fin 8208) (h : Fin 8) (d : Fin 32) : (val_main_v79 (F := Ideal) x0 x1 x2 x3 x4 x5 x6) (ix4 b t h d) = qr (wts x3 x4 x5 x6 x7 x8) (hrow x0 x2 b t) (hpos x1 b t) h d := by
  unfold val_main_v79
  refine (cat_q _ _ b t h d).trans ?_
  unfold qr rot
  refine dite_congr rfl (fun hd => ?_) (fun hd => ?_)
  · rw [v73_at x0 x1 x2 x3 x4 x5 x6 x7 x8]
  · rw [v78_at x0 x1 x2 x3 x4 x5 x6 x7 x8]
    refine congrArg₂ (· + ·) rfl (congrArg₂ (· * ·) (congrArg (qry (wts x3 x4 x5 x6 x7 x8) _) (Fin.ext ?_)) rfl)
    show h.val * 96 + (64 + (16 + (d.val - 16))) = h.val * 96 + (64 + d.val)
    omega

theorem v93_at (i : S4x8208x256.Idx) : (val_main_v93 (F := Ideal) x0 x2 x3 x4 x7) i = kvlat (wts x3 x4 x5 x6 x7 x8) (hrow x0 x2 (i 0) (i 1)) (i 2) := by
  simp only [val_main_v93_apply, val_main_v92_apply, val_main_v91_apply, val_main_v90_apply, val_main_v89_apply, val_main_v88_apply, val_main_v87_apply, val_main_v86_apply, val_main_v85_apply, val_main_v84_apply, val_main_v83_apply, val_main_v82_apply, val_main_v81_apply, val_main_v80_apply, val_main_v44_apply, val_main_cst_10_apply, val_main_cst_11_apply, val_main_cst_12_apply, v42_at x0 x2 x3 x4 x5 x6 x7 x8, Ideal.ofBits_def, Ideal.ofBits_zero_f32, zero_add]
  refine congrArg₂ (· * ·) (congrArg₂ (· * ·) rfl ?_) (congrArg x7 (funext fun a => ?_))
  · rfl
  · match a with
    | ⟨0, _⟩ => rfl
    | ⟨1, _⟩ => exact Fin.ext (Nat.mod_eq_of_lt (i 2).isLt)

theorem v96_at (i : S4x8208x8x128.Idx) : (val_main_v96 (F := Ideal) x0 x2 x3 x4 x7 x8) i = kv (wts x3 x4 x5 x6 x7 x8) (hrow x0 x2 (i 0) (i 1)) ⟨(i 2).val * 128 + (i 3).val, by have h2 : (i 2).val < 8 := (i 2).isLt; have h3 : (i 3).val < 128 := (i 3).isLt; omega⟩ := by
  obtain ⟨b, t, h, d, rfl⟩ : ∃ (b : Fin 4) (t : Fin 8208) (h : Fin 8) (d : Fin 128), i = ix4 b t h d := ⟨i 0, i 1, i 2, i 3, eq_ix4 i⟩
  have hb := b.isLt
  have ht := t.isLt
  have hh := h.isLt
  have hd := d.isLt
  simp only [val_main_v96_apply, val_main_v95_apply, val_main_v94_apply, v93_at x0 x2 x3 x4 x5 x6 x7 x8]
  refine Finset.sum_congr rfl fun k _ => congrArg₂ (· * ·) ?_ (congrArg x8 (funext fun a => Fin.ext ?_))
  · refine congrArg₂ (fun v (k : Fin 256) => kvlat (wts x3 x4 x5 x6 x7 x8) v k) (congrArg₂ (hrow x0 x2) (Fin.ext ?_) (Fin.ext ?_)) rfl
    · show (((b.val * 8208 + t.val) * 8 + h.val) * 128 + d.val) / 8404992 = b.val
      omega
    · show (((b.val * 8208 + t.val) * 8 + h.val) * 128 + d.val) / 1024 % 8208 = t.val
      omega
  · match a with
    | ⟨0, _⟩ => rfl
    | ⟨1, _⟩ =>
      show (k.val * 1024 + (((b.val * 8208 + t.val) * 8 + h.val) * 128 + d.val) % 1024) / 1024 % 256 = k.val
      omega
    | ⟨2, _⟩ =>
      show (k.val * 1024 + (((b.val * 8208 + t.val) * 8 + h.val) * 128 + d.val) % 1024) % 1024 = h.val * 128 + d.val
      omega

theorem v107_at (i : S4x8208x32.Idx) : (val_main_v107 (F := Ideal) x0 x1 x2 x3 x4) i = kr (wts x3 x4 x5 x6 x7 x8) (hrow x0 x2 (i 0) (i 1)) (hpos x1 (i 0) (i 1)) (i 2) := by
  obtain ⟨b, t, d, rfl⟩ : ∃ (b : Fin 4) (t : Fin 8208) (d : Fin 32), i = ix3 b t d := ⟨i 0, i 1, i 2, eq_ix3 i⟩
  refine (cat_k _ _ b t d).trans ?_
  show _ = kr (wts x3 x4 x5 x6 x7 x8) (hrow x0 x2 b t) (hpos x1 b t) d
  unfold kr rot
  simp only [val_main_v45_apply, val_main_v99_apply, val_main_v100_apply, val_main_v101_apply, val_main_v102_apply, val_main_v103_apply, val_main_v104_apply, val_main_v105_apply, val_main_v106_apply, v42_at x0 x2 x3 x4 x5 x6 x7 x8, v25_at, v26_at]
  split
  · rfl
  · rename_i hd
    refine congrArg₂ (· + ·) rfl (congrArg₂ (· * ·) (congrArg (pr (wts x3 x4 x5 x6 x7 x8) _) (Fin.ext ?_)) rfl)
    show 640 + (16 + (d.val - 16)) = 640 + d.val
    omega

end Cert.ReferenceIdeal.Value

end
-- ==== Proof.RefScore.lean ====
/- The reference from the scores to its result, at an index. -/
module

public import proofs.«01_k».proof.Proof.RefValue

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Read Cert.Layer
variable (x0 : Vec Ideal S4x8192x1024 .f32) (x1 : Vec Ideal S4x8192 .i32) (x2 : Vec Ideal S16x1024 .f32) (x3 : Vec Ideal S1x1024 .f32) (x4 : Vec Ideal S1x1024x1184 .f32) (x5 : Vec Ideal S1x384 .f32) (x6 : Vec Ideal S1x384x768 .f32) (x7 : Vec Ideal S1x256 .f32) (x8 : Vec Ideal S1x256x1024 .f32)

theorem v108_at (b : Fin 4) (h : Fin 8) (q k : Fin 8208) :
    (val_main_v108 (F := Ideal) x0 x2 x3 x4 x5 x6 x7 x8) (ix4 b h q k) = ∑ d, qn (wts x3 x4 x5 x6 x7 x8) (hrow x0 x2 b q) h d * kn (wts x3 x4 x5 x6 x7 x8) (hrow x0 x2 b k) h d := by
  rw [val_main_v108_apply]
  refine Finset.sum_congr rfl fun d _ => congrArg₂ (· * ·) ?_ ?_
  · rw [val_main_v63_apply, v62_at x0 x2 x3 x4 x5 x6 x7 x8]
    rfl
  · rw [val_main_v97_apply, v96_at x0 x2 x3 x4 x5 x6 x7 x8]
    rfl

theorem v110_at (b : Fin 4) (h : Fin 8) (q k : Fin 8208) :
    (val_main_v110 (F := Ideal) x0 x1 x2 x3 x4 x5 x6) (ix4 b h q k) = ∑ d, qr (wts x3 x4 x5 x6 x7 x8) (hrow x0 x2 b q) (hpos x1 b q) h d * kr (wts x3 x4 x5 x6 x7 x8) (hrow x0 x2 b k) (hpos x1 b k) d := by
  rw [val_main_v110_apply, val_main_v109_apply]
  refine Finset.sum_congr rfl fun d _ => (congrArg₂ (· * ·) ?_ ?_).trans (mul_comm _ _)
  · exact v107_at x0 x1 x2 x3 x4 x5 x6 x7 x8 _
  · exact (congrArg _ (eq_ix4 _)).trans (v79_at x0 x1 x2 x3 x4 x5 x6 x7 x8 b q h d)

theorem v111_at (b : Fin 4) (h : Fin 8) (q k : Fin 8208) :
    (val_main_v111 (F := Ideal) x0 x1 x2 x3 x4 x5 x6 x7 x8) (ix4 b h q k) = score (wts x3 x4 x5 x6 x7 x8) (hrow x0 x2 b q) (hpos x1 b q) (hrow x0 x2 b k) (hpos x1 b k) h := by
  rw [val_main_v111_apply, v108_at x0 x2 x3 x4 x5 x6 x7 x8, v110_at x0 x1 x2 x3 x4 x5 x6 x7 x8]
  rfl

/-- The scaled score. -/
def sc (b : Fin 4) (h : Fin 8) (q k : Fin 8208) : EReal :=
  Ideal.div (score (wts x3 x4 x5 x6 x7 x8) (hrow x0 x2 b q) (hpos x1 b q) (hrow x0 x2 b k) (hpos x1 b k) h) (Ideal.sqrt (Ideal.ofBits .f32 0x42C00000#32))

theorem v114_at (b : Fin 4) (h : Fin 8) (q k : Fin 8208) : (val_main_v114 (F := Ideal) x0 x1 x2 x3 x4 x5 x6 x7 x8) (ix4 b h q k) = sc x0 x1 x2 x3 x4 x5 x6 x7 x8 b h q k := by
  rw [val_main_v114_apply, v111_at, val_main_v113_apply, val_main_v112_apply, val_main_cst_13_apply]
  rfl

/-- The maximum a row of scores is shifted by. -/
def mx (b : Fin 4) (h : Fin 8) (q : Fin 8208) : EReal :=
  max (Ideal.ofBits .f32 0xFF800000#32) (Finset.univ.fold max (Ideal.ofBits .f32 0xFF800000#32) (fun k => sc x0 x1 x2 x3 x4 x5 x6 x7 x8 b h q k))

theorem red_max (y : FVec Ideal S4x8x8208x8208 .f32) (z : FVec Ideal S_ .f32) (b : Fin 4) (h : Fin 8) (q : Fin 8208) :
    Host.reduce FloatOps.maximumf y z reducesTo_S4x8x8208x8208_S4x8x8208_d3 h_S_ (ix3 b h q)
      = Finset.univ.fold max (z (Shape.Idx.first h_S_)) (fun k : Fin 8208 => y (ix4 b h q k)) := by
  pointwise

theorem v117_at (b : Fin 4) (h : Fin 8) (q : Fin 8208) : (val_main_v117 (F := Ideal) x0 x1 x2 x3 x4 x5 x6 x7 x8) (ix3 b h q) = mx x0 x1 x2 x3 x4 x5 x6 x7 x8 b h q := by
  rw [val_main_v117_apply, val_main_v116_apply, val_main_cst_15_apply]
  unfold val_main_v115
  rw [red_max]
  simp only [v114_at]
  rfl

theorem v121_at (b : Fin 4) (h : Fin 8) (q k : Fin 8208) : (val_main_v121 (F := Ideal) x0 x1 x2 x3 x4 x5 x6 x7 x8) (ix4 b h q k) = Ideal.exp (sc x0 x1 x2 x3 x4 x5 x6 x7 x8 b h q k - mx x0 x1 x2 x3 x4 x5 x6 x7 x8 b h q) := by
  rw [val_main_v121_apply, val_main_v120_apply, v114_at, val_main_v119_apply, val_main_v118_apply]
  have e : idx_main_v118 (idx_main_v119 (ix4 b h q k)) = ix3 b h q := eq_ix3 _
  rw [e, v117_at]
  rfl

theorem v125_at (b : Fin 4) (h : Fin 8) (q k : Fin 8208) :
    (val_main_v125 (F := Ideal) x0 x1 x2 x3 x4 x5 x6 x7 x8) (ix4 b h q k) = Ideal.div (Ideal.exp (sc x0 x1 x2 x3 x4 x5 x6 x7 x8 b h q k - mx x0 x1 x2 x3 x4 x5 x6 x7 x8 b h q)) (∑ k' : Fin 8208, Ideal.exp (sc x0 x1 x2 x3 x4 x5 x6 x7 x8 b h q k' - mx x0 x1 x2 x3 x4 x5 x6 x7 x8 b h q)) := by
  rw [val_main_v125_apply, v121_at, val_main_v124_apply, val_main_v123_apply, val_main_v122_apply]
  have e : ∀ k', idx_main_v122 (idx_main_v123 (idx_main_v124 (ix4 b h q k))) k' = ix4 b h q k' := fun k' => eq_ix4 _
  simp only [e, v121_at, val_main_cst_16_apply, Ideal.ofBits_def, Ideal.ofBits_zero_f32, zero_add]
  rfl

/-- The reference's result at an index. -/
theorem v129_at (b : Fin 4) (q : Fin 8192) (c : Fin 512) :
    (val_main_v129 (F := Ideal) x0 x1 x2 x3 x4 x5 x6 x7 x8) (ix3 b q c) = ∑ k : Fin 8208, vl (wts x3 x4 x5 x6 x7 x8) (hrow x0 x2 b k) ⟨c.val / 64, by omega⟩ ⟨c.val % 64, by omega⟩
      * Ideal.div (Ideal.exp (sc x0 x1 x2 x3 x4 x5 x6 x7 x8 b ⟨c.val / 64, by omega⟩ ⟨16 + q.val, by omega⟩ k - mx x0 x1 x2 x3 x4 x5 x6 x7 x8 b ⟨c.val / 64, by omega⟩ ⟨16 + q.val, by omega⟩))
          (∑ k' : Fin 8208, Ideal.exp (sc x0 x1 x2 x3 x4 x5 x6 x7 x8 b ⟨c.val / 64, by omega⟩ ⟨16 + q.val, by omega⟩ k' - mx x0 x1 x2 x3 x4 x5 x6 x7 x8 b ⟨c.val / 64, by omega⟩ ⟨16 + q.val, by omega⟩)) := by
  rw [val_main_v129_apply, val_main_v128_apply, val_main_v127_apply, val_main_v126_apply]
  have hb := b.isLt
  have hq := q.isLt
  have hc := c.isLt
  refine Finset.sum_congr rfl fun k _ => congrArg₂ (· * ·) ?_ ?_
  · rw [val_main_v98_apply, v96_at x0 x2 x3 x4 x5 x6 x7 x8]
    refine congrArg₂ (fun (b : Fin 4) (e : Fin 1024) => kv (wts x3 x4 x5 x6 x7 x8) (hrow x0 x2 b k) e) (Fin.ext ?_) (Fin.ext ?_)
    · show ((b.val * 8208 + (16 + q.val)) * 512 + c.val) / 4202496 = b.val
      omega
    · show (((b.val * 8208 + (16 + q.val)) * 512 + c.val) / 64 % 8) * 128 + (64 + ((b.val * 8208 + (16 + q.val)) * 512 + c.val) % 64) = c.val / 64 * 128 + (64 + c.val % 64)
      omega
  · refine Eq.trans (congrArg (val_main_v125 (F := Ideal) x0 x1 x2 x3 x4 x5 x6 x7 x8) (?_ : _ = ix4 b ⟨c.val / 64, by omega⟩ ⟨16 + q.val, by omega⟩ k)) (v125_at x0 x1 x2 x3 x4 x5 x6 x7 x8 b ⟨c.val / 64, by omega⟩ ⟨16 + q.val, by omega⟩ k)
    funext a
    match a with
    | ⟨0, _⟩ => exact Fin.ext (by show ((b.val * 8208 + (16 + q.val)) * 512 + c.val) / 4202496 = b.val; omega)
    | ⟨1, _⟩ => exact Fin.ext (by show ((b.val * 8208 + (16 + q.val)) * 512 + c.val) / 64 % 8 = c.val / 64; omega)
    | ⟨2, _⟩ => exact Fin.ext (by show ((b.val * 8208 + (16 + q.val)) * 512 + c.val) / 512 % 8208 = 16 + q.val; omega)
    | ⟨3, _⟩ => rfl

end Cert.ReferenceIdeal.Value

end
-- ==== Proof.Finite.lean ====
/- The precondition: every float argument the attention depends on holds reals. -/
module

public import proofs.«01_k».proof.Proof.Reals
public import proofs.«01_k».proof.Pre_finite
public import Idealize.ShloMosaic.Lib.ReduceAll
public import Idealize.ShloMosaic.Lib.Affine

@[expose] public section

set_option maxRecDepth 16384

noncomputable section

namespace Cert.Pre_finite

open Idealize.ShloMosaic Idealize.ShloMosaic.TcCoe Idealize.SL.Sem
open Cert.Pre_finite Cert.Layer

/-- A value whose absolute value lies below infinity is real. -/
theorem isR_of_lt {a : EReal} (h : Ideal.cmp .olt (max a (-a)) (Ideal.ofBits .f32 0x7F800000#32) = 1#1) : IsR a := by
  have ht : Ideal.ofBits .f32 0x7F800000#32 = (⊤ : EReal) := by simp [Ideal.ofBits, Ideal.ieee]
  rw [ht] at h
  induction a using EReal.rec with
  | coe r => exact ⟨r, rfl⟩
  | top => simp [Ideal.cmp] at h
  | bot => simp [Ideal.cmp] at h

/-- An array all of whose absolute values lie below infinity holds reals. -/
theorem isR_of_all {s : Shape} {axes : List (Fin s.rank)} (x : FVec Ideal s .f32) (hb : S_.BroadcastsInDim s (![] : Fin 0 → Fin s.rank)) (hr : s.ReducesTo axes S_) (hS : 0 < S_.numel)
    (j : S_.Idx) (h : Host.reduce IntOp.andi (cmpf .olt (Host.absf x) (broadcastInDim s ![] hb (constant S_ .f32 0x7F800000#32))) (constantI S_ 1 1#1) hr hS j = 1#1) (i : s.Idx) : IsR (x i) := by
  haveI : Subsingleton S_.Idx := ⟨fun a b => funext fun k => k.elim0⟩
  exact isR_of_lt (Host.reduce_andi_all _ _ hr hS j h i)

theorem andi_split {a b : IVec S_ 1} {j : S_.Idx} (h : andi a b j = 1#1) : a j = 1#1 ∧ b j = 1#1 := by
  exact IntOp.andi_eq_one.mp h

/-- What the precondition says: every float argument the attention depends on holds reals. -/
structure Reals (x0 : FVec Ideal S4x8192x1024 .f32) (x1 : IVec S4x8192 32) (x2 : FVec Ideal S16x1024 .f32) (x3 : FVec Ideal S1x1024 .f32) (x4 : FVec Ideal S1x1024x1184 .f32) (x5 : FVec Ideal S1x384 .f32) (x6 : FVec Ideal S1x384x768 .f32) (x7 : FVec Ideal S1x256 .f32) (x8 : FVec Ideal S1x256x1024 .f32) : Prop where
  r0 : ∀ i, IsR (x0 i)
  r2 : ∀ i, IsR (x2 i)
  r3 : ∀ i, IsR (x3 i)
  r4 : ∀ i, IsR (x4 i)
  r5 : ∀ i, IsR (x5 i)
  r6 : ∀ i, IsR (x6 i)
  r7 : ∀ i, IsR (x7 i)
  r8 : ∀ i, IsR (x8 i)

theorem reals_of [Facts] (x0 : FVec Ideal S4x8192x1024 .f32) (x1 : IVec S4x8192 32) (x2 : FVec Ideal S16x1024 .f32) (x3 : FVec Ideal S1x1024 .f32) (x4 : FVec Ideal S1x1024x1184 .f32) (x5 : FVec Ideal S1x384 .f32) (x6 : FVec Ideal S1x384x768 .f32) (x7 : FVec Ideal S1x256 .f32) (x8 : FVec Ideal S1x256x1024 .f32)
    (x9 : FVec Ideal S4x8192x512 .f32) (x10 : FVec Ideal S1x512x1024 .f32) (x11 : FVec Ideal S1x1024 .f32) (x12 : FVec Ideal S1x1024x1024 .f32) (x13 x14 : FVec Ideal S1x1024 .f32) (x15 : FVec Ideal S1x1024x4096 .f32) (x16 : FVec Ideal S1x4096x1024 .f32) (x17 : FVec Ideal S1x1024 .f32)
    (h : fn (F := Ideal) x0 x1 x2 x3 x4 x5 x6 x7 x8 x9 x10 x11 x12 x13 x14 x15 x16 x17 = fun _ => 1#1) : Reals x0 x1 x2 x3 x4 x5 x6 x7 x8 := by
  have h := congrFun h ix0
  dsimp only [fn, fn_part1, fn_part2] at h
  obtain ⟨h, h8⟩ := andi_split h
  obtain ⟨h, h7⟩ := andi_split h
  obtain ⟨h, h6⟩ := andi_split h
  obtain ⟨h, h5⟩ := andi_split h
  obtain ⟨h, h4⟩ := andi_split h
  obtain ⟨h, h3⟩ := andi_split h
  obtain ⟨h0, h2⟩ := andi_split h
  exact ⟨isR_of_all _ _ _ _ _ h0, isR_of_all _ _ _ _ _ h2, isR_of_all _ _ _ _ _ h3, isR_of_all _ _ _ _ _ h4, isR_of_all _ _ _ _ _ h5, isR_of_all _ _ _ _ _ h6,
    isR_of_all _ _ _ _ _ h7, isR_of_all _ _ _ _ _ h8⟩

end Cert.Pre_finite

end
-- ==== Proof.Final.lean ====
/- The kernel's result is the reference's: the softmax with the bound and powers of two is the softmax with the maximum. -/
module

public import proofs.«01_k».proof.Proof.Arr2
public import proofs.«01_k».proof.Proof.Reals
public import proofs.«01_k».proof.Proof.RefScore
public import proofs.«01_k».proof.Proof.Finite

@[expose] public section

set_option maxRecDepth 16384

noncomputable section

namespace Cert.KernelIdeal.Arr

open Idealize.ShloMosaic Idealize.ShloMosaic.TcCoe Idealize.SL.Sem
open Cert.KernelIdeal Cert.KernelIdeal.Gen Cert.Layer Cert.KernelIdeal.Host Cert.KernelIdeal.Attn

variable (A : Valuation τ sig (Elt Ideal))

/-- Key row `k` of batch `b`, the meta tokens first, and its position. -/
abbrev hr (b : Fin 4) (k : Fin 8208) : Fin 1024 → EReal := Cert.ReferenceIdeal.Value.hrow (r_arg0 A) (r_arg2 A) b k
abbrev hp (b : Fin 4) (k : Fin 8208) : BitVec 32 := Cert.ReferenceIdeal.Value.hpos (r_arg1 A) b k

/-- What the precondition gives: the weights, the sequence and the meta tokens are real. -/
structure RealA : Prop where
  w : RealW (Wt A)
  x : ∀ i, IsR (r_arg0 A i)
  m : ∀ i, IsR (r_arg2 A i)

theorem hr_meta (b : Fin 4) (t : Fin 128) (k : Fin 8208) (h : t.val < 16) (e : k.val = t.val) : hr A b k = mrow A t := by
  funext d
  have hk : k.val < 16 := e ▸ h
  unfold mrow
  rw [dif_pos h]
  refine (dif_pos hk).trans ?_
  exact congrArg (r_arg2 A) (congrArg (fun z => ix2 z d) (Fin.ext e))

theorem hr_seq (b : Fin 4) (j : Fin 8192) (k : Fin 8208) (e : k.val = 16 + j.val) : hr A b k = row A b j := by
  funext d
  have hk : ¬ k.val < 16 := by omega
  refine (dif_neg hk).trans ?_
  unfold row
  exact congrArg (r_arg0 A) (congrArg (fun z => ix3 b z d) (Fin.ext (by show k.val - 16 = j.val; omega)))

theorem hp_meta (b : Fin 4) (t : Fin 128) (k : Fin 8208) (h : t.val < 16) (e : k.val = t.val) : hp A b k = BitVec.ofNat 32 t.val := by
  have hk : k.val < 16 := e ▸ h
  refine (dif_pos hk).trans ?_
  rw [e]

theorem hp_seq (b : Fin 4) (j : Fin 8192) (k : Fin 8208) (e : k.val = 16 + j.val) : hp A b k = pos A b j := by
  have hk : ¬ k.val < 16 := by omega
  refine (dif_neg hk).trans ?_
  unfold pos
  exact congrArg (· + 16#32) (congrArg (r_arg1 A) (congrArg (fun z => ix2 b z) (Fin.ext (by show k.val - 16 = j.val; omega))))

variable {A}

theorem isR_hr (hA : RealA A) (b : Fin 4) (k : Fin 8208) (d : Fin 1024) : IsR (hr A b k d) := by
  show IsR (Cert.ReferenceIdeal.Value.hrow (r_arg0 A) (r_arg2 A) b k d)
  unfold Cert.ReferenceIdeal.Value.hrow
  split
  · exact hA.m _
  · exact hA.x _

theorem isR_row (hA : RealA A) (b : Fin 4) (j : Fin 8192) (d : Fin 1024) : IsR (row A b j d) := by
  exact hA.x _

theorem isR_mrow (hA : RealA A) (t : Fin 128) (d : Fin 1024) : IsR (mrow A t d) := by
  unfold mrow
  split
  · exact hA.m _
  · exact isR_zero

theorem scl_eq : scl = (((Real.sqrt 96)⁻¹ * (Real.log 2)⁻¹ : ℝ) : EReal) := by
  exact IdealRules.named_const.ideal_named_scalar _ _ _ _ rfl

theorem isR_ql (hA : RealA A) (b : Fin 4) (q : Fin 8192) (h : Fin 8) (l : Fin 128) : IsR (ql A b q h l) := by
  unfold ql
  rw [scl_eq]
  exact isR_qlane hA.w (isR_row hA b q) _ _ h l

theorem isR_kl (hA : RealA A) (b : Fin 4) (q : Fin 8192) (h : Fin 8) (l : Fin 128) : IsR (kl A b q h l) := by
  exact isR_klane hA.w (isR_row hA b q) _ h l

theorem isR_km (hA : RealA A) (t : Fin 128) (h : Fin 8) (l : Fin 128) : IsR (km A t h l) := by
  exact isR_klane hA.w (isR_mrow hA t) _ h l

theorem isR_vlane (hA : RealA A) {v : Fin 1024 → EReal} (hv : ∀ d, IsR (v d)) (h : Fin 8) (l : Fin 128) : IsR (vlane (Wt A) v h l) := by
  unfold vlane
  split
  · exact isR_kv hA.w hv _
  · split
    · exact isR_one
    · exact isR_zero

/-- The bound the kernel subtracts is real. -/
theorem isR_bnd (hA : RealA A) (b : Fin 4) (q : Fin 8192) (h : Fin 8) : IsR (bnd A b q h) := by
  have hk : ∀ t : Fin 128, IsR (∑ l : Fin 128, km A t h l * km A t h l) := fun t => isR_sum fun l => (isR_km hA t h l).mul (isR_km hA t h l)
  have h1 : IsR (Finset.univ.fold max (Ideal.ofBits .f32 0xFF800000#32) fun p : Fin 8 × Fin 1 × Fin 128 => ksq A b p.1 h) :=
    isR_fold fun p => isR_fold fun r => isR_sum fun l => (isR_kl hA b (tl p.1 r) h l).mul (isR_kl hA b (tl p.1 r) h l)
  have h2 : IsR (Finset.univ.fold max (Ideal.ofBits .f32 0xFF800000#32) fun t : Fin 128 => ∑ l : Fin 128, km A t h l * km A t h l) := isR_fold hk
  have h3 : (0 : EReal) ≤ Finset.univ.fold max (Ideal.ofBits .f32 0xFF800000#32) fun t : Fin 128 => ∑ l : Fin 128, km A t h l * km A t h l := by
    refine le_trans ?_ ((Finset.le_fold_max _).mpr (Or.inr ⟨(0 : Fin 128), Finset.mem_univ _, le_rfl⟩))
    refine Finset.sum_nonneg fun l _ => ?_
    obtain ⟨r, hr⟩ := isR_km hA 0 h l
    rw [hr, ← EReal.coe_mul]
    exact EReal.coe_nonneg.mpr (mul_self_nonneg r)
  unfold bnd
  refine IsR.mul (isR_norm fun l => isR_ql hA b q h l) (IsR.mul ?_ ⟨_, bits_mar⟩)
  obtain ⟨r, hr⟩ := h1.max h2
  have h0 : (0 : EReal) ≤ (r : EReal) := hr ▸ le_max_of_le_right h3
  rw [hr, Ideal.sqrt_coe, if_neg (not_lt.mpr (EReal.coe_nonneg.mp h0))]
  exact ⟨_, rfl⟩

/-- The padded meta keys beyond the sixteenth weigh nothing: the two sums are one, over the meta keys and the sequence. -/
theorem split_keys (g : Fin 128 → EReal) (f : Fin 8192 → EReal) (w : Fin 8208 → EReal) (h0 : ∀ k : Fin 128, ¬ k.val < 16 → g k = 0)
    (h1 : ∀ (k : Fin 128) (i : Fin 8208), k.val < 16 → i.val = k.val → g k = w i) (h2 : ∀ (j : Fin 8192) (i : Fin 8208), i.val = 16 + j.val → f j = w i) :
    (∑ k, g k) + ∑ j, f j = ∑ i, w i := by
  have e1 : ∑ k, g k = ∑ k : Fin 16, g (Fin.castAdd 112 k) + ∑ k : Fin 112, g (Fin.natAdd 16 k) := Fin.sum_univ_add (a := 16) (b := 112) g
  have e2 : ∑ i, w i = ∑ k : Fin 16, w (Fin.castAdd 8192 k) + ∑ k : Fin 8192, w (Fin.natAdd 16 k) := Fin.sum_univ_add (a := 16) (b := 8192) w
  have e3 : ∑ k : Fin 112, g (Fin.natAdd 16 k) = 0 := Finset.sum_eq_zero fun k _ => h0 _ (by rw [Fin.val_natAdd]; omega)
  rw [e1, e2, e3, add_zero]
  refine congrArg₂ (· + ·) (Finset.sum_congr rfl fun k _ => h1 _ _ ?_ rfl) (Finset.sum_congr rfl fun k _ => h2 _ _ rfl)
  exact k.isLt

/-- The kernel's score of query row `q` with key row `k`. -/
def kt (A : Valuation τ sig (Elt Ideal)) (b : Fin 4) (q : Fin 8192) (h : Fin 8) (k : Fin 8208) : EReal :=
  ∑ d : Fin 128, klane (Wt A) (hr A b k) (cosT (hp A b k)) (sinT (hp A b k)) h d * ql A b q h d

theorem hs_eq (hA : RealA A) (b : Fin 4) (q : Fin 8192) (h : Fin 8) (l : Fin 128) :
    hs A b q h l = ∑ k : Fin 8208, vlane (Wt A) (hr A b k) h l * Ideal.exp2 (kt A b q h k - bnd A b q h) := by
  obtain ⟨B, hB⟩ := isR_bnd hA b q h
  unfold hs
  refine split_keys _ _ _ (fun k hk => ?_) (fun k i hk hi => ?_) (fun j i hi => ?_)
  · unfold metaScore
    rw [if_neg hk, hB, EReal.bot_sub, Ideal.exp2_bot, mul_zero]
  · unfold metaScore kt vm km
    rw [if_pos hk, hr_meta A b k i hk hi, hp_meta A b k i hk hi]
  · unfold kt vv kl
    rw [hr_seq A b j i hi, hp_seq A b j i hi]

/-- The value lanes and the lane of ones. -/
theorem vlane_val (v : Fin 1024 → EReal) (h : Fin 8) (l : Fin 128) (d : Fin 64) (e : l.val = d.val) : vlane (Wt A) v h l = vl (Wt A) v h d := by
  have hl : l.val < 64 := by omega
  unfold vlane vl
  rw [dif_pos hl]
  exact congrArg (kv (Wt A) v) (Fin.ext (by show 128 * h.val + (64 + l.val) = h.val * 128 + (64 + d.val); omega))

theorem vlane_one (v : Fin 1024 → EReal) (h : Fin 8) : vlane (Wt A) v h 64 = 1 := by
  unfold vlane
  rw [dif_neg (by decide), if_pos (by decide)]

/-- The kernel's result is the softmax of the layer's scores, applied to its values. -/
theorem res_eq (hA : RealA A) (b : Fin 4) (q : Fin 8192) (e : Fin 512) :
    res A b q e = (Cert.ReferenceIdeal.Read.val_main_v129 (F := Ideal) (r_arg0 A) (r_arg1 A) (r_arg2 A) (r_arg3 A) (r_arg4 A) (r_arg5 A) (r_arg6 A) (r_arg7 A) (r_arg8 A)) (ix3 b q e) := by
  rw [Cert.ReferenceIdeal.Value.v129_at]
  unfold Cert.ReferenceIdeal.Value.mx Cert.ReferenceIdeal.Value.sc res
  rw [hs_eq hA, hs_eq hA, bits_96]
  simp only [vlane_one]
  haveI : Nonempty (Fin 8208) := ⟨0⟩
  have key := softmax_eq (ι := Fin 8208) (w := fun k => vlane (Wt A) (hr A b k) ⟨e.val / 64, by omega⟩ ⟨e.val % 64, by omega⟩)
    (t := fun k => kt A b q ⟨e.val / 64, by omega⟩ k)
    (s := fun k => score (Wt A) (hr A b ⟨16 + q.val, by omega⟩) (hp A b ⟨16 + q.val, by omega⟩) (hr A b k) (hp A b k) ⟨e.val / 64, by omega⟩)
    (B := bnd A b q ⟨e.val / 64, by omega⟩) 96 (by norm_num) (isR_bnd hA b q _) (fun k => isR_vlane hA (isR_hr hA b k) _ _) (fun k => by
      obtain ⟨r, h1, h2⟩ := dot_score hA.w (isR_hr hA b ⟨16 + q.val, by omega⟩) (isR_hr hA b k) (hp A b ⟨16 + q.val, by omega⟩) (hp A b k) ⟨e.val / 64, by omega⟩ ((Real.sqrt 96)⁻¹ * (Real.log 2)⁻¹)
      refine ⟨r, h1, Eq.trans ?_ h2⟩
      unfold kt ql
      rw [hr_seq A b q ⟨16 + q.val, by omega⟩ rfl, hp_seq A b q ⟨16 + q.val, by omega⟩ rfl, scl_eq])
  refine key.trans (Finset.sum_congr rfl fun k _ => ?_)
  exact congrArg₂ (· * ·) (vlane_val (hr A b k) ⟨e.val / 64, by omega⟩ ⟨e.val % 64, by omega⟩ ⟨e.val % 64, by omega⟩ rfl) rfl

theorem resG_eq (hA : RealA A) :
    resG A = Cert.ReferenceIdeal.Read.val_main_v129 (F := Ideal) (r_arg0 A) (r_arg1 A) (r_arg2 A) (r_arg3 A) (r_arg4 A) (r_arg5 A) (r_arg6 A) (r_arg7 A) (r_arg8 A) := by
  funext i
  have e : i = ix3 (n0 := 4) (n1 := 8192) (n2 := 512) (i 0) (i 1) (i 2) := by
    funext a
    match a with
    | ⟨0, _⟩ => rfl
    | ⟨1, _⟩ => rfl
    | ⟨2, _⟩ => rfl
  exact (res_eq hA (i 0) (i 1) (i 2)).trans (congrArg (Cert.ReferenceIdeal.Read.val_main_v129 (F := Ideal) (r_arg0 A) (r_arg1 A) (r_arg2 A) (r_arg3 A) (r_arg4 A) (r_arg5 A) (r_arg6 A) (r_arg7 A) (r_arg8 A)) e.symm)

/-- The arguments the precondition speaks of are real. -/
theorem real_of (hP : Cert.Pre_finite.Reals (r_arg0 A) (r_arg1 A) (r_arg2 A) (r_arg3 A) (r_arg4 A) (r_arg5 A) (r_arg6 A) (r_arg7 A) (r_arg8 A)) : RealA A := by
  exact ⟨⟨fun _ => hP.r3 _, fun _ _ => hP.r4 _, fun _ => hP.r5 _, fun _ _ => hP.r6 _, fun _ => hP.r7 _, fun _ _ => hP.r8 _⟩, hP.r0, hP.r2⟩

end Cert.KernelIdeal.Arr

end
-- ==== Proof.PostRef.lean ====
/- The reference after the attention, at an index. -/
module

public import proofs.«01_k».proof.Proof.Gen.ReferenceIdeal.Read
public import proofs.«01_k».proof.Proof.PostSpec

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Read Cert.Layer
variable (x0 : Vec Ideal S4x8192x1024 .f32) (x1 : Vec Ideal S4x8192 .i32) (x2 : Vec Ideal S16x1024 .f32) (x3 : Vec Ideal S1x1024 .f32) (x4 : Vec Ideal S1x1024x1184 .f32) (x5 : Vec Ideal S1x384 .f32) (x6 : Vec Ideal S1x384x768 .f32) (x7 : Vec Ideal S1x256 .f32) (x8 : Vec Ideal S1x256x1024 .f32) (x9 : Vec Ideal S4x8192x512 .f32) (x10 : Vec Ideal S1x512x1024 .f32) (x11 : Vec Ideal S1x1024 .f32) (x12 : Vec Ideal S1x1024x1024 .f32) (x13 x14 : Vec Ideal S1x1024 .f32) (x15 : Vec Ideal S1x1024x4096 .f32) (x16 : Vec Ideal S1x4096x1024 .f32) (x17 : Vec Ideal S1x1024 .f32)

/-- The weights after the attention as the programs' arguments hold them. -/
def pwts : PWts where
  wglu d e := x10 (ix3 0 d e)
  gmix d := x11 (ix2 0 d)
  wout d e := x12 (ix3 0 d e)
  gpm d := x13 (ix2 0 d)
  gpre d := x14 (ix2 0 d)
  wup d e := x15 (ix3 0 d e)
  wdn d e := x16 (ix3 0 d e)
  gpost d := x17 (ix2 0 d)

/-- The rows the rest of the layer starts from: the layer's, the attention's and the recurrence's. -/
def xrow (b : Fin 4) (t : Fin 8192) (d : Fin 1024) : EReal := x0 (ix3 b t d)
def arow (b : Fin 4) (t : Fin 8192) (d : Fin 512) : EReal := val_main_v129 (F := Ideal) x0 x1 x2 x3 x4 x5 x6 x7 x8 (ix3 b t d)
def yrow (b : Fin 4) (t : Fin 8192) (d : Fin 512) : EReal := x9 (ix3 b t d)

theorem x0_at (i : S4x8192x1024.Idx) : x0 i = xrow x0 (i 0) (i 1) (i 2) := by
  exact congrArg x0 (eq_ix3 i)

theorem x9_at (i : S4x8192x512.Idx) : x9 i = yrow x9 (i 0) (i 1) (i 2) := by
  exact congrArg x9 (eq_ix3 i)

theorem arow_at (i : S4x8192x512.Idx) : val_main_v129 (F := Ideal) x0 x1 x2 x3 x4 x5 x6 x7 x8 i = arow x0 x1 x2 x3 x4 x5 x6 x7 x8 (i 0) (i 1) (i 2) := by
  exact congrArg (val_main_v129 (F := Ideal) x0 x1 x2 x3 x4 x5 x6 x7 x8) (eq_ix3 i)

theorem cat_mix (m x : FVec Ideal S4x8192x512 .f32) (b : Fin 4) (t : Fin 8192) (d : Fin 1024) :
    concatenate S4x8192x1024 2 [⟨S4x8192x512, m⟩, ⟨S4x8192x512, x⟩] concatenates_S4x8192x512_S4x8192x512_S4x8192x1024_d2 (ix3 b t d)
      = if hd : d.val < 512 then m (ix3 b t ⟨d.val, hd⟩) else x (ix3 b t ⟨d.val - 512, by omega⟩) := by
  pointwise

theorem v142_at (i : S4x8192x512.Idx) : val_main_v142 (F := Ideal) x9 i = gelu (yrow x9 (i 0) (i 1) (i 2)) := by
  rw [← x9_at]
  simp (implicitDefEqProofs := false) only [val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_cst_17_apply, val_main_cst_18_apply, val_main_cst_19_apply, val_main_cst_20_apply]
  rfl

theorem v144_at (i : S4x8192x1024.Idx) : val_main_v144 (F := Ideal) x9 x10 i = glin (pwts x10 x11 x12 x13 x14 x15 x16 x17) (yrow x9 (i 0) (i 1)) (i 2) := by
  simp (implicitDefEqProofs := false) only [val_main_v144_apply, val_main_v143_apply, v142_at]
  refine Finset.sum_congr rfl fun k _ => congrArg (_ * ·) (congrArg x10 (funext fun a => Fin.ext ?_))
  match a with
  | ⟨0, _⟩ => rfl
  | ⟨1, _⟩ => have h2 : (i 2).val < 1024 := (i 2).isLt; show (k.val * 1024 + (i 2).val) / 1024 % 512 = k.val; omega
  | ⟨2, _⟩ => have h2 : (i 2).val < 1024 := (i 2).isLt; show (k.val * 1024 + (i 2).val) % 1024 = (i 2).val; omega

theorem v153_at (i : S4x8192x512.Idx) : val_main_v153 (F := Ideal) x9 x10 i = ssm (pwts x10 x11 x12 x13 x14 x15 x16 x17) (yrow x9 (i 0) (i 1)) (i 2) := by
  simp (implicitDefEqProofs := false) only [val_main_v145_apply, val_main_v146_apply, val_main_v147_apply, val_main_v148_apply, val_main_v149_apply, val_main_v150_apply, val_main_v151_apply, val_main_v152_apply, val_main_v153_apply, val_main_cst_21_apply, val_main_cst_22_apply, v144_at x9 x10 x11 x12 x13 x14 x15 x16 x17]
  rfl

theorem v168_at (i : S4x8192x512.Idx) : val_main_v168 (F := Ideal) x0 x1 x2 x3 x4 x5 x6 x7 x8 x11 i = rms (Ideal.ofBits .f32 0x44000000#32) (arow x0 x1 x2 x3 x4 x5 x6 x7 x8 (i 0) (i 1)) (fun i => x11 (ix2 0 ⟨i.val, by omega⟩)) (i 2) := by
  simp (implicitDefEqProofs := false) only [val_main_v154_apply, val_main_v155_apply, val_main_v156_apply, val_main_v157_apply, val_main_v158_apply, val_main_v159_apply, val_main_v160_apply, val_main_v161_apply, val_main_v162_apply, val_main_v163_apply, val_main_v164_apply, val_main_v165_apply, val_main_v166_apply, val_main_v167_apply, val_main_v168_apply, val_main_cst_23_apply, val_main_cst_24_apply, val_main_cst_25_apply, arow_at, Ideal.ofBits_def, Ideal.ofBits_zero_f32, zero_add]
  generalize arow x0 x1 x2 x3 x4 x5 x6 x7 x8 = ar
  refine congrArg (_ * ·) (congrArg x11 (funext fun a => ?_))
  match a with
  | ⟨0, _⟩ => rfl
  | ⟨1, _⟩ => have h2 : (i 2).val < 512 := (i 2).isLt; exact Fin.ext (Nat.mod_eq_of_lt (show (i 2).val < 1024 by omega))

theorem v182_at (i : S4x8192x512.Idx) : val_main_v182 (F := Ideal) x9 x10 x11 i = rms (Ideal.ofBits .f32 0x44000000#32) (ssm (pwts x10 x11 x12 x13 x14 x15 x16 x17) (yrow x9 (i 0) (i 1))) (fun i => x11 (ix2 0 ⟨512 + i.val, by omega⟩)) (i 2) := by
  simp (implicitDefEqProofs := false) only [val_main_v154_apply, val_main_v169_apply, val_main_v170_apply, val_main_v171_apply, val_main_v172_apply, val_main_v173_apply, val_main_v174_apply, val_main_v175_apply, val_main_v176_apply, val_main_v177_apply, val_main_v178_apply, val_main_v179_apply, val_main_v180_apply, val_main_v181_apply, val_main_v182_apply, val_main_cst_26_apply, val_main_cst_27_apply, val_main_cst_28_apply, v153_at x9 x10 x11 x12 x13 x14 x15 x16 x17, Ideal.ofBits_def, Ideal.ofBits_zero_f32, zero_add]
  generalize ssm (pwts x10 x11 x12 x13 x14 x15 x16 x17) = ss
  refine congrArg (_ * ·) (congrArg x11 (funext fun a => ?_))
  match a with
  | ⟨0, _⟩ => rfl
  | ⟨1, _⟩ => have h2 : (i 2).val < 512 := (i 2).isLt; exact Fin.ext (Nat.mod_eq_of_lt (show 512 + (i 2).val < 1024 by omega))

theorem v183_at (i : S4x8192x1024.Idx) : val_main_v183 (F := Ideal) x0 x1 x2 x3 x4 x5 x6 x7 x8 x9 x10 x11 i = mixV (fun d => x11 (ix2 0 d)) (arow x0 x1 x2 x3 x4 x5 x6 x7 x8 (i 0) (i 1)) (ssm (pwts x10 x11 x12 x13 x14 x15 x16 x17) (yrow x9 (i 0) (i 1))) (i 2) := by
  obtain ⟨b, t, d, rfl⟩ : ∃ (b : Fin 4) (t : Fin 8192) (d : Fin 1024), i = ix3 b t d := ⟨i 0, i 1, i 2, eq_ix3 i⟩
  refine (cat_mix _ _ b t d).trans ?_
  simp only [v168_at, v182_at x9 x10 x11 x12 x13 x14 x15 x16 x17]
  rfl

theorem v185_at (i : S4x8192x1024.Idx) : val_main_v185 (F := Ideal) x0 x1 x2 x3 x4 x5 x6 x7 x8 x9 x10 x11 x12 i = outp (pwts x10 x11 x12 x13 x14 x15 x16 x17) (arow x0 x1 x2 x3 x4 x5 x6 x7 x8 (i 0) (i 1)) (yrow x9 (i 0) (i 1)) (i 2) := by
  simp (implicitDefEqProofs := false) only [val_main_v185_apply, val_main_v184_apply, v183_at x0 x1 x2 x3 x4 x5 x6 x7 x8 x9 x10 x11 x12 x13 x14 x15 x16 x17]
  generalize arow x0 x1 x2 x3 x4 x5 x6 x7 x8 = ar
  refine Finset.sum_congr rfl fun k _ => congrArg (_ * ·) (congrArg x12 (funext fun a => Fin.ext ?_))
  match a with
  | ⟨0, _⟩ => rfl
  | ⟨1, _⟩ => have h2 : (i 2).val < 1024 := (i 2).isLt; show (k.val * 1024 + (i 2).val) / 1024 % 1024 = k.val; omega
  | ⟨2, _⟩ => have h2 : (i 2).val < 1024 := (i 2).isLt; show (k.val * 1024 + (i 2).val) % 1024 = (i 2).val; omega

theorem v200_at (i : S4x8192x1024.Idx) : val_main_v200 (F := Ideal) x0 x1 x2 x3 x4 x5 x6 x7 x8 x9 x10 x11 x12 x13 i = hid (pwts x10 x11 x12 x13 x14 x15 x16 x17) (xrow x0 (i 0) (i 1)) (arow x0 x1 x2 x3 x4 x5 x6 x7 x8 (i 0) (i 1)) (yrow x9 (i 0) (i 1)) (i 2) := by
  simp (implicitDefEqProofs := false) only [val_main_v186_apply, val_main_v187_apply, val_main_v188_apply, val_main_v189_apply, val_main_v190_apply, val_main_v191_apply, val_main_v192_apply, val_main_v193_apply, val_main_v194_apply, val_main_v195_apply, val_main_v196_apply, val_main_v197_apply, val_main_v198_apply, val_main_v199_apply, val_main_v200_apply, val_main_cst_29_apply, val_main_cst_30_apply, val_main_cst_31_apply, v185_at x0 x1 x2 x3 x4 x5 x6 x7 x8 x9 x10 x11 x12 x13 x14 x15 x16 x17, Ideal.ofBits_def, Ideal.ofBits_zero_f32, zero_add]
  generalize arow x0 x1 x2 x3 x4 x5 x6 x7 x8 = ar
  unfold hid
  generalize outp (pwts x10 x11 x12 x13 x14 x15 x16 x17) = oo
  rw [x0_at x0 i]
  refine congrArg (_ + ·) <| congrArg (_ * ·) (congrArg x13 (funext fun a => ?_))
  match a with
  | ⟨0, _⟩ => rfl
  | ⟨1, _⟩ => exact Fin.ext (Nat.mod_eq_of_lt (i 2).isLt)

theorem v214_at (i : S4x8192x1024.Idx) : val_main_v214 (F := Ideal) x0 x1 x2 x3 x4 x5 x6 x7 x8 x9 x10 x11 x12 x13 x14 i = nrm (pwts x10 x11 x12 x13 x14 x15 x16 x17) (xrow x0 (i 0) (i 1)) (arow x0 x1 x2 x3 x4 x5 x6 x7 x8 (i 0) (i 1)) (yrow x9 (i 0) (i 1)) (i 2) := by
  simp (implicitDefEqProofs := false) only [val_main_v201_apply, val_main_v202_apply, val_main_v203_apply, val_main_v204_apply, val_main_v205_apply, val_main_v206_apply, val_main_v207_apply, val_main_v208_apply, val_main_v209_apply, val_main_v210_apply, val_main_v211_apply, val_main_v212_apply, val_main_v213_apply, val_main_v214_apply, val_main_cst_32_apply, val_main_cst_33_apply, val_main_cst_34_apply, v200_at x0 x1 x2 x3 x4 x5 x6 x7 x8 x9 x10 x11 x12 x13 x14 x15 x16 x17, Ideal.ofBits_def, Ideal.ofBits_zero_f32, zero_add]
  generalize arow x0 x1 x2 x3 x4 x5 x6 x7 x8 = ar
  unfold nrm
  generalize hid (pwts x10 x11 x12 x13 x14 x15 x16 x17) = hh
  refine congrArg (_ * ·) (congrArg x14 (funext fun a => ?_))
  match a with
  | ⟨0, _⟩ => rfl
  | ⟨1, _⟩ => exact Fin.ext (Nat.mod_eq_of_lt (i 2).isLt)

theorem v216_at (i : S4x8192x4096.Idx) : val_main_v216 (F := Ideal) x0 x1 x2 x3 x4 x5 x6 x7 x8 x9 x10 x11 x12 x13 x14 x15 i = ∑ k, (nrm (pwts x10 x11 x12 x13 x14 x15 x16 x17) (xrow x0 (i 0) (i 1)) (arow x0 x1 x2 x3 x4 x5 x6 x7 x8 (i 0) (i 1)) (yrow x9 (i 0) (i 1))) k * (pwts x10 x11 x12 x13 x14 x15 x16 x17).wup k (i 2) := by
  simp (implicitDefEqProofs := false) only [val_main_v216_apply, val_main_v215_apply, v214_at x0 x1 x2 x3 x4 x5 x6 x7 x8 x9 x10 x11 x12 x13 x14 x15 x16 x17]
  generalize arow x0 x1 x2 x3 x4 x5 x6 x7 x8 = ar
  generalize nrm (pwts x10 x11 x12 x13 x14 x15 x16 x17) = nn
  refine Finset.sum_congr rfl fun k _ => congrArg (_ * ·) (congrArg x15 (funext fun a => Fin.ext ?_))
  match a with
  | ⟨0, _⟩ => rfl
  | ⟨1, _⟩ => have h2 : (i 2).val < 4096 := (i 2).isLt; show (k.val * 4096 + (i 2).val) / 4096 % 1024 = k.val; omega
  | ⟨2, _⟩ => have h2 : (i 2).val < 4096 := (i 2).isLt; show (k.val * 4096 + (i 2).val) % 4096 = (i 2).val; omega

theorem v218_at (i : S4x8192x4096.Idx) : val_main_v218 (F := Ideal) x0 x1 x2 x3 x4 x5 x6 x7 x8 x9 x10 x11 x12 x13 x14 x15 i = act (pwts x10 x11 x12 x13 x14 x15 x16 x17) (nrm (pwts x10 x11 x12 x13 x14 x15 x16 x17) (xrow x0 (i 0) (i 1)) (arow x0 x1 x2 x3 x4 x5 x6 x7 x8 (i 0) (i 1)) (yrow x9 (i 0) (i 1))) (i 2) := by
  simp (implicitDefEqProofs := false) only [val_main_v217_apply, val_main_v218_apply, val_main_call0_v0_apply, val_main_call0_cst_apply, v216_at x0 x1 x2 x3 x4 x5 x6 x7 x8 x9 x10 x11 x12 x13 x14 x15 x16 x17, Ideal.ofBits_def, Ideal.ofBits_zero_f32, zero_add]
  generalize arow x0 x1 x2 x3 x4 x5 x6 x7 x8 = ar
  generalize nrm (pwts x10 x11 x12 x13 x14 x15 x16 x17) = nn
  rfl

theorem v220_at (i : S4x8192x1024.Idx) : val_main_v220 (F := Ideal) x0 x1 x2 x3 x4 x5 x6 x7 x8 x9 x10 x11 x12 x13 x14 x15 x16 i = ffn (pwts x10 x11 x12 x13 x14 x15 x16 x17) (nrm (pwts x10 x11 x12 x13 x14 x15 x16 x17) (xrow x0 (i 0) (i 1)) (arow x0 x1 x2 x3 x4 x5 x6 x7 x8 (i 0) (i 1)) (yrow x9 (i 0) (i 1))) (i 2) := by
  simp (implicitDefEqProofs := false) only [val_main_v220_apply, val_main_v219_apply, v218_at x0 x1 x2 x3 x4 x5 x6 x7 x8 x9 x10 x11 x12 x13 x14 x15 x16 x17]
  generalize arow x0 x1 x2 x3 x4 x5 x6 x7 x8 = ar
  unfold ffn
  generalize act (pwts x10 x11 x12 x13 x14 x15 x16 x17) = aa
  generalize nrm (pwts x10 x11 x12 x13 x14 x15 x16 x17) = nn
  refine Finset.sum_congr rfl fun k _ => congrArg (_ * ·) (congrArg x16 (funext fun a => Fin.ext ?_))
  match a with
  | ⟨0, _⟩ => rfl
  | ⟨1, _⟩ => have h2 : (i 2).val < 1024 := (i 2).isLt; show (k.val * 1024 + (i 2).val) / 1024 % 4096 = k.val; omega
  | ⟨2, _⟩ => have h2 : (i 2).val < 1024 := (i 2).isLt; show (k.val * 1024 + (i 2).val) % 1024 = (i 2).val; omega

/-- The reference's result, at an index. -/
theorem v235_at (i : S4x8192x1024.Idx) : val_main_v235 (F := Ideal) x0 x1 x2 x3 x4 x5 x6 x7 x8 x9 x10 x11 x12 x13 x14 x15 x16 x17 i = post (pwts x10 x11 x12 x13 x14 x15 x16 x17) (xrow x0 (i 0) (i 1)) (arow x0 x1 x2 x3 x4 x5 x6 x7 x8 (i 0) (i 1)) (yrow x9 (i 0) (i 1)) (i 2) := by
  simp (implicitDefEqProofs := false) only [val_main_v221_apply, val_main_v222_apply, val_main_v223_apply, val_main_v224_apply, val_main_v225_apply, val_main_v226_apply, val_main_v227_apply, val_main_v228_apply, val_main_v229_apply, val_main_v230_apply, val_main_v231_apply, val_main_v232_apply, val_main_v233_apply, val_main_v234_apply, val_main_v235_apply, val_main_cst_35_apply, val_main_cst_36_apply, val_main_cst_37_apply, v220_at x0 x1 x2 x3 x4 x5 x6 x7 x8 x9 x10 x11 x12 x13 x14 x15 x16 x17, v200_at x0 x1 x2 x3 x4 x5 x6 x7 x8 x9 x10 x11 x12 x13 x14 x15 x16 x17, Ideal.ofBits_def, Ideal.ofBits_zero_f32, zero_add]
  generalize arow x0 x1 x2 x3 x4 x5 x6 x7 x8 = ar
  unfold Layer.post
  generalize ffn (pwts x10 x11 x12 x13 x14 x15 x16 x17) = ff
  generalize nrm (pwts x10 x11 x12 x13 x14 x15 x16 x17) = nn
  generalize hid (pwts x10 x11 x12 x13 x14 x15 x16 x17) = hh
  refine congrArg (_ + ·) <| congrArg (_ * ·) (congrArg x17 (funext fun a => ?_))
  match a with
  | ⟨0, _⟩ => rfl
  | ⟨1, _⟩ => exact Fin.ext (Nat.mod_eq_of_lt (i 2).isLt)

end Cert.ReferenceIdeal.Value

end
-- ==== Proof.Whole.lean ====
/- The whole layer's result is the reference's. -/
module

public import proofs.«01_k».proof.Proof.Arr3
public import proofs.«01_k».proof.Proof.Final
public import proofs.«01_k».proof.Proof.PostRef

@[expose] public section

set_option maxRecDepth 16384

noncomputable section

namespace Cert.KernelIdeal.Arr

open Idealize.ShloMosaic Idealize.ShloMosaic.TcCoe Idealize.SL.Sem
open Cert.KernelIdeal Cert.KernelIdeal.Gen Cert.Layer Cert.KernelIdeal.Host Cert.KernelIdeal.Attn
variable {A : Valuation τ sig (Elt Ideal)}

theorem kw_eq : Cert.ReferenceIdeal.Value.pwts (r_arg10 A) (r_arg11 A) (r_arg12 A) (r_arg13 A) (r_arg14 A) (r_arg15 A) (r_arg16 A) (r_arg17 A) = kw A := by
  rfl

theorem kx_eq (b : Fin 4) (q : Fin 8192) : Cert.ReferenceIdeal.Value.xrow (r_arg0 A) b q = kx A b q := by
  rfl

theorem ky_eq (b : Fin 4) (q : Fin 8192) : Cert.ReferenceIdeal.Value.yrow (r_arg9 A) b q = ky A b q := by
  rfl

theorem ka_eq (hA : RealA A) (b : Fin 4) (q : Fin 8192) : Cert.ReferenceIdeal.Value.arow (r_arg0 A) (r_arg1 A) (r_arg2 A) (r_arg3 A) (r_arg4 A) (r_arg5 A) (r_arg6 A) (r_arg7 A) (r_arg8 A) b q = ka A b q := by
  funext d
  unfold Cert.ReferenceIdeal.Value.arow ka
  exact (res_eq hA b q d).symm

theorem pst_eq (hA : RealA A) (b : Fin 4) (q : Fin 8192) (e : Fin 1024) : pst A b q e = Layer.post (Cert.ReferenceIdeal.Value.pwts (r_arg10 A) (r_arg11 A) (r_arg12 A) (r_arg13 A) (r_arg14 A) (r_arg15 A) (r_arg16 A) (r_arg17 A)) (Cert.ReferenceIdeal.Value.xrow (r_arg0 A) b q) (Cert.ReferenceIdeal.Value.arow (r_arg0 A) (r_arg1 A) (r_arg2 A) (r_arg3 A) (r_arg4 A) (r_arg5 A) (r_arg6 A) (r_arg7 A) (r_arg8 A) b q) (Cert.ReferenceIdeal.Value.yrow (r_arg9 A) b q) e := by
  rw [ka_eq hA]
  rfl

/-- The layer's result, the kernel's and the reference's. -/
theorem postG_eq (hA : RealA A) : postG A = Cert.ReferenceIdeal.Read.val_main_v235 (F := Ideal) (r_arg0 A) (r_arg1 A) (r_arg2 A) (r_arg3 A) (r_arg4 A) (r_arg5 A) (r_arg6 A) (r_arg7 A) (r_arg8 A) (r_arg9 A) (r_arg10 A) (r_arg11 A) (r_arg12 A) (r_arg13 A) (r_arg14 A) (r_arg15 A) (r_arg16 A) (r_arg17 A) := by
  funext i
  exact (pst_eq hA (i 0) (i 1) (i 2)).trans (Cert.ReferenceIdeal.Value.v235_at (r_arg0 A) (r_arg1 A) (r_arg2 A) (r_arg3 A) (r_arg4 A) (r_arg5 A) (r_arg6 A) (r_arg7 A) (r_arg8 A) (r_arg9 A) (r_arg10 A) (r_arg11 A) (r_arg12 A) (r_arg13 A) (r_arg14 A) (r_arg15 A) (r_arg16 A) (r_arg17 A) i).symm

end Cert.KernelIdeal.Arr

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import Idealize.ShloMosaic.Adequacy
public import Idealize.ShloMosaic.Init
public import Idealize.ShloMosaic.Lib.Quiescent
public import proofs.«01_k».proof.Proof.Run
public import proofs.«01_k».proof.Proof.Whole

@[expose] public section

set_option maxRecDepth 16384

noncomputable section

namespace Cert.Proof

open Idealize.ShloMosaic Idealize.SL.Sem

attribute [local instance] Cert.Kernel.Gen.facts Cert.KernelIdeal.Gen.facts Cert.ReferenceIdeal.Gen.facts Cert.Pre_finite.Gen.facts

/-- The reference ends with its arguments unchanged and every counter at zero. -/
theorem frame_refIdeal : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

/-- The named constant is the word that stands for it, and its value over the reals is 1/√96 · 1/log 2. -/
theorem preserves_kernel : Cert.preserves_Kernel_KernelIdeal :=
  IdealRules.named_const.statement Cert.KernelIdeal.κ "scale_log2e" .f32 0x3E16C740#32 (((Real.sqrt 96)⁻¹ * (Real.log 2)⁻¹ : ℝ) : EReal) rfl

theorem congr18 {α0 α1 α2 α3 α4 α5 α6 α7 α8 α9 α10 α11 α12 α13 α14 α15 α16 α17 β : Type} (f : α0 → α1 → α2 → α3 → α4 → α5 → α6 → α7 → α8 → α9 → α10 → α11 → α12 → α13 → α14 → α15 → α16 → α17 → β)
    {a0 b0 : α0} {a1 b1 : α1} {a2 b2 : α2} {a3 b3 : α3} {a4 b4 : α4} {a5 b5 : α5} {a6 b6 : α6} {a7 b7 : α7} {a8 b8 : α8} {a9 b9 : α9} {a10 b10 : α10} {a11 b11 : α11} {a12 b12 : α12} {a13 b13 : α13} {a14 b14 : α14} {a15 b15 : α15} {a16 b16 : α16} {a17 b17 : α17}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) :
    f a0 a1 a2 a3 a4 a5 a6 a7 a8 a9 a10 a11 a12 a13 a14 a15 a16 a17 = f b0 b1 b2 b3 b4 b5 b6 b7 b8 b9 b10 b11 b12 b13 b14 b15 b16 b17 := by
  subst h0 h1 h2 h3 h4 h5 h6 h7 h8 h9 h10 h11 h12 h13 h14 h15 h16 h17
  rfl

/-- Kernel and reference leave the same array. -/
theorem algebraic : Cert.algebraic_KernelIdeal_ReferenceIdeal_pre_finite := by
  intro m ρ m' ρ' hpre hagree
  refine ⟨fun c => Cert.KernelIdeal.Arr.postG (Cert.KernelIdeal.Gen.W0 m ρ c), (θ_run _ _ _).mono (fun _ h => h.1) (Cert.KernelIdeal.Arr.run m ρ), ?_⟩
  refine (θ_run _ _ _).mono (fun _ h c => ⟨(h c).1.trans ?_, (h c).2⟩) (Cert.ReferenceIdeal.Value.run (F := Ideal) m' ρ')
  obtain ⟨h0, h1, h2, h3, h4, h5, h6, h7, h8, h9, h10, h11, h12, h13, h14, h15, h16, h17⟩ := hagree c
  refine (Cert.ReferenceIdeal.Read.val_main_v235_eq (F := Ideal) (StableHlo.launchContents m' c)).trans ?_
  have hf := hpre c
  have hR := Cert.Pre_finite.reals_of (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) hf
  have hA : Cert.KernelIdeal.Arr.RealA (Cert.KernelIdeal.Gen.W0 m ρ c) := Cert.KernelIdeal.Arr.real_of hR
  refine Eq.trans ?_ (Cert.KernelIdeal.Arr.postG_eq hA).symm
  exact congr18 (Cert.ReferenceIdeal.Read.val_main_v235 (F := Ideal)) h0 h1 h2 h3 h4 h5 h6 h7 h8 h9 h10 h11 h12 h13 h14 h15 h16 h17

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_refIdeal, fun m ρ _ => frame_refIdeal m ρ trivial, preserves_kernel, algebraic⟩

end Cert.Proof

end
